-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tables [hPre_finite_tables : Cert.Pre_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tables [hPre_finite_tables : Cert.Pre_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_tables [hKernelIdeal : Cert.KernelIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_tables [hReferenceIdeal : Cert.ReferenceIdeal.Facts] [hPre_finite_tables : Cert.Pre_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_tables [hKernelIdeal : Cert.KernelIdeal.Facts] [hReferenceIdeal : Cert.ReferenceIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_tables : Cert.Pre_finite_tables.Facts),
    quiescent_Kernel (hKernel := hKernel)
    ∧ quiescent_KernelIdeal (hKernelIdeal := hKernelIdeal)
    ∧ quiescent_KernelIdeal_pre_finite_tables (hKernelIdeal := hKernelIdeal) (hPre_finite_tables := hPre_finite_tables)
    ∧ quiescent_ReferenceIdeal (hReferenceIdeal := hReferenceIdeal)
    ∧ quiescent_ReferenceIdeal_pre_finite_tables (hReferenceIdeal := hReferenceIdeal) (hPre_finite_tables := hPre_finite_tables)
    ∧ preserves_Kernel_KernelIdeal
    ∧ algebraic_KernelIdeal_ReferenceIdeal_pre_finite_tables (hKernelIdeal := hKernelIdeal) (hReferenceIdeal := hReferenceIdeal) (hPre_finite_tables := hPre_finite_tables)
-- ==== Pre_finite_tables.lean ====
abbrev S1024x1024x3 : Shape := ⟨3, ![1024, 1024, 3]⟩
abbrev S3 : Shape := ⟨1, ![3]⟩
abbrev S16x524288x2 : Shape := ⟨3, ![16, 524288, 2]⟩
abbrev S32x32 : Shape := ⟨2, ![32, 32]⟩
abbrev S32x9 : Shape := ⟨2, ![32, 9]⟩
abbrev S9 : Shape := ⟨1, ![9]⟩
abbrev S_ : Shape := ⟨0, ![]⟩

class Facts : Prop where
  bcast_S_S16x524288x2 : S_.BroadcastsInDim S16x524288x2 (![] : Fin 0 → Fin S16x524288x2.rank)
  reducesTo_S16x524288x2_S_d0_1_2 : S16x524288x2.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S1024x1024x3 .f32) (main_arg1 : FVec F S3 .f32) (main_arg2 : FVec F S3 .f32) (main_arg3 : FVec F S16x524288x2 .f32) (main_arg4 : FVec F S32x32 .f32) (main_arg5 : FVec F S32x32 .f32) (main_arg6 : FVec F S32x9 .f32) (main_arg7 : FVec F S9 .f32) (main_arg8 : FVec F S9 .f32) : IVec S_ 1 :=
  let main_v0 : FVec F S16x524288x2 .f32 := Host.absf main_arg3
  let main_cst : FVec F S_ .f32 := constant S_ .f32 0x7F800000#32
  let main_v1 : FVec F S16x524288x2 .f32 := broadcastInDim S16x524288x2 ![] bcast_S_S16x524288x2 main_cst
  let main_v2 : IVec S16x524288x2 1 := cmpf .olt main_v0 main_v1
  let main_c : IVec S_ 1 := constantI S_ 1 1#1
  let main_v3 : IVec S_ 1 := (fun x v => Host.reduce IntOp.andi x v reducesTo_S16x524288x2_S_d0_1_2 h_S_) main_v2 main_c
  let main_v4 : FVec F S32x32 .f32 := Host.absf main_arg4
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  main_v8
-- ==== Kernel.lean ====
abbrev S1024x1024x3 : Shape := ⟨3, ![1024, 1024, 3]⟩
abbrev S3 : Shape := ⟨1, ![3]⟩
abbrev S16x524288x2 : Shape := ⟨3, ![16, 524288, 2]⟩
abbrev S32x32 : Shape := ⟨2, ![32, 32]⟩
abbrev S32x9 : Shape := ⟨2, ![32, 9]⟩
abbrev S9 : Shape := ⟨1, ![9]⟩
abbrev S1048576x3 : Shape := ⟨2, ![1048576, 3]⟩
abbrev S1048576x1 : Shape := ⟨2, ![1048576, 1]⟩
abbrev S1048576 : Shape := ⟨1, ![1048576]⟩
abbrev S2048x4x128 : Shape := ⟨3, ![2048, 4, 128]⟩
abbrev S_ : Shape := ⟨0, ![]⟩
abbrev S4 : Shape := ⟨1, ![4]⟩
abbrev S1x4 : Shape := ⟨2, ![1, 4]⟩
abbrev S2x4 : Shape := ⟨2, ![2, 4]⟩
abbrev S1x9 : Shape := ⟨2, ![1, 9]⟩
abbrev S2x32 : Shape := ⟨2, ![2, 32]⟩
abbrev S1x2x1x32 : Shape := ⟨4, ![1, 2, 1, 32]⟩
abbrev S64x2x1x32 : Shape := ⟨4, ![64, 2, 1, 32]⟩
abbrev S128x32 : Shape := ⟨2, ![128, 32]⟩
abbrev S2048x32 : Shape := ⟨2, ![2048, 32]⟩
abbrev S1x4096x2 : Shape := ⟨3, ![1, 4096, 2]⟩
abbrev S4096x2 : Shape := ⟨2, ![4096, 2]⟩
abbrev S8192 : Shape := ⟨1, ![8192]⟩
abbrev S64x1x128 : Shape := ⟨3, ![64, 1, 128]⟩
abbrev S1x13824x2 : Shape := ⟨3, ![1, 13824, 2]⟩
abbrev S13824x2 : Shape := ⟨2, ![13824, 2]⟩
abbrev S27648 : Shape := ⟨1, ![27648]⟩
abbrev S216x1x128 : Shape := ⟨3, ![216, 1, 128]⟩
abbrev S1x39304x2 : Shape := ⟨3, ![1, 39304, 2]⟩
abbrev S39304x2 : Shape := ⟨2, ![39304, 2]⟩
abbrev S78608 : Shape := ⟨1, ![78608]⟩
abbrev S112 : Shape := ⟨1, ![112]⟩
abbrev S78720 : Shape := ⟨1, ![78720]⟩
abbrev S615x1x128 : Shape := ⟨3, ![615, 1, 128]⟩
abbrev S1x117649x2 : Shape := ⟨3, ![1, 117649, 2]⟩
abbrev S117649x2 : Shape := ⟨2, ![117649, 2]⟩
abbrev S235298 : Shape := ⟨1, ![235298]⟩
abbrev S94 : Shape := ⟨1, ![94]⟩
abbrev S235392 : Shape := ⟨1, ![235392]⟩
abbrev S1839x1x128 : Shape := ⟨3, ![1839, 1, 128]⟩
abbrev S1x357911x2 : Shape := ⟨3, ![1, 357911, 2]⟩
abbrev S357911x2 : Shape := ⟨2, ![357911, 2]⟩
abbrev S715822 : Shape := ⟨1, ![715822]⟩
abbrev S82 : Shape := ⟨1, ![82]⟩
abbrev S715904 : Shape := ⟨1, ![715904]⟩
abbrev S5593x1x128 : Shape := ⟨3, ![5593, 1, 128]⟩
abbrev S1x524288x2 : Shape := ⟨3, ![1, 524288, 2]⟩
abbrev S524288x2 : Shape := ⟨2, ![524288, 2]⟩
abbrev S8192x1x128 : Shape := ⟨3, ![8192, 1, 128]⟩
abbrev S1048576x9 : Shape := ⟨2, ![1048576, 9]⟩
abbrev S1x4x128 : Shape := ⟨3, ![1, 4, 128]⟩
abbrev S512x9 : Shape := ⟨2, ![512, 9]⟩
abbrev S16x8x4x128 : Shape := ⟨4, ![16, 8, 4, 128]⟩
abbrev S8192x128 : Shape := ⟨2, ![8192, 128]⟩
abbrev S4x128 : Shape := ⟨2, ![4, 128]⟩
abbrev S1x1 : Shape := ⟨2, ![1, 1]⟩
abbrev S1x1x4x128 : Shape := ⟨4, ![1, 1, 4, 128]⟩
abbrev S1x128 : Shape := ⟨2, ![1, 128]⟩
abbrev S1x1x1x1 : Shape := ⟨4, ![1, 1, 1, 1]⟩
abbrev S1x1x128 : Shape := ⟨3, ![1, 1, 128]⟩
abbrev S512x32 : Shape := ⟨2, ![512, 32]⟩
abbrev S512x128 : Shape := ⟨2, ![512, 128]⟩
abbrev S1024x1024x9 : Shape := ⟨3, ![1024, 1024, 9]⟩

abbrev nBuf : Space → Nat
  | .hbm => 175
  | .vmem => 32
  | .smem => 3
  | _ => 0

abbrev hbmTy0_0 (i : Nat) : BufTy := match i % 128 with
  | 0 => ⟨S1024x1024x3, .f32⟩
  | 1 => ⟨S3, .f32⟩
  | 2 => ⟨S3, .f32⟩
  | 3 => ⟨S16x524288x2, .f32⟩
  | 4 => ⟨S32x32, .f32⟩
  | 5 => ⟨S32x32, .f32⟩
  | 6 => ⟨S32x9, .f32⟩
  | 7 => ⟨S9, .f32⟩
  | 8 => ⟨S9, .f32⟩
  | 9 => ⟨S1048576x3, .f32⟩
  | 10 => ⟨S1048576x1, .f32⟩
  | 11 => ⟨S1048576, .f32⟩
  | 12 => ⟨S2048x4x128, .f32⟩
  | 13 => ⟨S1048576x1, .f32⟩
  | 14 => ⟨S1048576, .f32⟩
  | 15 => ⟨S2048x4x128, .f32⟩
  | 16 => ⟨S1048576x1, .f32⟩
  | 17 => ⟨S1048576, .f32⟩
  | 18 => ⟨S2048x4x128, .f32⟩
  | 19 => ⟨S_, .i32⟩
  | 20 => ⟨S_, .f32⟩
  | 21 => ⟨S4, .f32⟩
  | 22 => ⟨S3, .f32⟩
  | 23 => ⟨S_, .f32⟩
  | 24 => ⟨S3, .f32⟩
  | 25 => ⟨S3, .f32⟩
  | 26 => ⟨S_, .i32⟩
  | 27 => ⟨S_, .f32⟩
  | 28 => ⟨S4, .f32⟩
  | 29 => ⟨S1x4, .f32⟩
  | 30 => ⟨S1x4, .f32⟩
  | 31 => ⟨S2x4, .f32⟩
  | 32 => ⟨S9, .f32⟩
  | 33 => ⟨S1x9, .f32⟩
  | 34 => ⟨S1x9, .f32⟩
  | 35 => ⟨S2x32, .f32⟩
  | 36 => ⟨S1x2x1x32, .f32⟩
  | 37 => ⟨S64x2x1x32, .f32⟩
  | 38 => ⟨S128x32, .f32⟩
  | 39 => ⟨S2x32, .f32⟩
  | 40 => ⟨S1x2x1x32, .f32⟩
  | 41 => ⟨S64x2x1x32, .f32⟩
  | 42 => ⟨S128x32, .f32⟩
  | 43 => ⟨S2x32, .f32⟩
  | 44 => ⟨S1x2x1x32, .f32⟩
  | 45 => ⟨S64x2x1x32, .f32⟩
  | 46 => ⟨S128x32, .f32⟩
  | 47 => ⟨S2x32, .f32⟩
  | 48 => ⟨S1x2x1x32, .f32⟩
  | 49 => ⟨S64x2x1x32, .f32⟩
  | 50 => ⟨S128x32, .f32⟩
  | 51 => ⟨S2x32, .f32⟩
  | 52 => ⟨S1x2x1x32, .f32⟩
  | 53 => ⟨S64x2x1x32, .f32⟩
  | 54 => ⟨S128x32, .f32⟩
  | 55 => ⟨S2x32, .f32⟩
  | 56 => ⟨S1x2x1x32, .f32⟩
  | 57 => ⟨S64x2x1x32, .f32⟩
  | 58 => ⟨S128x32, .f32⟩
  | 59 => ⟨S2x32, .f32⟩
  | 60 => ⟨S1x2x1x32, .f32⟩
  | 61 => ⟨S64x2x1x32, .f32⟩
  | 62 => ⟨S128x32, .f32⟩
  | 63 => ⟨S2x32, .f32⟩
  | 64 => ⟨S1x2x1x32, .f32⟩
  | 65 => ⟨S64x2x1x32, .f32⟩
  | 66 => ⟨S128x32, .f32⟩
  | 67 => ⟨S2x32, .f32⟩
  | 68 => ⟨S1x2x1x32, .f32⟩
  | 69 => ⟨S64x2x1x32, .f32⟩
  | 70 => ⟨S128x32, .f32⟩
  | 71 => ⟨S2x32, .f32⟩
  | 72 => ⟨S1x2x1x32, .f32⟩
  | 73 => ⟨S64x2x1x32, .f32⟩
  | 74 => ⟨S128x32, .f32⟩
  | 75 => ⟨S2x32, .f32⟩
  | 76 => ⟨S1x2x1x32, .f32⟩
  | 77 => ⟨S64x2x1x32, .f32⟩
  | 78 => ⟨S128x32, .f32⟩
  | 79 => ⟨S2x32, .f32⟩
  | 80 => ⟨S1x2x1x32, .f32⟩
  | 81 => ⟨S64x2x1x32, .f32⟩
  | 82 => ⟨S128x32, .f32⟩
  | 83 => ⟨S2x32, .f32⟩
  | 84 => ⟨S1x2x1x32, .f32⟩
  | 85 => ⟨S64x2x1x32, .f32⟩
  | 86 => ⟨S128x32, .f32⟩
  | 87 => ⟨S2x32, .f32⟩
  | 88 => ⟨S1x2x1x32, .f32⟩
  | 89 => ⟨S64x2x1x32, .f32⟩
  | 90 => ⟨S128x32, .f32⟩
  | 91 => ⟨S2x32, .f32⟩
  | 92 => ⟨S1x2x1x32, .f32⟩
  | 93 => ⟨S64x2x1x32, .f32⟩
  | 94 => ⟨S128x32, .f32⟩
  | 95 => ⟨S2x32, .f32⟩
  | 96 => ⟨S1x2x1x32, .f32⟩
  | 97 => ⟨S64x2x1x32, .f32⟩
  | 98 => ⟨S128x32, .f32⟩
  | 99 => ⟨S2048x32, .f32⟩
  | 100 => ⟨S1x4096x2, .f32⟩
  | 101 => ⟨S4096x2, .f32⟩
  | 102 => ⟨S8192, .f32⟩
  | 103 => ⟨S64x1x128, .f32⟩
  | 104 => ⟨S1x13824x2, .f32⟩
  | 105 => ⟨S13824x2, .f32⟩
  | 106 => ⟨S27648, .f32⟩
  | 107 => ⟨S216x1x128, .f32⟩
  | 108 => ⟨S1x39304x2, .f32⟩
  | 109 => ⟨S39304x2, .f32⟩
  | 110 => ⟨S78608, .f32⟩
  | 111 => ⟨S_, .f32⟩
  | 112 => ⟨S112, .f32⟩
  | 113 => ⟨S78720, .f32⟩
  | 114 => ⟨S615x1x128, .f32⟩
  | 115 => ⟨S1x117649x2, .f32⟩
  | 116 => ⟨S117649x2, .f32⟩
  | 117 => ⟨S235298, .f32⟩
  | 118 => ⟨S_, .f32⟩
  | 119 => ⟨S94, .f32⟩
  | 120 => ⟨S235392, .f32⟩
  | 121 => ⟨S1839x1x128, .f32⟩
  | 122 => ⟨S1x357911x2, .f32⟩
  | 123 => ⟨S357911x2, .f32⟩
  | 124 => ⟨S715822, .f32⟩
  | 125 => ⟨S_, .f32⟩
  | 126 => ⟨S82, .f32⟩
  | 127 => ⟨S715904, .f32⟩
  | _ => ⟨S1024x1024x3, .f32⟩

abbrev hbmTy0_1 (i : Nat) : BufTy := match i % 128 with
  | 0 => ⟨S5593x1x128, .f32⟩
  | 1 => ⟨S1x524288x2, .f32⟩
  | 2 => ⟨S524288x2, .f32⟩
  | 3 => ⟨S1048576, .f32⟩
  | 4 => ⟨S8192x1x128, .f32⟩
  | 5 => ⟨S1x524288x2, .f32⟩
  | 6 => ⟨S524288x2, .f32⟩
  | 7 => ⟨S1048576, .f32⟩
  | 8 => ⟨S8192x1x128, .f32⟩
  | 9 => ⟨S1x524288x2, .f32⟩
  | 10 => ⟨S524288x2, .f32⟩
  | 11 => ⟨S1048576, .f32⟩
  | 12 => ⟨S8192x1x128, .f32⟩
  | 13 => ⟨S1x524288x2, .f32⟩
  | 14 => ⟨S524288x2, .f32⟩
  | 15 => ⟨S1048576, .f32⟩
  | 16 => ⟨S8192x1x128, .f32⟩
  | 17 => ⟨S1x524288x2, .f32⟩
  | 18 => ⟨S524288x2, .f32⟩
  | 19 => ⟨S1048576, .f32⟩
  | 20 => ⟨S8192x1x128, .f32⟩
  | 21 => ⟨S1x524288x2, .f32⟩
  | 22 => ⟨S524288x2, .f32⟩
  | 23 => ⟨S1048576, .f32⟩
  | 24 => ⟨S8192x1x128, .f32⟩
  | 25 => ⟨S1x524288x2, .f32⟩
  | 26 => ⟨S524288x2, .f32⟩
  | 27 => ⟨S1048576, .f32⟩
  | 28 => ⟨S8192x1x128, .f32⟩
  | 29 => ⟨S1x524288x2, .f32⟩
  | 30 => ⟨S524288x2, .f32⟩
  | 31 => ⟨S1048576, .f32⟩
  | 32 => ⟨S8192x1x128, .f32⟩
  | 33 => ⟨S1x524288x2, .f32⟩
  | 34 => ⟨S524288x2, .f32⟩
  | 35 => ⟨S1048576, .f32⟩
  | 36 => ⟨S8192x1x128, .f32⟩
  | 37 => ⟨S1x524288x2, .f32⟩
  | 38 => ⟨S524288x2, .f32⟩
  | 39 => ⟨S1048576, .f32⟩
  | 40 => ⟨S8192x1x128, .f32⟩
  | 41 => ⟨S1x524288x2, .f32⟩
  | 42 => ⟨S524288x2, .f32⟩
  | 43 => ⟨S1048576, .f32⟩
  | 44 => ⟨S8192x1x128, .f32⟩
  | 45 => ⟨S1048576x9, .f32⟩
  | 46 => ⟨S1024x1024x9, .f32⟩
  | _ => ⟨S1024x1024x3, .f32⟩

abbrev hbmTy (i : Nat) : BufTy := match i / 128 with
  | 0 => hbmTy0_0 i
  | 1 => hbmTy0_1 i
  | _ => ⟨S1024x1024x3, .f32⟩

abbrev bufTy : (tb : Table) → Fin (tcTables nBuf tb) → BufTy
  | .hbm, ⟨i, _⟩ => hbmTy i
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x9, .f32⟩
  | .local _ .vmem, ⟨7, _⟩ => ⟨S1x9, .f32⟩
  | .local _ .vmem, ⟨8, _⟩ => ⟨S2048x32, .f32⟩
  | .local _ .vmem, ⟨9, _⟩ => ⟨S32x32, .f32⟩
  | .local _ .vmem, ⟨10, _⟩ => ⟨S32x9, .f32⟩
  | .local _ .vmem, ⟨11, _⟩ => ⟨S64x1x128, .f32⟩
  | .local _ .vmem, ⟨12, _⟩ => ⟨S216x1x128, .f32⟩
  | .local _ .vmem, ⟨13, _⟩ => ⟨S615x1x128, .f32⟩
  | .local _ .vmem, ⟨14, _⟩ => ⟨S1839x1x128, .f32⟩
  | .local _ .vmem, ⟨15, _⟩ => ⟨S5593x1x128, .f32⟩
  | .local _ .vmem, ⟨16, _⟩ => ⟨S8192x1x128, .f32⟩
  | .local _ .vmem, ⟨17, _⟩ => ⟨S8192x1x128, .f32⟩
  | .local _ .vmem, ⟨18, _⟩ => ⟨S8192x1x128, .f32⟩
  | .local _ .vmem, ⟨19, _⟩ => ⟨S8192x1x128, .f32⟩
  | .local _ .vmem, ⟨20, _⟩ => ⟨S8192x1x128, .f32⟩
  | .local _ .vmem, ⟨21, _⟩ => ⟨S8192x1x128, .f32⟩
  | .local _ .vmem, ⟨22, _⟩ => ⟨S8192x1x128, .f32⟩
  | .local _ .vmem, ⟨23, _⟩ => ⟨S8192x1x128, .f32⟩
  | .local _ .vmem, ⟨24, _⟩ => ⟨S8192x1x128, .f32⟩
  | .local _ .vmem, ⟨25, _⟩ => ⟨S8192x1x128, .f32⟩
  | .local _ .vmem, ⟨26, _⟩ => ⟨S8192x1x128, .f32⟩
  | .local _ .vmem, ⟨27, _⟩ => ⟨S512x9, .f32⟩
  | .local _ .vmem, ⟨28, _⟩ => ⟨S512x9, .f32⟩
  | .local _ .vmem, ⟨29, _⟩ => ⟨S16x8x4x128, .i32⟩
  | .local _ .vmem, ⟨30, _⟩ => ⟨S16x8x4x128, .f32⟩
  | .local _ .vmem, ⟨31, _⟩ => ⟨S8192x128, .f32⟩
  | .local _ .smem, ⟨0, _⟩ => ⟨S2x4, .f32⟩
  | .local _ .smem, ⟨1, _⟩ => ⟨S16x8x4x128, .i32⟩
  | .local _ .smem, ⟨2, _⟩ => ⟨S16x8x4x128, .f32⟩
  | _, _ => ⟨S1024x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_1 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_cst_2 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_3 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg25_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_stg3_0 : Ref sig .tc := ⟨.smem, 0, rfl⟩
abbrev cc0_scratch3 : Ref sig .tc := ⟨.smem, 1, rfl⟩
abbrev cc0_scratch4 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29

abbrev nD : Nat := 1
abbrev τ : Topo := Topo.v7x

variable {F : FTy → Type} [FloatOps F]

abbrev grid0 : Pipeline.Grid := ⟨1, ![2048], ![false]⟩

@[reducible] def k0_t1_loop : Scf.Loop 32 :=
  let c0_i32_2982 : BitVec 32 := 0#32
  let c512_i32 : BitVec 32 := 512#32
  let v5543 : BitVec 32 := Scalar.addi c0_i32_2982 c512_i32
  let c1_i32_2983 : BitVec 32 := 1#32
  ⟨c0_i32_2982, v5543, c1_i32_2983⟩
def k0_off1 (k0_t1 : Fin k0_t1_loop.trips) : Fin 4 → Nat :=
  let c0_3053 : Index := 0#32
  let c0_3054 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5645 : Index := Scalar.indexCast v5643
  let c127_i32 : BitVec 32 := 127#32
  let v5644 : BitVec 32 := Scalar.andi arg34 c127_i32
  let v5646 : Index := Scalar.indexCast v5644
  ![0, 0, v5645.toNat, v5646.toNat]
def k0_off2 (v5647 : BitVec 32) : Fin 3 → Nat :=
  let c16383_i32 : BitVec 32 := 16383#32
  let v5651 : BitVec 32 := Scalar.andi v5647 c16383_i32
  let v5652 : Index := Scalar.indexCast v5651
  let c0_3057 : Index := 0#32
  let c0_3058 : Index := 0#32
  ![v5652.toNat, 0, 0]

def k0_chk1 (v5647 : BitVec 32) : Prop :=
  (∀ a, (k0_off2 v5647) a + S1x1x128.size a ≤ S64x1x128.size a)
theorem k0_off2_inb : ∀ (v5647 : BitVec 32) (k0_hw1 : k0_chk1 v5647), ∀ a, (k0_off2 v5647) a + S1x1x128.size a ≤ S64x1x128.size a := fun v5647 k0_hw1 => k0_hw1

def k0_off3 (k0_t1 : Fin k0_t1_loop.trips) : Fin 4 → Nat :=
  let c0_3060 : Index := 0#32
  let c1_3061 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5662 : Index := Scalar.indexCast v5643
  let c127_i32 : BitVec 32 := 127#32
  let v5644 : BitVec 32 := Scalar.andi arg34 c127_i32
  let v5663 : Index := Scalar.indexCast v5644
  ![0, 1, v5662.toNat, v5663.toNat]
def k0_off4 (v5664 : BitVec 32) : Fin 3 → Nat :=
  let c16383_i32_3064 : BitVec 32 := 16383#32
  let v5668 : BitVec 32 := Scalar.andi v5664 c16383_i32_3064
  let v5669 : Index := Scalar.indexCast v5668
  let c0_3065 : Index := 0#32
  let c0_3066 : Index := 0#32
  ![v5669.toNat, 0, 0]

def k0_chk2 (v5664 : BitVec 32) : Prop :=
  (∀ a, (k0_off4 v5664) a + S1x1x128.size a ≤ S64x1x128.size a)
theorem k0_off4_inb : ∀ (v5664 : BitVec 32) (k0_hw2 : k0_chk2 v5664), ∀ a, (k0_off4 v5664) a + S1x1x128.size a ≤ S64x1x128.size a := fun v5664 k0_hw2 => k0_hw2

def k0_off5 (k0_t1 : Fin k0_t1_loop.trips) : Fin 4 → Nat :=
  let c0_3069 : Index := 0#32
  let c2_3070 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5679 : Index := Scalar.indexCast v5643
  let c127_i32 : BitVec 32 := 127#32
  let v5644 : BitVec 32 := Scalar.andi arg34 c127_i32
  let v5680 : Index := Scalar.indexCast v5644
  ![0, 2, v5679.toNat, v5680.toNat]
def k0_off6 (v5681 : BitVec 32) : Fin 3 → Nat :=
  let c16383_i32_3073 : BitVec 32 := 16383#32
  let v5685 : BitVec 32 := Scalar.andi v5681 c16383_i32_3073
  let v5686 : Index := Scalar.indexCast v5685
  let c0_3074 : Index := 0#32
  let c0_3075 : Index := 0#32
  ![v5686.toNat, 0, 0]

def k0_chk3 (v5681 : BitVec 32) : Prop :=
  (∀ a, (k0_off6 v5681) a + S1x1x128.size a ≤ S64x1x128.size a)
theorem k0_off6_inb : ∀ (v5681 : BitVec 32) (k0_hw3 : k0_chk3 v5681), ∀ a, (k0_off6 v5681) a + S1x1x128.size a ≤ S64x1x128.size a := fun v5681 k0_hw3 => k0_hw3

def k0_off7 (k0_t1 : Fin k0_t1_loop.trips) : Fin 4 → Nat :=
  let c0_3078 : Index := 0#32
  let c3_3079 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5696 : Index := Scalar.indexCast v5643
  let c127_i32 : BitVec 32 := 127#32
  let v5644 : BitVec 32 := Scalar.andi arg34 c127_i32
  let v5697 : Index := Scalar.indexCast v5644
  ![0, 3, v5696.toNat, v5697.toNat]
def k0_off8 (v5698 : BitVec 32) : Fin 3 → Nat :=
  let c16383_i32_3082 : BitVec 32 := 16383#32
  let v5702 : BitVec 32 := Scalar.andi v5698 c16383_i32_3082
  let v5703 : Index := Scalar.indexCast v5702
  let c0_3083 : Index := 0#32
  let c0_3084 : Index := 0#32
  ![v5703.toNat, 0, 0]

def k0_chk4 (v5698 : BitVec 32) : Prop :=
  (∀ a, (k0_off8 v5698) a + S1x1x128.size a ≤ S64x1x128.size a)
theorem k0_off8_inb : ∀ (v5698 : BitVec 32) (k0_hw4 : k0_chk4 v5698), ∀ a, (k0_off8 v5698) a + S1x1x128.size a ≤ S64x1x128.size a := fun v5698 k0_hw4 => k0_hw4

def k0_off9 (k0_t1 : Fin k0_t1_loop.trips) : Fin 4 → Nat :=
  let c0_3087 : Index := 0#32
  let c4_3088 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5713 : Index := Scalar.indexCast v5643
  let c127_i32 : BitVec 32 := 127#32
  let v5644 : BitVec 32 := Scalar.andi arg34 c127_i32
  let v5714 : Index := Scalar.indexCast v5644
  ![0, 4, v5713.toNat, v5714.toNat]
def k0_off10 (v5715 : BitVec 32) : Fin 3 → Nat :=
  let c16383_i32_3091 : BitVec 32 := 16383#32
  let v5719 : BitVec 32 := Scalar.andi v5715 c16383_i32_3091
  let v5720 : Index := Scalar.indexCast v5719
  let c0_3092 : Index := 0#32
  let c0_3093 : Index := 0#32
  ![v5720.toNat, 0, 0]

def k0_chk5 (v5715 : BitVec 32) : Prop :=
  (∀ a, (k0_off10 v5715) a + S1x1x128.size a ≤ S64x1x128.size a)
theorem k0_off10_inb : ∀ (v5715 : BitVec 32) (k0_hw5 : k0_chk5 v5715), ∀ a, (k0_off10 v5715) a + S1x1x128.size a ≤ S64x1x128.size a := fun v5715 k0_hw5 => k0_hw5

def k0_off11 (k0_t1 : Fin k0_t1_loop.trips) : Fin 4 → Nat :=
  let c0_3096 : Index := 0#32
  let c5_3097 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5730 : Index := Scalar.indexCast v5643
  let c127_i32 : BitVec 32 := 127#32
  let v5644 : BitVec 32 := Scalar.andi arg34 c127_i32
  let v5731 : Index := Scalar.indexCast v5644
  ![0, 5, v5730.toNat, v5731.toNat]
def k0_off12 (v5732 : BitVec 32) : Fin 3 → Nat :=
  let c16383_i32_3100 : BitVec 32 := 16383#32
  let v5736 : BitVec 32 := Scalar.andi v5732 c16383_i32_3100
  let v5737 : Index := Scalar.indexCast v5736
  let c0_3101 : Index := 0#32
  let c0_3102 : Index := 0#32
  ![v5737.toNat, 0, 0]

def k0_chk6 (v5732 : BitVec 32) : Prop :=
  (∀ a, (k0_off12 v5732) a + S1x1x128.size a ≤ S64x1x128.size a)
theorem k0_off12_inb : ∀ (v5732 : BitVec 32) (k0_hw6 : k0_chk6 v5732), ∀ a, (k0_off12 v5732) a + S1x1x128.size a ≤ S64x1x128.size a := fun v5732 k0_hw6 => k0_hw6

def k0_off13 (k0_t1 : Fin k0_t1_loop.trips) : Fin 4 → Nat :=
  let c0_3105 : Index := 0#32
  let c6_3106 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5747 : Index := Scalar.indexCast v5643
  let c127_i32 : BitVec 32 := 127#32
  let v5644 : BitVec 32 := Scalar.andi arg34 c127_i32
  let v5748 : Index := Scalar.indexCast v5644
  ![0, 6, v5747.toNat, v5748.toNat]
def k0_off14 (v5749 : BitVec 32) : Fin 3 → Nat :=
  let c16383_i32_3109 : BitVec 32 := 16383#32
  let v5753 : BitVec 32 := Scalar.andi v5749 c16383_i32_3109
  let v5754 : Index := Scalar.indexCast v5753
  let c0_3110 : Index := 0#32
  let c0_3111 : Index := 0#32
  ![v5754.toNat, 0, 0]

def k0_chk7 (v5749 : BitVec 32) : Prop :=
  (∀ a, (k0_off14 v5749) a + S1x1x128.size a ≤ S64x1x128.size a)
theorem k0_off14_inb : ∀ (v5749 : BitVec 32) (k0_hw7 : k0_chk7 v5749), ∀ a, (k0_off14 v5749) a + S1x1x128.size a ≤ S64x1x128.size a := fun v5749 k0_hw7 => k0_hw7

def k0_off15 (k0_t1 : Fin k0_t1_loop.trips) : Fin 4 → Nat :=
  let c0_3114 : Index := 0#32
  let c7_3115 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5764 : Index := Scalar.indexCast v5643
  let c127_i32 : BitVec 32 := 127#32
  let v5644 : BitVec 32 := Scalar.andi arg34 c127_i32
  let v5765 : Index := Scalar.indexCast v5644
  ![0, 7, v5764.toNat, v5765.toNat]
def k0_off16 (v5766 : BitVec 32) : Fin 3 → Nat :=
  let c16383_i32_3118 : BitVec 32 := 16383#32
  let v5770 : BitVec 32 := Scalar.andi v5766 c16383_i32_3118
  let v5771 : Index := Scalar.indexCast v5770
  let c0_3119 : Index := 0#32
  let c0_3120 : Index := 0#32
  ![v5771.toNat, 0, 0]

def k0_chk8 (v5766 : BitVec 32) : Prop :=
  (∀ a, (k0_off16 v5766) a + S1x1x128.size a ≤ S64x1x128.size a)
theorem k0_off16_inb : ∀ (v5766 : BitVec 32) (k0_hw8 : k0_chk8 v5766), ∀ a, (k0_off16 v5766) a + S1x1x128.size a ≤ S64x1x128.size a := fun v5766 k0_hw8 => k0_hw8

def k0_off17 (k0_t1 : Fin k0_t1_loop.trips) : Fin 2 → Nat :=
  let c0_i32_3123 : BitVec 32 := 0#32
  let c0_i32_2982 : BitVec 32 := 0#32
  let c1_i32_2983 : BitVec 32 := 1#32
  let arg34 : BitVec 32 := Scf.iv c0_i32_2982 c1_i32_2983 k0_t1
  let v5788 : BitVec 32 := Scalar.addi c0_i32_3123 arg34
  let v5789 : Index := Scalar.indexCast v5788
  let c0_3124 : Index := 0#32
  ![v5789.toNat, 0]
def k0_off18 (k0_t1 : Fin k0_t1_loop.trips) : Fin 4 → Nat :=
  let c1_3125 : Index := 1#32
  let c0_3126 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5793 : Index := Scalar.indexCast v5643
  let c127_i32 : BitVec 32 := 127#32
  let v5644 : BitVec 32 := Scalar.andi arg34 c127_i32
  let v5794 : Index := Scalar.indexCast v5644
  ![1, 0, v5793.toNat, v5794.toNat]
def k0_off19 (v5795 : BitVec 32) : Fin 3 → Nat :=
  let c16383_i32_3129 : BitVec 32 := 16383#32
  let v5799 : BitVec 32 := Scalar.andi v5795 c16383_i32_3129
  let v5800 : Index := Scalar.indexCast v5799
  let c0_3130 : Index := 0#32
  let c0_3131 : Index := 0#32
  ![v5800.toNat, 0, 0]

def k0_chk9 (v5795 : BitVec 32) : Prop :=
  (∀ a, (k0_off19 v5795) a + S1x1x128.size a ≤ S216x1x128.size a)
theorem k0_off19_inb : ∀ (v5795 : BitVec 32) (k0_hw9 : k0_chk9 v5795), ∀ a, (k0_off19 v5795) a + S1x1x128.size a ≤ S216x1x128.size a := fun v5795 k0_hw9 => k0_hw9

def k0_off20 (k0_t1 : Fin k0_t1_loop.trips) : Fin 4 → Nat :=
  let c1_3134 : Index := 1#32
  let c1_3135 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5810 : Index := Scalar.indexCast v5643
  let c127_i32 : BitVec 32 := 127#32
  let v5644 : BitVec 32 := Scalar.andi arg34 c127_i32
  let v5811 : Index := Scalar.indexCast v5644
  ![1, 1, v5810.toNat, v5811.toNat]
def k0_off21 (v5812 : BitVec 32) : Fin 3 → Nat :=
  let c16383_i32_3138 : BitVec 32 := 16383#32
  let v5816 : BitVec 32 := Scalar.andi v5812 c16383_i32_3138
  let v5817 : Index := Scalar.indexCast v5816
  let c0_3139 : Index := 0#32
  let c0_3140 : Index := 0#32
  ![v5817.toNat, 0, 0]

def k0_chk10 (v5812 : BitVec 32) : Prop :=
  (∀ a, (k0_off21 v5812) a + S1x1x128.size a ≤ S216x1x128.size a)
theorem k0_off21_inb : ∀ (v5812 : BitVec 32) (k0_hw10 : k0_chk10 v5812), ∀ a, (k0_off21 v5812) a + S1x1x128.size a ≤ S216x1x128.size a := fun v5812 k0_hw10 => k0_hw10

def k0_off22 (k0_t1 : Fin k0_t1_loop.trips) : Fin 4 → Nat :=
  let c1_3143 : Index := 1#32
  let c2_3144 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5827 : Index := Scalar.indexCast v5643
  let c127_i32 : BitVec 32 := 127#32
  let v5644 : BitVec 32 := Scalar.andi arg34 c127_i32
  let v5828 : Index := Scalar.indexCast v5644
  ![1, 2, v5827.toNat, v5828.toNat]
def k0_off23 (v5829 : BitVec 32) : Fin 3 → Nat :=
  let c16383_i32_3147 : BitVec 32 := 16383#32
  let v5833 : BitVec 32 := Scalar.andi v5829 c16383_i32_3147
  let v5834 : Index := Scalar.indexCast v5833
  let c0_3148 : Index := 0#32
  let c0_3149 : Index := 0#32
  ![v5834.toNat, 0, 0]

def k0_chk11 (v5829 : BitVec 32) : Prop :=
  (∀ a, (k0_off23 v5829) a + S1x1x128.size a ≤ S216x1x128.size a)
theorem k0_off23_inb : ∀ (v5829 : BitVec 32) (k0_hw11 : k0_chk11 v5829), ∀ a, (k0_off23 v5829) a + S1x1x128.size a ≤ S216x1x128.size a := fun v5829 k0_hw11 => k0_hw11

def k0_off24 (k0_t1 : Fin k0_t1_loop.trips) : Fin 4 → Nat :=
  let c1_3152 : Index := 1#32
  let c3_3153 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5844 : Index := Scalar.indexCast v5643
  let c127_i32 : BitVec 32 := 127#32
  let v5644 : BitVec 32 := Scalar.andi arg34 c127_i32
  let v5845 : Index := Scalar.indexCast v5644
  ![1, 3, v5844.toNat, v5845.toNat]
def k0_off25 (v5846 : BitVec 32) : Fin 3 → Nat :=
  let c16383_i32_3156 : BitVec 32 := 16383#32
  let v5850 : BitVec 32 := Scalar.andi v5846 c16383_i32_3156
  let v5851 : Index := Scalar.indexCast v5850
  let c0_3157 : Index := 0#32
  let c0_3158 : Index := 0#32
  ![v5851.toNat, 0, 0]

def k0_chk12 (v5846 : BitVec 32) : Prop :=
  (∀ a, (k0_off25 v5846) a + S1x1x128.size a ≤ S216x1x128.size a)
theorem k0_off25_inb : ∀ (v5846 : BitVec 32) (k0_hw12 : k0_chk12 v5846), ∀ a, (k0_off25 v5846) a + S1x1x128.size a ≤ S216x1x128.size a := fun v5846 k0_hw12 => k0_hw12

def k0_off26 (k0_t1 : Fin k0_t1_loop.trips) : Fin 4 → Nat :=
  let c1_3161 : Index := 1#32
  let c4_3162 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5861 : Index := Scalar.indexCast v5643
  let c127_i32 : BitVec 32 := 127#32
  let v5644 : BitVec 32 := Scalar.andi arg34 c127_i32
  let v5862 : Index := Scalar.indexCast v5644
  ![1, 4, v5861.toNat, v5862.toNat]
def k0_off27 (v5863 : BitVec 32) : Fin 3 → Nat :=
  let c16383_i32_3165 : BitVec 32 := 16383#32
  let v5867 : BitVec 32 := Scalar.andi v5863 c16383_i32_3165
  let v5868 : Index := Scalar.indexCast v5867
  let c0_3166 : Index := 0#32
  let c0_3167 : Index := 0#32
  ![v5868.toNat, 0, 0]

def k0_chk13 (v5863 : BitVec 32) : Prop :=
  (∀ a, (k0_off27 v5863) a + S1x1x128.size a ≤ S216x1x128.size a)
theorem k0_off27_inb : ∀ (v5863 : BitVec 32) (k0_hw13 : k0_chk13 v5863), ∀ a, (k0_off27 v5863) a + S1x1x128.size a ≤ S216x1x128.size a := fun v5863 k0_hw13 => k0_hw13

def k0_off28 (k0_t1 : Fin k0_t1_loop.trips) : Fin 4 → Nat :=
  let c1_3170 : Index := 1#32
  let c5_3171 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5878 : Index := Scalar.indexCast v5643
  let c127_i32 : BitVec 32 := 127#32
  let v5644 : BitVec 32 := Scalar.andi arg34 c127_i32
  let v5879 : Index := Scalar.indexCast v5644
  ![1, 5, v5878.toNat, v5879.toNat]
def k0_off29 (v5880 : BitVec 32) : Fin 3 → Nat :=
  let c16383_i32_3174 : BitVec 32 := 16383#32
  let v5884 : BitVec 32 := Scalar.andi v5880 c16383_i32_3174
  let v5885 : Index := Scalar.indexCast v5884
  let c0_3175 : Index := 0#32
  let c0_3176 : Index := 0#32
  ![v5885.toNat, 0, 0]

def k0_chk14 (v5880 : BitVec 32) : Prop :=
  (∀ a, (k0_off29 v5880) a + S1x1x128.size a ≤ S216x1x128.size a)
theorem k0_off29_inb : ∀ (v5880 : BitVec 32) (k0_hw14 : k0_chk14 v5880), ∀ a, (k0_off29 v5880) a + S1x1x128.size a ≤ S216x1x128.size a := fun v5880 k0_hw14 => k0_hw14

def k0_off30 (k0_t1 : Fin k0_t1_loop.trips) : Fin 4 → Nat :=
  let c1_3179 : Index := 1#32
  let c6_3180 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5895 : Index := Scalar.indexCast v5643
  let c127_i32 : BitVec 32 := 127#32
  let v5644 : BitVec 32 := Scalar.andi arg34 c127_i32
  let v5896 : Index := Scalar.indexCast v5644
  ![1, 6, v5895.toNat, v5896.toNat]
def k0_off31 (v5897 : BitVec 32) : Fin 3 → Nat :=
  let c16383_i32_3183 : BitVec 32 := 16383#32
  let v5901 : BitVec 32 := Scalar.andi v5897 c16383_i32_3183
  let v5902 : Index := Scalar.indexCast v5901
  let c0_3184 : Index := 0#32
  let c0_3185 : Index := 0#32
  ![v5902.toNat, 0, 0]

def k0_chk15 (v5897 : BitVec 32) : Prop :=
  (∀ a, (k0_off31 v5897) a + S1x1x128.size a ≤ S216x1x128.size a)
theorem k0_off31_inb : ∀ (v5897 : BitVec 32) (k0_hw15 : k0_chk15 v5897), ∀ a, (k0_off31 v5897) a + S1x1x128.size a ≤ S216x1x128.size a := fun v5897 k0_hw15 => k0_hw15

def k0_off32 (k0_t1 : Fin k0_t1_loop.trips) : Fin 4 → Nat :=
  let c1_3188 : Index := 1#32
  let c7_3189 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5912 : Index := Scalar.indexCast v5643
  let c127_i32 : BitVec 32 := 127#32
  let v5644 : BitVec 32 := Scalar.andi arg34 c127_i32
  let v5913 : Index := Scalar.indexCast v5644
  ![1, 7, v5912.toNat, v5913.toNat]
def k0_off33 (v5914 : BitVec 32) : Fin 3 → Nat :=
  let c16383_i32_3192 : BitVec 32 := 16383#32
  let v5918 : BitVec 32 := Scalar.andi v5914 c16383_i32_3192
  let v5919 : Index := Scalar.indexCast v5918
  let c0_3193 : Index := 0#32
  let c0_3194 : Index := 0#32
  ![v5919.toNat, 0, 0]

def k0_chk16 (v5914 : BitVec 32) : Prop :=
  (∀ a, (k0_off33 v5914) a + S1x1x128.size a ≤ S216x1x128.size a)
theorem k0_off33_inb : ∀ (v5914 : BitVec 32) (k0_hw16 : k0_chk16 v5914), ∀ a, (k0_off33 v5914) a + S1x1x128.size a ≤ S216x1x128.size a := fun v5914 k0_hw16 => k0_hw16

def k0_off34 (k0_t1 : Fin k0_t1_loop.trips) : Fin 2 → Nat :=
  let c512_i32_3197 : BitVec 32 := 512#32
  let c0_i32_2982 : BitVec 32 := 0#32
  let c1_i32_2983 : BitVec 32 := 1#32
  let arg34 : BitVec 32 := Scf.iv c0_i32_2982 c1_i32_2983 k0_t1
  let v5936 : BitVec 32 := Scalar.addi c512_i32_3197 arg34
  let v5937 : Index := Scalar.indexCast v5936
  let c0_3198 : Index := 0#32
  ![v5937.toNat, 0]
def k0_off35 (k0_t1 : Fin k0_t1_loop.trips) : Fin 4 → Nat :=
  let c2_3199 : Index := 2#32
  let c0_3200 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5941 : Index := Scalar.indexCast v5643
  let c127_i32 : BitVec 32 := 127#32
  let v5644 : BitVec 32 := Scalar.andi arg34 c127_i32
  let v5942 : Index := Scalar.indexCast v5644
  ![2, 0, v5941.toNat, v5942.toNat]
def k0_off36 (v5943 : BitVec 32) : Fin 3 → Nat :=
  let c16383_i32_3203 : BitVec 32 := 16383#32
  let v5947 : BitVec 32 := Scalar.andi v5943 c16383_i32_3203
  let v5948 : Index := Scalar.indexCast v5947
  let c0_3204 : Index := 0#32
  let c0_3205 : Index := 0#32
  ![v5948.toNat, 0, 0]

def k0_chk17 (v5943 : BitVec 32) : Prop :=
  (∀ a, (k0_off36 v5943) a + S1x1x128.size a ≤ S615x1x128.size a)
theorem k0_off36_inb : ∀ (v5943 : BitVec 32) (k0_hw17 : k0_chk17 v5943), ∀ a, (k0_off36 v5943) a + S1x1x128.size a ≤ S615x1x128.size a := fun v5943 k0_hw17 => k0_hw17

def k0_off37 (k0_t1 : Fin k0_t1_loop.trips) : Fin 4 → Nat :=
  let c2_3208 : Index := 2#32
  let c1_3209 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5958 : Index := Scalar.indexCast v5643
  let c127_i32 : BitVec 32 := 127#32
  let v5644 : BitVec 32 := Scalar.andi arg34 c127_i32
  let v5959 : Index := Scalar.indexCast v5644
  ![2, 1, v5958.toNat, v5959.toNat]
def k0_off38 (v5960 : BitVec 32) : Fin 3 → Nat :=
  let c16383_i32_3212 : BitVec 32 := 16383#32
  let v5964 : BitVec 32 := Scalar.andi v5960 c16383_i32_3212
  let v5965 : Index := Scalar.indexCast v5964
  let c0_3213 : Index := 0#32
  let c0_3214 : Index := 0#32
  ![v5965.toNat, 0, 0]

def k0_chk18 (v5960 : BitVec 32) : Prop :=
  (∀ a, (k0_off38 v5960) a + S1x1x128.size a ≤ S615x1x128.size a)
theorem k0_off38_inb : ∀ (v5960 : BitVec 32) (k0_hw18 : k0_chk18 v5960), ∀ a, (k0_off38 v5960) a + S1x1x128.size a ≤ S615x1x128.size a := fun v5960 k0_hw18 => k0_hw18

def k0_off39 (k0_t1 : Fin k0_t1_loop.trips) : Fin 4 → Nat :=
  let c2_3217 : Index := 2#32
  let c2_3218 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5975 : Index := Scalar.indexCast v5643
  let c127_i32 : BitVec 32 := 127#32
  let v5644 : BitVec 32 := Scalar.andi arg34 c127_i32
  let v5976 : Index := Scalar.indexCast v5644
  ![2, 2, v5975.toNat, v5976.toNat]
def k0_off40 (v5977 : BitVec 32) : Fin 3 → Nat :=
  let c16383_i32_3221 : BitVec 32 := 16383#32
  let v5981 : BitVec 32 := Scalar.andi v5977 c16383_i32_3221
  let v5982 : Index := Scalar.indexCast v5981
  let c0_3222 : Index := 0#32
  let c0_3223 : Index := 0#32
  ![v5982.toNat, 0, 0]

def k0_chk19 (v5977 : BitVec 32) : Prop :=
  (∀ a, (k0_off40 v5977) a + S1x1x128.size a ≤ S615x1x128.size a)
theorem k0_off40_inb : ∀ (v5977 : BitVec 32) (k0_hw19 : k0_chk19 v5977), ∀ a, (k0_off40 v5977) a + S1x1x128.size a ≤ S615x1x128.size a := fun v5977 k0_hw19 => k0_hw19

def k0_off41 (k0_t1 : Fin k0_t1_loop.trips) : Fin 4 → Nat :=
  let c2_3226 : Index := 2#32
  let c3_3227 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v5992 : Index := Scalar.indexCast v5643
  let c127_i32 : BitVec 32 := 127#32
  let v5644 : BitVec 32 := Scalar.andi arg34 c127_i32
  let v5993 : Index := Scalar.indexCast v5644
  ![2, 3, v5992.toNat, v5993.toNat]
def k0_off42 (v5994 : BitVec 32) : Fin 3 → Nat :=
  let c16383_i32_3230 : BitVec 32 := 16383#32
  let v5998 : BitVec 32 := Scalar.andi v5994 c16383_i32_3230
  let v5999 : Index := Scalar.indexCast v5998
  let c0_3231 : Index := 0#32
  let c0_3232 : Index := 0#32
  ![v5999.toNat, 0, 0]

def k0_chk20 (v5994 : BitVec 32) : Prop :=
  (∀ a, (k0_off42 v5994) a + S1x1x128.size a ≤ S615x1x128.size a)
theorem k0_off42_inb : ∀ (v5994 : BitVec 32) (k0_hw20 : k0_chk20 v5994), ∀ a, (k0_off42 v5994) a + S1x1x128.size a ≤ S615x1x128.size a := fun v5994 k0_hw20 => k0_hw20

def k0_off43 (k0_t1 : Fin k0_t1_loop.trips) : Fin 4 → Nat :=
  let c2_3235 : Index := 2#32
  let c4_3236 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6009 : Index := Scalar.indexCast v5643
  let c127_i32 : BitVec 32 := 127#32
  let v5644 : BitVec 32 := Scalar.andi arg34 c127_i32
  let v6010 : Index := Scalar.indexCast v5644
  ![2, 4, v6009.toNat, v6010.toNat]
def k0_off44 (v6011 : BitVec 32) : Fin 3 → Nat :=
  let c16383_i32_3239 : BitVec 32 := 16383#32
  let v6015 : BitVec 32 := Scalar.andi v6011 c16383_i32_3239
  let v6016 : Index := Scalar.indexCast v6015
  let c0_3240 : Index := 0#32
  let c0_3241 : Index := 0#32
  ![v6016.toNat, 0, 0]

def k0_chk21 (v6011 : BitVec 32) : Prop :=
  (∀ a, (k0_off44 v6011) a + S1x1x128.size a ≤ S615x1x128.size a)
theorem k0_off44_inb : ∀ (v6011 : BitVec 32) (k0_hw21 : k0_chk21 v6011), ∀ a, (k0_off44 v6011) a + S1x1x128.size a ≤ S615x1x128.size a := fun v6011 k0_hw21 => k0_hw21

def k0_off45 (k0_t1 : Fin k0_t1_loop.trips) : Fin 4 → Nat :=
  let c2_3244 : Index := 2#32
  let c5_3245 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6026 : Index := Scalar.indexCast v5643
  let c127_i32 : BitVec 32 := 127#32
  let v5644 : BitVec 32 := Scalar.andi arg34 c127_i32
  let v6027 : Index := Scalar.indexCast v5644
  ![2, 5, v6026.toNat, v6027.toNat]
def k0_off46 (v6028 : BitVec 32) : Fin 3 → Nat :=
  let c16383_i32_3248 : BitVec 32 := 16383#32
  let v6032 : BitVec 32 := Scalar.andi v6028 c16383_i32_3248
  let v6033 : Index := Scalar.indexCast v6032
  let c0_3249 : Index := 0#32
  let c0_3250 : Index := 0#32
  ![v6033.toNat, 0, 0]

def k0_chk22 (v6028 : BitVec 32) : Prop :=
  (∀ a, (k0_off46 v6028) a + S1x1x128.size a ≤ S615x1x128.size a)
theorem k0_off46_inb : ∀ (v6028 : BitVec 32) (k0_hw22 : k0_chk22 v6028), ∀ a, (k0_off46 v6028) a + S1x1x128.size a ≤ S615x1x128.size a := fun v6028 k0_hw22 => k0_hw22

def k0_off47 (k0_t1 : Fin k0_t1_loop.trips) : Fin 4 → Nat :=
  let c2_3253 : Index := 2#32
  let c6_3254 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6043 : Index := Scalar.indexCast v5643
  let c127_i32 : BitVec 32 := 127#32
  let v5644 : BitVec 32 := Scalar.andi arg34 c127_i32
  let v6044 : Index := Scalar.indexCast v5644
  ![2, 6, v6043.toNat, v6044.toNat]
def k0_off48 (v6045 : BitVec 32) : Fin 3 → Nat :=
  let c16383_i32_3257 : BitVec 32 := 16383#32
  let v6049 : BitVec 32 := Scalar.andi v6045 c16383_i32_3257
  let v6050 : Index := Scalar.indexCast v6049
  let c0_3258 : Index := 0#32
  let c0_3259 : Index := 0#32
  ![v6050.toNat, 0, 0]

def k0_chk23 (v6045 : BitVec 32) : Prop :=
  (∀ a, (k0_off48 v6045) a + S1x1x128.size a ≤ S615x1x128.size a)
theorem k0_off48_inb : ∀ (v6045 : BitVec 32) (k0_hw23 : k0_chk23 v6045), ∀ a, (k0_off48 v6045) a + S1x1x128.size a ≤ S615x1x128.size a := fun v6045 k0_hw23 => k0_hw23

def k0_off49 (k0_t1 : Fin k0_t1_loop.trips) : Fin 4 → Nat :=
  let c2_3262 : Index := 2#32
  let c7_3263 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6060 : Index := Scalar.indexCast v5643
  let c127_i32 : BitVec 32 := 127#32
  let v5644 : BitVec 32 := Scalar.andi arg34 c127_i32
  let v6061 : Index := Scalar.indexCast v5644
  ![2, 7, v6060.toNat, v6061.toNat]
def k0_off50 (v6062 : BitVec 32) : Fin 3 → Nat :=
  let c16383_i32_3266 : BitVec 32 := 16383#32
  let v6066 : BitVec 32 := Scalar.andi v6062 c16383_i32_3266
  let v6067 : Index := Scalar.indexCast v6066
  let c0_3267 : Index := 0#32
  let c0_3268 : Index := 0#32
  ![v6067.toNat, 0, 0]

def k0_chk24 (v6062 : BitVec 32) : Prop :=
  (∀ a, (k0_off50 v6062) a + S1x1x128.size a ≤ S615x1x128.size a)
theorem k0_off50_inb : ∀ (v6062 : BitVec 32) (k0_hw24 : k0_chk24 v6062), ∀ a, (k0_off50 v6062) a + S1x1x128.size a ≤ S615x1x128.size a := fun v6062 k0_hw24 => k0_hw24

def k0_off51 (k0_t1 : Fin k0_t1_loop.trips) : Fin 2 → Nat :=
  let c1024_i32 : BitVec 32 := 1024#32
  let c0_i32_2982 : BitVec 32 := 0#32
  let c1_i32_2983 : BitVec 32 := 1#32
  let arg34 : BitVec 32 := Scf.iv c0_i32_2982 c1_i32_2983 k0_t1
  let v6084 : BitVec 32 := Scalar.addi c1024_i32 arg34
  let v6085 : Index := Scalar.indexCast v6084
  let c0_3271 : Index := 0#32
  ![v6085.toNat, 0]
def k0_off52 (k0_t1 : Fin k0_t1_loop.trips) : Fin 4 → Nat :=
  let c3_3272 : Index := 3#32
  let c0_3273 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6089 : Index := Scalar.indexCast v5643
  let c127_i32 : BitVec 32 := 127#32
  let v5644 : BitVec 32 := Scalar.andi arg34 c127_i32
  let v6090 : Index := Scalar.indexCast v5644
  ![3, 0, v6089.toNat, v6090.toNat]
def k0_off53 (v6091 : BitVec 32) : Fin 3 → Nat :=
  let c16383_i32_3276 : BitVec 32 := 16383#32
  let v6095 : BitVec 32 := Scalar.andi v6091 c16383_i32_3276
  let v6096 : Index := Scalar.indexCast v6095
  let c0_3277 : Index := 0#32
  let c0_3278 : Index := 0#32
  ![v6096.toNat, 0, 0]

def k0_chk25 (v6091 : BitVec 32) : Prop :=
  (∀ a, (k0_off53 v6091) a + S1x1x128.size a ≤ S1839x1x128.size a)
theorem k0_off53_inb : ∀ (v6091 : BitVec 32) (k0_hw25 : k0_chk25 v6091), ∀ a, (k0_off53 v6091) a + S1x1x128.size a ≤ S1839x1x128.size a := fun v6091 k0_hw25 => k0_hw25

def k0_off54 (k0_t1 : Fin k0_t1_loop.trips) : Fin 4 → Nat :=
  let c3_3281 : Index := 3#32
  let c1_3282 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6106 : Index := Scalar.indexCast v5643
  let c127_i32 : BitVec 32 := 127#32
  let v5644 : BitVec 32 := Scalar.andi arg34 c127_i32
  let v6107 : Index := Scalar.indexCast v5644
  ![3, 1, v6106.toNat, v6107.toNat]
def k0_off55 (v6108 : BitVec 32) : Fin 3 → Nat :=
  let c16383_i32_3285 : BitVec 32 := 16383#32
  let v6112 : BitVec 32 := Scalar.andi v6108 c16383_i32_3285
  let v6113 : Index := Scalar.indexCast v6112
  let c0_3286 : Index := 0#32
  let c0_3287 : Index := 0#32
  ![v6113.toNat, 0, 0]

def k0_chk26 (v6108 : BitVec 32) : Prop :=
  (∀ a, (k0_off55 v6108) a + S1x1x128.size a ≤ S1839x1x128.size a)
theorem k0_off55_inb : ∀ (v6108 : BitVec 32) (k0_hw26 : k0_chk26 v6108), ∀ a, (k0_off55 v6108) a + S1x1x128.size a ≤ S1839x1x128.size a := fun v6108 k0_hw26 => k0_hw26

def k0_off56 (k0_t1 : Fin k0_t1_loop.trips) : Fin 4 → Nat :=
  let c3_3290 : Index := 3#32
  let c2_3291 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6123 : Index := Scalar.indexCast v5643
  let c127_i32 : BitVec 32 := 127#32
  let v5644 : BitVec 32 := Scalar.andi arg34 c127_i32
  let v6124 : Index := Scalar.indexCast v5644
  ![3, 2, v6123.toNat, v6124.toNat]
def k0_off57 (v6125 : BitVec 32) : Fin 3 → Nat :=
  let c16383_i32_3294 : BitVec 32 := 16383#32
  let v6129 : BitVec 32 := Scalar.andi v6125 c16383_i32_3294
  let v6130 : Index := Scalar.indexCast v6129
  let c0_3295 : Index := 0#32
  let c0_3296 : Index := 0#32
  ![v6130.toNat, 0, 0]

def k0_chk27 (v6125 : BitVec 32) : Prop :=
  (∀ a, (k0_off57 v6125) a + S1x1x128.size a ≤ S1839x1x128.size a)
theorem k0_off57_inb : ∀ (v6125 : BitVec 32) (k0_hw27 : k0_chk27 v6125), ∀ a, (k0_off57 v6125) a + S1x1x128.size a ≤ S1839x1x128.size a := fun v6125 k0_hw27 => k0_hw27

def k0_off58 (k0_t1 : Fin k0_t1_loop.trips) : Fin 4 → Nat :=
  let c3_3299 : Index := 3#32
  let c3_3300 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6140 : Index := Scalar.indexCast v5643
  let c127_i32 : BitVec 32 := 127#32
  let v5644 : BitVec 32 := Scalar.andi arg34 c127_i32
  let v6141 : Index := Scalar.indexCast v5644
  ![3, 3, v6140.toNat, v6141.toNat]
def k0_off59 (v6142 : BitVec 32) : Fin 3 → Nat :=
  let c16383_i32_3303 : BitVec 32 := 16383#32
  let v6146 : BitVec 32 := Scalar.andi v6142 c16383_i32_3303
  let v6147 : Index := Scalar.indexCast v6146
  let c0_3304 : Index := 0#32
  let c0_3305 : Index := 0#32
  ![v6147.toNat, 0, 0]

def k0_chk28 (v6142 : BitVec 32) : Prop :=
  (∀ a, (k0_off59 v6142) a + S1x1x128.size a ≤ S1839x1x128.size a)
theorem k0_off59_inb : ∀ (v6142 : BitVec 32) (k0_hw28 : k0_chk28 v6142), ∀ a, (k0_off59 v6142) a + S1x1x128.size a ≤ S1839x1x128.size a := fun v6142 k0_hw28 => k0_hw28

def k0_off60 (k0_t1 : Fin k0_t1_loop.trips) : Fin 4 → Nat :=
  let c3_3308 : Index := 3#32
  let c4_3309 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6157 : Index := Scalar.indexCast v5643
  let c127_i32 : BitVec 32 := 127#32
  let v5644 : BitVec 32 := Scalar.andi arg34 c127_i32
  let v6158 : Index := Scalar.indexCast v5644
  ![3, 4, v6157.toNat, v6158.toNat]
def k0_off61 (v6159 : BitVec 32) : Fin 3 → Nat :=
  let c16383_i32_3312 : BitVec 32 := 16383#32
  let v6163 : BitVec 32 := Scalar.andi v6159 c16383_i32_3312
  let v6164 : Index := Scalar.indexCast v6163
  let c0_3313 : Index := 0#32
  let c0_3314 : Index := 0#32
  ![v6164.toNat, 0, 0]

def k0_chk29 (v6159 : BitVec 32) : Prop :=
  (∀ a, (k0_off61 v6159) a + S1x1x128.size a ≤ S1839x1x128.size a)
theorem k0_off61_inb : ∀ (v6159 : BitVec 32) (k0_hw29 : k0_chk29 v6159), ∀ a, (k0_off61 v6159) a + S1x1x128.size a ≤ S1839x1x128.size a := fun v6159 k0_hw29 => k0_hw29

def k0_off62 (k0_t1 : Fin k0_t1_loop.trips) : Fin 4 → Nat :=
  let c3_3317 : Index := 3#32
  let c5_3318 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6174 : Index := Scalar.indexCast v5643
  let c127_i32 : BitVec 32 := 127#32
  let v5644 : BitVec 32 := Scalar.andi arg34 c127_i32
  let v6175 : Index := Scalar.indexCast v5644
  ![3, 5, v6174.toNat, v6175.toNat]
def k0_off63 (v6176 : BitVec 32) : Fin 3 → Nat :=
  let c16383_i32_3321 : BitVec 32 := 16383#32
  let v6180 : BitVec 32 := Scalar.andi v6176 c16383_i32_3321
  let v6181 : Index := Scalar.indexCast v6180
  let c0_3322 : Index := 0#32
  let c0_3323 : Index := 0#32
  ![v6181.toNat, 0, 0]

def k0_chk30 (v6176 : BitVec 32) : Prop :=
  (∀ a, (k0_off63 v6176) a + S1x1x128.size a ≤ S1839x1x128.size a)
theorem k0_off63_inb : ∀ (v6176 : BitVec 32) (k0_hw30 : k0_chk30 v6176), ∀ a, (k0_off63 v6176) a + S1x1x128.size a ≤ S1839x1x128.size a := fun v6176 k0_hw30 => k0_hw30

def k0_off64 (k0_t1 : Fin k0_t1_loop.trips) : Fin 4 → Nat :=
  let c3_3326 : Index := 3#32
  let c6_3327 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6191 : Index := Scalar.indexCast v5643
  let c127_i32 : BitVec 32 := 127#32
  let v5644 : BitVec 32 := Scalar.andi arg34 c127_i32
  let v6192 : Index := Scalar.indexCast v5644
  ![3, 6, v6191.toNat, v6192.toNat]
def k0_off65 (v6193 : BitVec 32) : Fin 3 → Nat :=
  let c16383_i32_3330 : BitVec 32 := 16383#32
  let v6197 : BitVec 32 := Scalar.andi v6193 c16383_i32_3330
  let v6198 : Index := Scalar.indexCast v6197
  let c0_3331 : Index := 0#32
  let c0_3332 : Index := 0#32
  ![v6198.toNat, 0, 0]

def k0_chk31 (v6193 : BitVec 32) : Prop :=
  (∀ a, (k0_off65 v6193) a + S1x1x128.size a ≤ S1839x1x128.size a)
theorem k0_off65_inb : ∀ (v6193 : BitVec 32) (k0_hw31 : k0_chk31 v6193), ∀ a, (k0_off65 v6193) a + S1x1x128.size a ≤ S1839x1x128.size a := fun v6193 k0_hw31 => k0_hw31

def k0_off66 (k0_t1 : Fin k0_t1_loop.trips) : Fin 4 → Nat :=
  let c3_3335 : Index := 3#32
  let c7_3336 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6208 : Index := Scalar.indexCast v5643
  let c127_i32 : BitVec 32 := 127#32
  let v5644 : BitVec 32 := Scalar.andi arg34 c127_i32
  let v6209 : Index := Scalar.indexCast v5644
  ![3, 7, v6208.toNat, v6209.toNat]
def k0_off67 (v6210 : BitVec 32) : Fin 3 → Nat :=
  let c16383_i32_3339 : BitVec 32 := 16383#32
  let v6214 : BitVec 32 := Scalar.andi v6210 c16383_i32_3339
  let v6215 : Index := Scalar.indexCast v6214
  let c0_3340 : Index := 0#32
  let c0_3341 : Index := 0#32
  ![v6215.toNat, 0, 0]

def k0_chk32 (v6210 : BitVec 32) : Prop :=
  (∀ a, (k0_off67 v6210) a + S1x1x128.size a ≤ S1839x1x128.size a)
theorem k0_off67_inb : ∀ (v6210 : BitVec 32) (k0_hw32 : k0_chk32 v6210), ∀ a, (k0_off67 v6210) a + S1x1x128.size a ≤ S1839x1x128.size a := fun v6210 k0_hw32 => k0_hw32

def k0_off68 (k0_t1 : Fin k0_t1_loop.trips) : Fin 2 → Nat :=
  let c1536_i32 : BitVec 32 := 1536#32
  let c0_i32_2982 : BitVec 32 := 0#32
  let c1_i32_2983 : BitVec 32 := 1#32
  let arg34 : BitVec 32 := Scf.iv c0_i32_2982 c1_i32_2983 k0_t1
  let v6232 : BitVec 32 := Scalar.addi c1536_i32 arg34
  let v6233 : Index := Scalar.indexCast v6232
  let c0_3344 : Index := 0#32
  ![v6233.toNat, 0]
def k0_off69 (k0_t1 : Fin k0_t1_loop.trips) : Fin 4 → Nat :=
  let c4_3345 : Index := 4#32
  let c0_3346 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6237 : Index := Scalar.indexCast v5643
  let c127_i32 : BitVec 32 := 127#32
  let v5644 : BitVec 32 := Scalar.andi arg34 c127_i32
  let v6238 : Index := Scalar.indexCast v5644
  ![4, 0, v6237.toNat, v6238.toNat]
def k0_off70 (v6239 : BitVec 32) : Fin 3 → Nat :=
  let c16383_i32_3349 : BitVec 32 := 16383#32
  let v6243 : BitVec 32 := Scalar.andi v6239 c16383_i32_3349
  let v6244 : Index := Scalar.indexCast v6243
  let c0_3350 : Index := 0#32
  let c0_3351 : Index := 0#32
  ![v6244.toNat, 0, 0]

def k0_chk33 (v6239 : BitVec 32) : Prop :=
  (∀ a, (k0_off70 v6239) a + S1x1x128.size a ≤ S5593x1x128.size a)
theorem k0_off70_inb : ∀ (v6239 : BitVec 32) (k0_hw33 : k0_chk33 v6239), ∀ a, (k0_off70 v6239) a + S1x1x128.size a ≤ S5593x1x128.size a := fun v6239 k0_hw33 => k0_hw33

def k0_off71 (k0_t1 : Fin k0_t1_loop.trips) : Fin 4 → Nat :=
  let c4_3354 : Index := 4#32
  let c1_3355 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6254 : Index := Scalar.indexCast v5643
  let c127_i32 : BitVec 32 := 127#32
  let v5644 : BitVec 32 := Scalar.andi arg34 c127_i32
  let v6255 : Index := Scalar.indexCast v5644
  ![4, 1, v6254.toNat, v6255.toNat]
def k0_off72 (v6256 : BitVec 32) : Fin 3 → Nat :=
  let c16383_i32_3358 : BitVec 32 := 16383#32
  let v6260 : BitVec 32 := Scalar.andi v6256 c16383_i32_3358
  let v6261 : Index := Scalar.indexCast v6260
  let c0_3359 : Index := 0#32
  let c0_3360 : Index := 0#32
  ![v6261.toNat, 0, 0]

def k0_chk34 (v6256 : BitVec 32) : Prop :=
  (∀ a, (k0_off72 v6256) a + S1x1x128.size a ≤ S5593x1x128.size a)
theorem k0_off72_inb : ∀ (v6256 : BitVec 32) (k0_hw34 : k0_chk34 v6256), ∀ a, (k0_off72 v6256) a + S1x1x128.size a ≤ S5593x1x128.size a := fun v6256 k0_hw34 => k0_hw34

def k0_off73 (k0_t1 : Fin k0_t1_loop.trips) : Fin 4 → Nat :=
  let c4_3363 : Index := 4#32
  let c2_3364 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6271 : Index := Scalar.indexCast v5643
  let c127_i32 : BitVec 32 := 127#32
  let v5644 : BitVec 32 := Scalar.andi arg34 c127_i32
  let v6272 : Index := Scalar.indexCast v5644
  ![4, 2, v6271.toNat, v6272.toNat]
def k0_off74 (v6273 : BitVec 32) : Fin 3 → Nat :=
  let c16383_i32_3367 : BitVec 32 := 16383#32
  let v6277 : BitVec 32 := Scalar.andi v6273 c16383_i32_3367
  let v6278 : Index := Scalar.indexCast v6277
  let c0_3368 : Index := 0#32
  let c0_3369 : Index := 0#32
  ![v6278.toNat, 0, 0]

def k0_chk35 (v6273 : BitVec 32) : Prop :=
  (∀ a, (k0_off74 v6273) a + S1x1x128.size a ≤ S5593x1x128.size a)
theorem k0_off74_inb : ∀ (v6273 : BitVec 32) (k0_hw35 : k0_chk35 v6273), ∀ a, (k0_off74 v6273) a + S1x1x128.size a ≤ S5593x1x128.size a := fun v6273 k0_hw35 => k0_hw35

def k0_off75 (k0_t1 : Fin k0_t1_loop.trips) : Fin 4 → Nat :=
  let c4_3372 : Index := 4#32
  let c3_3373 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6288 : Index := Scalar.indexCast v5643
  let c127_i32 : BitVec 32 := 127#32
  let v5644 : BitVec 32 := Scalar.andi arg34 c127_i32
  let v6289 : Index := Scalar.indexCast v5644
  ![4, 3, v6288.toNat, v6289.toNat]
def k0_off76 (v6290 : BitVec 32) : Fin 3 → Nat :=
  let c16383_i32_3376 : BitVec 32 := 16383#32
  let v6294 : BitVec 32 := Scalar.andi v6290 c16383_i32_3376
  let v6295 : Index := Scalar.indexCast v6294
  let c0_3377 : Index := 0#32
  let c0_3378 : Index := 0#32
  ![v6295.toNat, 0, 0]

def k0_chk36 (v6290 : BitVec 32) : Prop :=
  (∀ a, (k0_off76 v6290) a + S1x1x128.size a ≤ S5593x1x128.size a)
theorem k0_off76_inb : ∀ (v6290 : BitVec 32) (k0_hw36 : k0_chk36 v6290), ∀ a, (k0_off76 v6290) a + S1x1x128.size a ≤ S5593x1x128.size a := fun v6290 k0_hw36 => k0_hw36

def k0_off77 (k0_t1 : Fin k0_t1_loop.trips) : Fin 4 → Nat :=
  let c4_3381 : Index := 4#32
  let c4_3382 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6305 : Index := Scalar.indexCast v5643
  let c127_i32 : BitVec 32 := 127#32
  let v5644 : BitVec 32 := Scalar.andi arg34 c127_i32
  let v6306 : Index := Scalar.indexCast v5644
  ![4, 4, v6305.toNat, v6306.toNat]
def k0_off78 (v6307 : BitVec 32) : Fin 3 → Nat :=
  let c16383_i32_3385 : BitVec 32 := 16383#32
  let v6311 : BitVec 32 := Scalar.andi v6307 c16383_i32_3385
  let v6312 : Index := Scalar.indexCast v6311
  let c0_3386 : Index := 0#32
  let c0_3387 : Index := 0#32
  ![v6312.toNat, 0, 0]

def k0_chk37 (v6307 : BitVec 32) : Prop :=
  (∀ a, (k0_off78 v6307) a + S1x1x128.size a ≤ S5593x1x128.size a)
theorem k0_off78_inb : ∀ (v6307 : BitVec 32) (k0_hw37 : k0_chk37 v6307), ∀ a, (k0_off78 v6307) a + S1x1x128.size a ≤ S5593x1x128.size a := fun v6307 k0_hw37 => k0_hw37

def k0_off79 (k0_t1 : Fin k0_t1_loop.trips) : Fin 4 → Nat :=
  let c4_3390 : Index := 4#32
  let c5_3391 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6322 : Index := Scalar.indexCast v5643
  let c127_i32 : BitVec 32 := 127#32
  let v5644 : BitVec 32 := Scalar.andi arg34 c127_i32
  let v6323 : Index := Scalar.indexCast v5644
  ![4, 5, v6322.toNat, v6323.toNat]
def k0_off80 (v6324 : BitVec 32) : Fin 3 → Nat :=
  let c16383_i32_3394 : BitVec 32 := 16383#32
  let v6328 : BitVec 32 := Scalar.andi v6324 c16383_i32_3394
  let v6329 : Index := Scalar.indexCast v6328
  let c0_3395 : Index := 0#32
  let c0_3396 : Index := 0#32
  ![v6329.toNat, 0, 0]

def k0_chk38 (v6324 : BitVec 32) : Prop :=
  (∀ a, (k0_off80 v6324) a + S1x1x128.size a ≤ S5593x1x128.size a)
theorem k0_off80_inb : ∀ (v6324 : BitVec 32) (k0_hw38 : k0_chk38 v6324), ∀ a, (k0_off80 v6324) a + S1x1x128.size a ≤ S5593x1x128.size a := fun v6324 k0_hw38 => k0_hw38

def k0_off81 (k0_t1 : Fin k0_t1_loop.trips) : Fin 4 → Nat :=
  let c4_3399 : Index := 4#32
  let c6_3400 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6339 : Index := Scalar.indexCast v5643
  let c127_i32 : BitVec 32 := 127#32
  let v5644 : BitVec 32 := Scalar.andi arg34 c127_i32
  let v6340 : Index := Scalar.indexCast v5644
  ![4, 6, v6339.toNat, v6340.toNat]
def k0_off82 (v6341 : BitVec 32) : Fin 3 → Nat :=
  let c16383_i32_3403 : BitVec 32 := 16383#32
  let v6345 : BitVec 32 := Scalar.andi v6341 c16383_i32_3403
  let v6346 : Index := Scalar.indexCast v6345
  let c0_3404 : Index := 0#32
  let c0_3405 : Index := 0#32
  ![v6346.toNat, 0, 0]

def k0_chk39 (v6341 : BitVec 32) : Prop :=
  (∀ a, (k0_off82 v6341) a + S1x1x128.size a ≤ S5593x1x128.size a)
theorem k0_off82_inb : ∀ (v6341 : BitVec 32) (k0_hw39 : k0_chk39 v6341), ∀ a, (k0_off82 v6341) a + S1x1x128.size a ≤ S5593x1x128.size a := fun v6341 k0_hw39 => k0_hw39

def k0_off83 (k0_t1 : Fin k0_t1_loop.trips) : Fin 4 → Nat :=
  let c4_3408 : Index := 4#32
  let c7_3409 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6356 : Index := Scalar.indexCast v5643
  let c127_i32 : BitVec 32 := 127#32
  let v5644 : BitVec 32 := Scalar.andi arg34 c127_i32
  let v6357 : Index := Scalar.indexCast v5644
  ![4, 7, v6356.toNat, v6357.toNat]
def k0_off84 (v6358 : BitVec 32) : Fin 3 → Nat :=
  let c16383_i32_3412 : BitVec 32 := 16383#32
  let v6362 : BitVec 32 := Scalar.andi v6358 c16383_i32_3412
  let v6363 : Index := Scalar.indexCast v6362
  let c0_3413 : Index := 0#32
  let c0_3414 : Index := 0#32
  ![v6363.toNat, 0, 0]

def k0_chk40 (v6358 : BitVec 32) : Prop :=
  (∀ a, (k0_off84 v6358) a + S1x1x128.size a ≤ S5593x1x128.size a)
theorem k0_off84_inb : ∀ (v6358 : BitVec 32) (k0_hw40 : k0_chk40 v6358), ∀ a, (k0_off84 v6358) a + S1x1x128.size a ≤ S5593x1x128.size a := fun v6358 k0_hw40 => k0_hw40

def k0_off85 (k0_t1 : Fin k0_t1_loop.trips) : Fin 2 → Nat :=
  let c2048_i32 : BitVec 32 := 2048#32
  let c0_i32_2982 : BitVec 32 := 0#32
  let c1_i32_2983 : BitVec 32 := 1#32
  let arg34 : BitVec 32 := Scf.iv c0_i32_2982 c1_i32_2983 k0_t1
  let v6380 : BitVec 32 := Scalar.addi c2048_i32 arg34
  let v6381 : Index := Scalar.indexCast v6380
  let c0_3417 : Index := 0#32
  ![v6381.toNat, 0]
def k0_off86 (k0_t1 : Fin k0_t1_loop.trips) : Fin 4 → Nat :=
  let c5_3418 : Index := 5#32
  let c0_3419 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6385 : Index := Scalar.indexCast v5643
  let c127_i32 : BitVec 32 := 127#32
  let v5644 : BitVec 32 := Scalar.andi arg34 c127_i32
  let v6386 : Index := Scalar.indexCast v5644
  ![5, 0, v6385.toNat, v6386.toNat]
def k0_off87 (v6387 : BitVec 32) : Fin 3 → Nat :=
  let c16383_i32_3422 : BitVec 32 := 16383#32
  let v6391 : BitVec 32 := Scalar.andi v6387 c16383_i32_3422
  let v6392 : Index := Scalar.indexCast v6391
  let c0_3423 : Index := 0#32
  let c0_3424 : Index := 0#32
  ![v6392.toNat, 0, 0]

def k0_chk41 (v6387 : BitVec 32) : Prop :=
  (∀ a, (k0_off87 v6387) a + S1x1x128.size a ≤ S8192x1x128.size a)
theorem k0_off87_inb : ∀ (v6387 : BitVec 32) (k0_hw41 : k0_chk41 v6387), ∀ a, (k0_off87 v6387) a + S1x1x128.size a ≤ S8192x1x128.size a := fun v6387 k0_hw41 => k0_hw41

def k0_off88 (k0_t1 : Fin k0_t1_loop.trips) : Fin 4 → Nat :=
  let c5_3427 : Index := 5#32
  let c1_3428 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6402 : Index := Scalar.indexCast v5643
  let c127_i32 : BitVec 32 := 127#32
  let v5644 : BitVec 32 := Scalar.andi arg34 c127_i32
  let v6403 : Index := Scalar.indexCast v5644
  ![5, 1, v6402.toNat, v6403.toNat]
def k0_off89 (v6404 : BitVec 32) : Fin 3 → Nat :=
  let c16383_i32_3431 : BitVec 32 := 16383#32
  let v6408 : BitVec 32 := Scalar.andi v6404 c16383_i32_3431
  let v6409 : Index := Scalar.indexCast v6408
  let c0_3432 : Index := 0#32
  let c0_3433 : Index := 0#32
  ![v6409.toNat, 0, 0]

def k0_chk42 (v6404 : BitVec 32) : Prop :=
  (∀ a, (k0_off89 v6404) a + S1x1x128.size a ≤ S8192x1x128.size a)
theorem k0_off89_inb : ∀ (v6404 : BitVec 32) (k0_hw42 : k0_chk42 v6404), ∀ a, (k0_off89 v6404) a + S1x1x128.size a ≤ S8192x1x128.size a := fun v6404 k0_hw42 => k0_hw42

def k0_off90 (k0_t1 : Fin k0_t1_loop.trips) : Fin 4 → Nat :=
  let c5_3436 : Index := 5#32
  let c2_3437 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6419 : Index := Scalar.indexCast v5643
  let c127_i32 : BitVec 32 := 127#32
  let v5644 : BitVec 32 := Scalar.andi arg34 c127_i32
  let v6420 : Index := Scalar.indexCast v5644
  ![5, 2, v6419.toNat, v6420.toNat]
def k0_off91 (v6421 : BitVec 32) : Fin 3 → Nat :=
  let c16383_i32_3440 : BitVec 32 := 16383#32
  let v6425 : BitVec 32 := Scalar.andi v6421 c16383_i32_3440
  let v6426 : Index := Scalar.indexCast v6425
  let c0_3441 : Index := 0#32
  let c0_3442 : Index := 0#32
  ![v6426.toNat, 0, 0]

def k0_chk43 (v6421 : BitVec 32) : Prop :=
  (∀ a, (k0_off91 v6421) a + S1x1x128.size a ≤ S8192x1x128.size a)
theorem k0_off91_inb : ∀ (v6421 : BitVec 32) (k0_hw43 : k0_chk43 v6421), ∀ a, (k0_off91 v6421) a + S1x1x128.size a ≤ S8192x1x128.size a := fun v6421 k0_hw43 => k0_hw43

def k0_off92 (k0_t1 : Fin k0_t1_loop.trips) : Fin 4 → Nat :=
  let c5_3445 : Index := 5#32
  let c3_3446 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6436 : Index := Scalar.indexCast v5643
  let c127_i32 : BitVec 32 := 127#32
  let v5644 : BitVec 32 := Scalar.andi arg34 c127_i32
  let v6437 : Index := Scalar.indexCast v5644
  ![5, 3, v6436.toNat, v6437.toNat]
def k0_off93 (v6438 : BitVec 32) : Fin 3 → Nat :=
  let c16383_i32_3449 : BitVec 32 := 16383#32
  let v6442 : BitVec 32 := Scalar.andi v6438 c16383_i32_3449
  let v6443 : Index := Scalar.indexCast v6442
  let c0_3450 : Index := 0#32
  let c0_3451 : Index := 0#32
  ![v6443.toNat, 0, 0]

def k0_chk44 (v6438 : BitVec 32) : Prop :=
  (∀ a, (k0_off93 v6438) a + S1x1x128.size a ≤ S8192x1x128.size a)
theorem k0_off93_inb : ∀ (v6438 : BitVec 32) (k0_hw44 : k0_chk44 v6438), ∀ a, (k0_off93 v6438) a + S1x1x128.size a ≤ S8192x1x128.size a := fun v6438 k0_hw44 => k0_hw44

def k0_off94 (k0_t1 : Fin k0_t1_loop.trips) : Fin 4 → Nat :=
  let c5_3454 : Index := 5#32
  let c4_3455 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6453 : Index := Scalar.indexCast v5643
  let c127_i32 : BitVec 32 := 127#32
  let v5644 : BitVec 32 := Scalar.andi arg34 c127_i32
  let v6454 : Index := Scalar.indexCast v5644
  ![5, 4, v6453.toNat, v6454.toNat]
def k0_off95 (v6455 : BitVec 32) : Fin 3 → Nat :=
  let c16383_i32_3458 : BitVec 32 := 16383#32
  let v6459 : BitVec 32 := Scalar.andi v6455 c16383_i32_3458
  let v6460 : Index := Scalar.indexCast v6459
  let c0_3459 : Index := 0#32
  let c0_3460 : Index := 0#32
  ![v6460.toNat, 0, 0]

def k0_chk45 (v6455 : BitVec 32) : Prop :=
  (∀ a, (k0_off95 v6455) a + S1x1x128.size a ≤ S8192x1x128.size a)
theorem k0_off95_inb : ∀ (v6455 : BitVec 32) (k0_hw45 : k0_chk45 v6455), ∀ a, (k0_off95 v6455) a + S1x1x128.size a ≤ S8192x1x128.size a := fun v6455 k0_hw45 => k0_hw45

def k0_off96 (k0_t1 : Fin k0_t1_loop.trips) : Fin 4 → Nat :=
  let c5_3463 : Index := 5#32
  let c5_3464 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6470 : Index := Scalar.indexCast v5643
  let c127_i32 : BitVec 32 := 127#32
  let v5644 : BitVec 32 := Scalar.andi arg34 c127_i32
  let v6471 : Index := Scalar.indexCast v5644
  ![5, 5, v6470.toNat, v6471.toNat]
def k0_off97 (v6472 : BitVec 32) : Fin 3 → Nat :=
  let c16383_i32_3467 : BitVec 32 := 16383#32
  let v6476 : BitVec 32 := Scalar.andi v6472 c16383_i32_3467
  let v6477 : Index := Scalar.indexCast v6476
  let c0_3468 : Index := 0#32
  let c0_3469 : Index := 0#32
  ![v6477.toNat, 0, 0]

def k0_chk46 (v6472 : BitVec 32) : Prop :=
  (∀ a, (k0_off97 v6472) a + S1x1x128.size a ≤ S8192x1x128.size a)
theorem k0_off97_inb : ∀ (v6472 : BitVec 32) (k0_hw46 : k0_chk46 v6472), ∀ a, (k0_off97 v6472) a + S1x1x128.size a ≤ S8192x1x128.size a := fun v6472 k0_hw46 => k0_hw46

def k0_off98 (k0_t1 : Fin k0_t1_loop.trips) : Fin 4 → Nat :=
  let c5_3472 : Index := 5#32
  let c6_3473 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6487 : Index := Scalar.indexCast v5643
  let c127_i32 : BitVec 32 := 127#32
  let v5644 : BitVec 32 := Scalar.andi arg34 c127_i32
  let v6488 : Index := Scalar.indexCast v5644
  ![5, 6, v6487.toNat, v6488.toNat]
def k0_off99 (v6489 : BitVec 32) : Fin 3 → Nat :=
  let c16383_i32_3476 : BitVec 32 := 16383#32
  let v6493 : BitVec 32 := Scalar.andi v6489 c16383_i32_3476
  let v6494 : Index := Scalar.indexCast v6493
  let c0_3477 : Index := 0#32
  let c0_3478 : Index := 0#32
  ![v6494.toNat, 0, 0]

def k0_chk47 (v6489 : BitVec 32) : Prop :=
  (∀ a, (k0_off99 v6489) a + S1x1x128.size a ≤ S8192x1x128.size a)
theorem k0_off99_inb : ∀ (v6489 : BitVec 32) (k0_hw47 : k0_chk47 v6489), ∀ a, (k0_off99 v6489) a + S1x1x128.size a ≤ S8192x1x128.size a := fun v6489 k0_hw47 => k0_hw47

def k0_off100 (k0_t1 : Fin k0_t1_loop.trips) : Fin 4 → Nat :=
  let c5_3481 : Index := 5#32
  let c7_3482 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6504 : Index := Scalar.indexCast v5643
  let c127_i32 : BitVec 32 := 127#32
  let v5644 : BitVec 32 := Scalar.andi arg34 c127_i32
  let v6505 : Index := Scalar.indexCast v5644
  ![5, 7, v6504.toNat, v6505.toNat]
def k0_off101 (v6506 : BitVec 32) : Fin 3 → Nat :=
  let c16383_i32_3485 : BitVec 32 := 16383#32
  let v6510 : BitVec 32 := Scalar.andi v6506 c16383_i32_3485
  let v6511 : Index := Scalar.indexCast v6510
  let c0_3486 : Index := 0#32
  let c0_3487 : Index := 0#32
  ![v6511.toNat, 0, 0]

def k0_chk48 (v6506 : BitVec 32) : Prop :=
  (∀ a, (k0_off101 v6506) a + S1x1x128.size a ≤ S8192x1x128.size a)
theorem k0_off101_inb : ∀ (v6506 : BitVec 32) (k0_hw48 : k0_chk48 v6506), ∀ a, (k0_off101 v6506) a + S1x1x128.size a ≤ S8192x1x128.size a := fun v6506 k0_hw48 => k0_hw48

def k0_off102 (k0_t1 : Fin k0_t1_loop.trips) : Fin 2 → Nat :=
  let c2560_i32 : BitVec 32 := 2560#32
  let c0_i32_2982 : BitVec 32 := 0#32
  let c1_i32_2983 : BitVec 32 := 1#32
  let arg34 : BitVec 32 := Scf.iv c0_i32_2982 c1_i32_2983 k0_t1
  let v6528 : BitVec 32 := Scalar.addi c2560_i32 arg34
  let v6529 : Index := Scalar.indexCast v6528
  let c0_3490 : Index := 0#32
  ![v6529.toNat, 0]
def k0_off103 (k0_t1 : Fin k0_t1_loop.trips) : Fin 4 → Nat :=
  let c6_3491 : Index := 6#32
  let c0_3492 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6533 : Index := Scalar.indexCast v5643
  let c127_i32 : BitVec 32 := 127#32
  let v5644 : BitVec 32 := Scalar.andi arg34 c127_i32
  let v6534 : Index := Scalar.indexCast v5644
  ![6, 0, v6533.toNat, v6534.toNat]
def k0_off104 (v6535 : BitVec 32) : Fin 3 → Nat :=
  let c16383_i32_3495 : BitVec 32 := 16383#32
  let v6539 : BitVec 32 := Scalar.andi v6535 c16383_i32_3495
  let v6540 : Index := Scalar.indexCast v6539
  let c0_3496 : Index := 0#32
  let c0_3497 : Index := 0#32
  ![v6540.toNat, 0, 0]

def k0_chk49 (v6535 : BitVec 32) : Prop :=
  (∀ a, (k0_off104 v6535) a + S1x1x128.size a ≤ S8192x1x128.size a)
theorem k0_off104_inb : ∀ (v6535 : BitVec 32) (k0_hw49 : k0_chk49 v6535), ∀ a, (k0_off104 v6535) a + S1x1x128.size a ≤ S8192x1x128.size a := fun v6535 k0_hw49 => k0_hw49

def k0_off105 (k0_t1 : Fin k0_t1_loop.trips) : Fin 4 → Nat :=
  let c6_3500 : Index := 6#32
  let c1_3501 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6550 : Index := Scalar.indexCast v5643
  let c127_i32 : BitVec 32 := 127#32
  let v5644 : BitVec 32 := Scalar.andi arg34 c127_i32
  let v6551 : Index := Scalar.indexCast v5644
  ![6, 1, v6550.toNat, v6551.toNat]
def k0_off106 (v6552 : BitVec 32) : Fin 3 → Nat :=
  let c16383_i32_3504 : BitVec 32 := 16383#32
  let v6556 : BitVec 32 := Scalar.andi v6552 c16383_i32_3504
  let v6557 : Index := Scalar.indexCast v6556
  let c0_3505 : Index := 0#32
  let c0_3506 : Index := 0#32
  ![v6557.toNat, 0, 0]

def k0_chk50 (v6552 : BitVec 32) : Prop :=
  (∀ a, (k0_off106 v6552) a + S1x1x128.size a ≤ S8192x1x128.size a)
theorem k0_off106_inb : ∀ (v6552 : BitVec 32) (k0_hw50 : k0_chk50 v6552), ∀ a, (k0_off106 v6552) a + S1x1x128.size a ≤ S8192x1x128.size a := fun v6552 k0_hw50 => k0_hw50

def k0_off107 (k0_t1 : Fin k0_t1_loop.trips) : Fin 4 → Nat :=
  let c6_3509 : Index := 6#32
  let c2_3510 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6567 : Index := Scalar.indexCast v5643
  let c127_i32 : BitVec 32 := 127#32
  let v5644 : BitVec 32 := Scalar.andi arg34 c127_i32
  let v6568 : Index := Scalar.indexCast v5644
  ![6, 2, v6567.toNat, v6568.toNat]
def k0_off108 (v6569 : BitVec 32) : Fin 3 → Nat :=
  let c16383_i32_3513 : BitVec 32 := 16383#32
  let v6573 : BitVec 32 := Scalar.andi v6569 c16383_i32_3513
  let v6574 : Index := Scalar.indexCast v6573
  let c0_3514 : Index := 0#32
  let c0_3515 : Index := 0#32
  ![v6574.toNat, 0, 0]

def k0_chk51 (v6569 : BitVec 32) : Prop :=
  (∀ a, (k0_off108 v6569) a + S1x1x128.size a ≤ S8192x1x128.size a)
theorem k0_off108_inb : ∀ (v6569 : BitVec 32) (k0_hw51 : k0_chk51 v6569), ∀ a, (k0_off108 v6569) a + S1x1x128.size a ≤ S8192x1x128.size a := fun v6569 k0_hw51 => k0_hw51

def k0_off109 (k0_t1 : Fin k0_t1_loop.trips) : Fin 4 → Nat :=
  let c6_3518 : Index := 6#32
  let c3_3519 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6584 : Index := Scalar.indexCast v5643
  let c127_i32 : BitVec 32 := 127#32
  let v5644 : BitVec 32 := Scalar.andi arg34 c127_i32
  let v6585 : Index := Scalar.indexCast v5644
  ![6, 3, v6584.toNat, v6585.toNat]
def k0_off110 (v6586 : BitVec 32) : Fin 3 → Nat :=
  let c16383_i32_3522 : BitVec 32 := 16383#32
  let v6590 : BitVec 32 := Scalar.andi v6586 c16383_i32_3522
  let v6591 : Index := Scalar.indexCast v6590
  let c0_3523 : Index := 0#32
  let c0_3524 : Index := 0#32
  ![v6591.toNat, 0, 0]

def k0_chk52 (v6586 : BitVec 32) : Prop :=
  (∀ a, (k0_off110 v6586) a + S1x1x128.size a ≤ S8192x1x128.size a)
theorem k0_off110_inb : ∀ (v6586 : BitVec 32) (k0_hw52 : k0_chk52 v6586), ∀ a, (k0_off110 v6586) a + S1x1x128.size a ≤ S8192x1x128.size a := fun v6586 k0_hw52 => k0_hw52

def k0_off111 (k0_t1 : Fin k0_t1_loop.trips) : Fin 4 → Nat :=
  let c6_3527 : Index := 6#32
  let c4_3528 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6601 : Index := Scalar.indexCast v5643
  let c127_i32 : BitVec 32 := 127#32
  let v5644 : BitVec 32 := Scalar.andi arg34 c127_i32
  let v6602 : Index := Scalar.indexCast v5644
  ![6, 4, v6601.toNat, v6602.toNat]
def k0_off112 (v6603 : BitVec 32) : Fin 3 → Nat :=
  let c16383_i32_3531 : BitVec 32 := 16383#32
  let v6607 : BitVec 32 := Scalar.andi v6603 c16383_i32_3531
  let v6608 : Index := Scalar.indexCast v6607
  let c0_3532 : Index := 0#32
  let c0_3533 : Index := 0#32
  ![v6608.toNat, 0, 0]

def k0_chk53 (v6603 : BitVec 32) : Prop :=
  (∀ a, (k0_off112 v6603) a + S1x1x128.size a ≤ S8192x1x128.size a)
theorem k0_off112_inb : ∀ (v6603 : BitVec 32) (k0_hw53 : k0_chk53 v6603), ∀ a, (k0_off112 v6603) a + S1x1x128.size a ≤ S8192x1x128.size a := fun v6603 k0_hw53 => k0_hw53

def k0_off113 (k0_t1 : Fin k0_t1_loop.trips) : Fin 4 → Nat :=
  let c6_3536 : Index := 6#32
  let c5_3537 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6618 : Index := Scalar.indexCast v5643
  let c127_i32 : BitVec 32 := 127#32
  let v5644 : BitVec 32 := Scalar.andi arg34 c127_i32
  let v6619 : Index := Scalar.indexCast v5644
  ![6, 5, v6618.toNat, v6619.toNat]
def k0_off114 (v6620 : BitVec 32) : Fin 3 → Nat :=
  let c16383_i32_3540 : BitVec 32 := 16383#32
  let v6624 : BitVec 32 := Scalar.andi v6620 c16383_i32_3540
  let v6625 : Index := Scalar.indexCast v6624
  let c0_3541 : Index := 0#32
  let c0_3542 : Index := 0#32
  ![v6625.toNat, 0, 0]

def k0_chk54 (v6620 : BitVec 32) : Prop :=
  (∀ a, (k0_off114 v6620) a + S1x1x128.size a ≤ S8192x1x128.size a)
theorem k0_off114_inb : ∀ (v6620 : BitVec 32) (k0_hw54 : k0_chk54 v6620), ∀ a, (k0_off114 v6620) a + S1x1x128.size a ≤ S8192x1x128.size a := fun v6620 k0_hw54 => k0_hw54

def k0_off115 (k0_t1 : Fin k0_t1_loop.trips) : Fin 4 → Nat :=
  let c6_3545 : Index := 6#32
  let c6_3546 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6635 : Index := Scalar.indexCast v5643
  let c127_i32 : BitVec 32 := 127#32
  let v5644 : BitVec 32 := Scalar.andi arg34 c127_i32
  let v6636 : Index := Scalar.indexCast v5644
  ![6, 6, v6635.toNat, v6636.toNat]
def k0_off116 (v6637 : BitVec 32) : Fin 3 → Nat :=
  let c16383_i32_3549 : BitVec 32 := 16383#32
  let v6641 : BitVec 32 := Scalar.andi v6637 c16383_i32_3549
  let v6642 : Index := Scalar.indexCast v6641
  let c0_3550 : Index := 0#32
  let c0_3551 : Index := 0#32
  ![v6642.toNat, 0, 0]

def k0_chk55 (v6637 : BitVec 32) : Prop :=
  (∀ a, (k0_off116 v6637) a + S1x1x128.size a ≤ S8192x1x128.size a)
theorem k0_off116_inb : ∀ (v6637 : BitVec 32) (k0_hw55 : k0_chk55 v6637), ∀ a, (k0_off116 v6637) a + S1x1x128.size a ≤ S8192x1x128.size a := fun v6637 k0_hw55 => k0_hw55

def k0_off117 (k0_t1 : Fin k0_t1_loop.trips) : Fin 4 → Nat :=
  let c6_3554 : Index := 6#32
  let c7_3555 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6652 : Index := Scalar.indexCast v5643
  let c127_i32 : BitVec 32 := 127#32
  let v5644 : BitVec 32 := Scalar.andi arg34 c127_i32
  let v6653 : Index := Scalar.indexCast v5644
  ![6, 7, v6652.toNat, v6653.toNat]
def k0_off118 (v6654 : BitVec 32) : Fin 3 → Nat :=
  let c16383_i32_3558 : BitVec 32 := 16383#32
  let v6658 : BitVec 32 := Scalar.andi v6654 c16383_i32_3558
  let v6659 : Index := Scalar.indexCast v6658
  let c0_3559 : Index := 0#32
  let c0_3560 : Index := 0#32
  ![v6659.toNat, 0, 0]

def k0_chk56 (v6654 : BitVec 32) : Prop :=
  (∀ a, (k0_off118 v6654) a + S1x1x128.size a ≤ S8192x1x128.size a)
theorem k0_off118_inb : ∀ (v6654 : BitVec 32) (k0_hw56 : k0_chk56 v6654), ∀ a, (k0_off118 v6654) a + S1x1x128.size a ≤ S8192x1x128.size a := fun v6654 k0_hw56 => k0_hw56

def k0_off119 (k0_t1 : Fin k0_t1_loop.trips) : Fin 2 → Nat :=
  let c3072_i32 : BitVec 32 := 3072#32
  let c0_i32_2982 : BitVec 32 := 0#32
  let c1_i32_2983 : BitVec 32 := 1#32
  let arg34 : BitVec 32 := Scf.iv c0_i32_2982 c1_i32_2983 k0_t1
  let v6676 : BitVec 32 := Scalar.addi c3072_i32 arg34
  let v6677 : Index := Scalar.indexCast v6676
  let c0_3563 : Index := 0#32
  ![v6677.toNat, 0]
def k0_off120 (k0_t1 : Fin k0_t1_loop.trips) : Fin 4 → Nat :=
  let c7_3564 : Index := 7#32
  let c0_3565 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6681 : Index := Scalar.indexCast v5643
  let c127_i32 : BitVec 32 := 127#32
  let v5644 : BitVec 32 := Scalar.andi arg34 c127_i32
  let v6682 : Index := Scalar.indexCast v5644
  ![7, 0, v6681.toNat, v6682.toNat]
def k0_off121 (v6683 : BitVec 32) : Fin 3 → Nat :=
  let c16383_i32_3568 : BitVec 32 := 16383#32
  let v6687 : BitVec 32 := Scalar.andi v6683 c16383_i32_3568
  let v6688 : Index := Scalar.indexCast v6687
  let c0_3569 : Index := 0#32
  let c0_3570 : Index := 0#32
  ![v6688.toNat, 0, 0]

def k0_chk57 (v6683 : BitVec 32) : Prop :=
  (∀ a, (k0_off121 v6683) a + S1x1x128.size a ≤ S8192x1x128.size a)
theorem k0_off121_inb : ∀ (v6683 : BitVec 32) (k0_hw57 : k0_chk57 v6683), ∀ a, (k0_off121 v6683) a + S1x1x128.size a ≤ S8192x1x128.size a := fun v6683 k0_hw57 => k0_hw57

def k0_off122 (k0_t1 : Fin k0_t1_loop.trips) : Fin 4 → Nat :=
  let c7_3573 : Index := 7#32
  let c1_3574 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6698 : Index := Scalar.indexCast v5643
  let c127_i32 : BitVec 32 := 127#32
  let v5644 : BitVec 32 := Scalar.andi arg34 c127_i32
  let v6699 : Index := Scalar.indexCast v5644
  ![7, 1, v6698.toNat, v6699.toNat]
def k0_off123 (v6700 : BitVec 32) : Fin 3 → Nat :=
  let c16383_i32_3577 : BitVec 32 := 16383#32
  let v6704 : BitVec 32 := Scalar.andi v6700 c16383_i32_3577
  let v6705 : Index := Scalar.indexCast v6704
  let c0_3578 : Index := 0#32
  let c0_3579 : Index := 0#32
  ![v6705.toNat, 0, 0]

def k0_chk58 (v6700 : BitVec 32) : Prop :=
  (∀ a, (k0_off123 v6700) a + S1x1x128.size a ≤ S8192x1x128.size a)
theorem k0_off123_inb : ∀ (v6700 : BitVec 32) (k0_hw58 : k0_chk58 v6700), ∀ a, (k0_off123 v6700) a + S1x1x128.size a ≤ S8192x1x128.size a := fun v6700 k0_hw58 => k0_hw58

def k0_off124 (k0_t1 : Fin k0_t1_loop.trips) : Fin 4 → Nat :=
  let c7_3582 : Index := 7#32
  let c2_3583 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6715 : Index := Scalar.indexCast v5643
  let c127_i32 : BitVec 32 := 127#32
  let v5644 : BitVec 32 := Scalar.andi arg34 c127_i32
  let v6716 : Index := Scalar.indexCast v5644
  ![7, 2, v6715.toNat, v6716.toNat]
def k0_off125 (v6717 : BitVec 32) : Fin 3 → Nat :=
  let c16383_i32_3586 : BitVec 32 := 16383#32
  let v6721 : BitVec 32 := Scalar.andi v6717 c16383_i32_3586
  let v6722 : Index := Scalar.indexCast v6721
  let c0_3587 : Index := 0#32
  let c0_3588 : Index := 0#32
  ![v6722.toNat, 0, 0]

def k0_chk59 (v6717 : BitVec 32) : Prop :=
  (∀ a, (k0_off125 v6717) a + S1x1x128.size a ≤ S8192x1x128.size a)
theorem k0_off125_inb : ∀ (v6717 : BitVec 32) (k0_hw59 : k0_chk59 v6717), ∀ a, (k0_off125 v6717) a + S1x1x128.size a ≤ S8192x1x128.size a := fun v6717 k0_hw59 => k0_hw59

def k0_off126 (k0_t1 : Fin k0_t1_loop.trips) : Fin 4 → Nat :=
  let c7_3591 : Index := 7#32
  let c3_3592 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6732 : Index := Scalar.indexCast v5643
  let c127_i32 : BitVec 32 := 127#32
  let v5644 : BitVec 32 := Scalar.andi arg34 c127_i32
  let v6733 : Index := Scalar.indexCast v5644
  ![7, 3, v6732.toNat, v6733.toNat]
def k0_off127 (v6734 : BitVec 32) : Fin 3 → Nat :=
  let c16383_i32_3595 : BitVec 32 := 16383#32
  let v6738 : BitVec 32 := Scalar.andi v6734 c16383_i32_3595
  let v6739 : Index := Scalar.indexCast v6738
  let c0_3596 : Index := 0#32
  let c0_3597 : Index := 0#32
  ![v6739.toNat, 0, 0]

def k0_chk60 (v6734 : BitVec 32) : Prop :=
  (∀ a, (k0_off127 v6734) a + S1x1x128.size a ≤ S8192x1x128.size a)
theorem k0_off127_inb : ∀ (v6734 : BitVec 32) (k0_hw60 : k0_chk60 v6734), ∀ a, (k0_off127 v6734) a + S1x1x128.size a ≤ S8192x1x128.size a := fun v6734 k0_hw60 => k0_hw60

def k0_off128 (k0_t1 : Fin k0_t1_loop.trips) : Fin 4 → Nat :=
  let c7_3600 : Index := 7#32
  let c4_3601 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6749 : Index := Scalar.indexCast v5643
  let c127_i32 : BitVec 32 := 127#32
  let v5644 : BitVec 32 := Scalar.andi arg34 c127_i32
  let v6750 : Index := Scalar.indexCast v5644
  ![7, 4, v6749.toNat, v6750.toNat]
def k0_off129 (v6751 : BitVec 32) : Fin 3 → Nat :=
  let c16383_i32_3604 : BitVec 32 := 16383#32
  let v6755 : BitVec 32 := Scalar.andi v6751 c16383_i32_3604
  let v6756 : Index := Scalar.indexCast v6755
  let c0_3605 : Index := 0#32
  let c0_3606 : Index := 0#32
  ![v6756.toNat, 0, 0]

def k0_chk61 (v6751 : BitVec 32) : Prop :=
  (∀ a, (k0_off129 v6751) a + S1x1x128.size a ≤ S8192x1x128.size a)
theorem k0_off129_inb : ∀ (v6751 : BitVec 32) (k0_hw61 : k0_chk61 v6751), ∀ a, (k0_off129 v6751) a + S1x1x128.size a ≤ S8192x1x128.size a := fun v6751 k0_hw61 => k0_hw61

def k0_off130 (k0_t1 : Fin k0_t1_loop.trips) : Fin 4 → Nat :=
  let c7_3609 : Index := 7#32
  let c5_3610 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6766 : Index := Scalar.indexCast v5643
  let c127_i32 : BitVec 32 := 127#32
  let v5644 : BitVec 32 := Scalar.andi arg34 c127_i32
  let v6767 : Index := Scalar.indexCast v5644
  ![7, 5, v6766.toNat, v6767.toNat]
def k0_off131 (v6768 : BitVec 32) : Fin 3 → Nat :=
  let c16383_i32_3613 : BitVec 32 := 16383#32
  let v6772 : BitVec 32 := Scalar.andi v6768 c16383_i32_3613
  let v6773 : Index := Scalar.indexCast v6772
  let c0_3614 : Index := 0#32
  let c0_3615 : Index := 0#32
  ![v6773.toNat, 0, 0]

def k0_chk62 (v6768 : BitVec 32) : Prop :=
  (∀ a, (k0_off131 v6768) a + S1x1x128.size a ≤ S8192x1x128.size a)
theorem k0_off131_inb : ∀ (v6768 : BitVec 32) (k0_hw62 : k0_chk62 v6768), ∀ a, (k0_off131 v6768) a + S1x1x128.size a ≤ S8192x1x128.size a := fun v6768 k0_hw62 => k0_hw62

def k0_off132 (k0_t1 : Fin k0_t1_loop.trips) : Fin 4 → Nat :=
  let c7_3618 : Index := 7#32
  let c6_3619 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6783 : Index := Scalar.indexCast v5643
  let c127_i32 : BitVec 32 := 127#32
  let v5644 : BitVec 32 := Scalar.andi arg34 c127_i32
  let v6784 : Index := Scalar.indexCast v5644
  ![7, 6, v6783.toNat, v6784.toNat]
def k0_off133 (v6785 : BitVec 32) : Fin 3 → Nat :=
  let c16383_i32_3622 : BitVec 32 := 16383#32
  let v6789 : BitVec 32 := Scalar.andi v6785 c16383_i32_3622
  let v6790 : Index := Scalar.indexCast v6789
  let c0_3623 : Index := 0#32
  let c0_3624 : Index := 0#32
  ![v6790.toNat, 0, 0]

def k0_chk63 (v6785 : BitVec 32) : Prop :=
  (∀ a, (k0_off133 v6785) a + S1x1x128.size a ≤ S8192x1x128.size a)
theorem k0_off133_inb : ∀ (v6785 : BitVec 32) (k0_hw63 : k0_chk63 v6785), ∀ a, (k0_off133 v6785) a + S1x1x128.size a ≤ S8192x1x128.size a := fun v6785 k0_hw63 => k0_hw63

def k0_off134 (k0_t1 : Fin k0_t1_loop.trips) : Fin 4 → Nat :=
  let c7_3627 : Index := 7#32
  let c7_3628 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6800 : Index := Scalar.indexCast v5643
  let c127_i32 : BitVec 32 := 127#32
  let v5644 : BitVec 32 := Scalar.andi arg34 c127_i32
  let v6801 : Index := Scalar.indexCast v5644
  ![7, 7, v6800.toNat, v6801.toNat]
def k0_off135 (v6802 : BitVec 32) : Fin 3 → Nat :=
  let c16383_i32_3631 : BitVec 32 := 16383#32
  let v6806 : BitVec 32 := Scalar.andi v6802 c16383_i32_3631
  let v6807 : Index := Scalar.indexCast v6806
  let c0_3632 : Index := 0#32
  let c0_3633 : Index := 0#32
  ![v6807.toNat, 0, 0]

def k0_chk64 (v6802 : BitVec 32) : Prop :=
  (∀ a, (k0_off135 v6802) a + S1x1x128.size a ≤ S8192x1x128.size a)
theorem k0_off135_inb : ∀ (v6802 : BitVec 32) (k0_hw64 : k0_chk64 v6802), ∀ a, (k0_off135 v6802) a + S1x1x128.size a ≤ S8192x1x128.size a := fun v6802 k0_hw64 => k0_hw64

def k0_off136 (k0_t1 : Fin k0_t1_loop.trips) : Fin 2 → Nat :=
  let c3584_i32 : BitVec 32 := 3584#32
  let c0_i32_2982 : BitVec 32 := 0#32
  let c1_i32_2983 : BitVec 32 := 1#32
  let arg34 : BitVec 32 := Scf.iv c0_i32_2982 c1_i32_2983 k0_t1
  let v6824 : BitVec 32 := Scalar.addi c3584_i32 arg34
  let v6825 : Index := Scalar.indexCast v6824
  let c0_3636 : Index := 0#32
  ![v6825.toNat, 0]
def k0_off137 (k0_t1 : Fin k0_t1_loop.trips) : Fin 4 → Nat :=
  let c8_3637 : Index := 8#32
  let c0_3638 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6829 : Index := Scalar.indexCast v5643
  let c127_i32 : BitVec 32 := 127#32
  let v5644 : BitVec 32 := Scalar.andi arg34 c127_i32
  let v6830 : Index := Scalar.indexCast v5644
  ![8, 0, v6829.toNat, v6830.toNat]
def k0_off138 (v6831 : BitVec 32) : Fin 3 → Nat :=
  let c16383_i32_3641 : BitVec 32 := 16383#32
  let v6835 : BitVec 32 := Scalar.andi v6831 c16383_i32_3641
  let v6836 : Index := Scalar.indexCast v6835
  let c0_3642 : Index := 0#32
  let c0_3643 : Index := 0#32
  ![v6836.toNat, 0, 0]

def k0_chk65 (v6831 : BitVec 32) : Prop :=
  (∀ a, (k0_off138 v6831) a + S1x1x128.size a ≤ S8192x1x128.size a)
theorem k0_off138_inb : ∀ (v6831 : BitVec 32) (k0_hw65 : k0_chk65 v6831), ∀ a, (k0_off138 v6831) a + S1x1x128.size a ≤ S8192x1x128.size a := fun v6831 k0_hw65 => k0_hw65

def k0_off139 (k0_t1 : Fin k0_t1_loop.trips) : Fin 4 → Nat :=
  let c8_3646 : Index := 8#32
  let c1_3647 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6846 : Index := Scalar.indexCast v5643
  let c127_i32 : BitVec 32 := 127#32
  let v5644 : BitVec 32 := Scalar.andi arg34 c127_i32
  let v6847 : Index := Scalar.indexCast v5644
  ![8, 1, v6846.toNat, v6847.toNat]
def k0_off140 (v6848 : BitVec 32) : Fin 3 → Nat :=
  let c16383_i32_3650 : BitVec 32 := 16383#32
  let v6852 : BitVec 32 := Scalar.andi v6848 c16383_i32_3650
  let v6853 : Index := Scalar.indexCast v6852
  let c0_3651 : Index := 0#32
  let c0_3652 : Index := 0#32
  ![v6853.toNat, 0, 0]

def k0_chk66 (v6848 : BitVec 32) : Prop :=
  (∀ a, (k0_off140 v6848) a + S1x1x128.size a ≤ S8192x1x128.size a)
theorem k0_off140_inb : ∀ (v6848 : BitVec 32) (k0_hw66 : k0_chk66 v6848), ∀ a, (k0_off140 v6848) a + S1x1x128.size a ≤ S8192x1x128.size a := fun v6848 k0_hw66 => k0_hw66

def k0_off141 (k0_t1 : Fin k0_t1_loop.trips) : Fin 4 → Nat :=
  let c8_3655 : Index := 8#32
  let c2_3656 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6863 : Index := Scalar.indexCast v5643
  let c127_i32 : BitVec 32 := 127#32
  let v5644 : BitVec 32 := Scalar.andi arg34 c127_i32
  let v6864 : Index := Scalar.indexCast v5644
  ![8, 2, v6863.toNat, v6864.toNat]
def k0_off142 (v6865 : BitVec 32) : Fin 3 → Nat :=
  let c16383_i32_3659 : BitVec 32 := 16383#32
  let v6869 : BitVec 32 := Scalar.andi v6865 c16383_i32_3659
  let v6870 : Index := Scalar.indexCast v6869
  let c0_3660 : Index := 0#32
  let c0_3661 : Index := 0#32
  ![v6870.toNat, 0, 0]

def k0_chk67 (v6865 : BitVec 32) : Prop :=
  (∀ a, (k0_off142 v6865) a + S1x1x128.size a ≤ S8192x1x128.size a)
theorem k0_off142_inb : ∀ (v6865 : BitVec 32) (k0_hw67 : k0_chk67 v6865), ∀ a, (k0_off142 v6865) a + S1x1x128.size a ≤ S8192x1x128.size a := fun v6865 k0_hw67 => k0_hw67

def k0_off143 (k0_t1 : Fin k0_t1_loop.trips) : Fin 4 → Nat :=
  let c8_3664 : Index := 8#32
  let c3_3665 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6880 : Index := Scalar.indexCast v5643
  let c127_i32 : BitVec 32 := 127#32
  let v5644 : BitVec 32 := Scalar.andi arg34 c127_i32
  let v6881 : Index := Scalar.indexCast v5644
  ![8, 3, v6880.toNat, v6881.toNat]
def k0_off144 (v6882 : BitVec 32) : Fin 3 → Nat :=
  let c16383_i32_3668 : BitVec 32 := 16383#32
  let v6886 : BitVec 32 := Scalar.andi v6882 c16383_i32_3668
  let v6887 : Index := Scalar.indexCast v6886
  let c0_3669 : Index := 0#32
  let c0_3670 : Index := 0#32
  ![v6887.toNat, 0, 0]

def k0_chk68 (v6882 : BitVec 32) : Prop :=
  (∀ a, (k0_off144 v6882) a + S1x1x128.size a ≤ S8192x1x128.size a)
theorem k0_off144_inb : ∀ (v6882 : BitVec 32) (k0_hw68 : k0_chk68 v6882), ∀ a, (k0_off144 v6882) a + S1x1x128.size a ≤ S8192x1x128.size a := fun v6882 k0_hw68 => k0_hw68

def k0_off145 (k0_t1 : Fin k0_t1_loop.trips) : Fin 4 → Nat :=
  let c8_3673 : Index := 8#32
  let c4_3674 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6897 : Index := Scalar.indexCast v5643
  let c127_i32 : BitVec 32 := 127#32
  let v5644 : BitVec 32 := Scalar.andi arg34 c127_i32
  let v6898 : Index := Scalar.indexCast v5644
  ![8, 4, v6897.toNat, v6898.toNat]
def k0_off146 (v6899 : BitVec 32) : Fin 3 → Nat :=
  let c16383_i32_3677 : BitVec 32 := 16383#32
  let v6903 : BitVec 32 := Scalar.andi v6899 c16383_i32_3677
  let v6904 : Index := Scalar.indexCast v6903
  let c0_3678 : Index := 0#32
  let c0_3679 : Index := 0#32
  ![v6904.toNat, 0, 0]

def k0_chk69 (v6899 : BitVec 32) : Prop :=
  (∀ a, (k0_off146 v6899) a + S1x1x128.size a ≤ S8192x1x128.size a)
theorem k0_off146_inb : ∀ (v6899 : BitVec 32) (k0_hw69 : k0_chk69 v6899), ∀ a, (k0_off146 v6899) a + S1x1x128.size a ≤ S8192x1x128.size a := fun v6899 k0_hw69 => k0_hw69

def k0_off147 (k0_t1 : Fin k0_t1_loop.trips) : Fin 4 → Nat :=
  let c8_3682 : Index := 8#32
  let c5_3683 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6914 : Index := Scalar.indexCast v5643
  let c127_i32 : BitVec 32 := 127#32
  let v5644 : BitVec 32 := Scalar.andi arg34 c127_i32
  let v6915 : Index := Scalar.indexCast v5644
  ![8, 5, v6914.toNat, v6915.toNat]
def k0_off148 (v6916 : BitVec 32) : Fin 3 → Nat :=
  let c16383_i32_3686 : BitVec 32 := 16383#32
  let v6920 : BitVec 32 := Scalar.andi v6916 c16383_i32_3686
  let v6921 : Index := Scalar.indexCast v6920
  let c0_3687 : Index := 0#32
  let c0_3688 : Index := 0#32
  ![v6921.toNat, 0, 0]

def k0_chk70 (v6916 : BitVec 32) : Prop :=
  (∀ a, (k0_off148 v6916) a + S1x1x128.size a ≤ S8192x1x128.size a)
theorem k0_off148_inb : ∀ (v6916 : BitVec 32) (k0_hw70 : k0_chk70 v6916), ∀ a, (k0_off148 v6916) a + S1x1x128.size a ≤ S8192x1x128.size a := fun v6916 k0_hw70 => k0_hw70

def k0_off149 (k0_t1 : Fin k0_t1_loop.trips) : Fin 4 → Nat :=
  let c8_3691 : Index := 8#32
  let c6_3692 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6931 : Index := Scalar.indexCast v5643
  let c127_i32 : BitVec 32 := 127#32
  let v5644 : BitVec 32 := Scalar.andi arg34 c127_i32
  let v6932 : Index := Scalar.indexCast v5644
  ![8, 6, v6931.toNat, v6932.toNat]
def k0_off150 (v6933 : BitVec 32) : Fin 3 → Nat :=
  let c16383_i32_3695 : BitVec 32 := 16383#32
  let v6937 : BitVec 32 := Scalar.andi v6933 c16383_i32_3695
  let v6938 : Index := Scalar.indexCast v6937
  let c0_3696 : Index := 0#32
  let c0_3697 : Index := 0#32
  ![v6938.toNat, 0, 0]

def k0_chk71 (v6933 : BitVec 32) : Prop :=
  (∀ a, (k0_off150 v6933) a + S1x1x128.size a ≤ S8192x1x128.size a)
theorem k0_off150_inb : ∀ (v6933 : BitVec 32) (k0_hw71 : k0_chk71 v6933), ∀ a, (k0_off150 v6933) a + S1x1x128.size a ≤ S8192x1x128.size a := fun v6933 k0_hw71 => k0_hw71

def k0_off151 (k0_t1 : Fin k0_t1_loop.trips) : Fin 4 → Nat :=
  let c8_3700 : Index := 8#32
  let c7_3701 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6948 : Index := Scalar.indexCast v5643
  let c127_i32 : BitVec 32 := 127#32
  let v5644 : BitVec 32 := Scalar.andi arg34 c127_i32
  let v6949 : Index := Scalar.indexCast v5644
  ![8, 7, v6948.toNat, v6949.toNat]
def k0_off152 (v6950 : BitVec 32) : Fin 3 → Nat :=
  let c16383_i32_3704 : BitVec 32 := 16383#32
  let v6954 : BitVec 32 := Scalar.andi v6950 c16383_i32_3704
  let v6955 : Index := Scalar.indexCast v6954
  let c0_3705 : Index := 0#32
  let c0_3706 : Index := 0#32
  ![v6955.toNat, 0, 0]

def k0_chk72 (v6950 : BitVec 32) : Prop :=
  (∀ a, (k0_off152 v6950) a + S1x1x128.size a ≤ S8192x1x128.size a)
theorem k0_off152_inb : ∀ (v6950 : BitVec 32) (k0_hw72 : k0_chk72 v6950), ∀ a, (k0_off152 v6950) a + S1x1x128.size a ≤ S8192x1x128.size a := fun v6950 k0_hw72 => k0_hw72

def k0_off153 (k0_t1 : Fin k0_t1_loop.trips) : Fin 2 → Nat :=
  let c4096_i32 : BitVec 32 := 4096#32
  let c0_i32_2982 : BitVec 32 := 0#32
  let c1_i32_2983 : BitVec 32 := 1#32
  let arg34 : BitVec 32 := Scf.iv c0_i32_2982 c1_i32_2983 k0_t1
  let v6972 : BitVec 32 := Scalar.addi c4096_i32 arg34
  let v6973 : Index := Scalar.indexCast v6972
  let c0_3709 : Index := 0#32
  ![v6973.toNat, 0]
def k0_off154 (k0_t1 : Fin k0_t1_loop.trips) : Fin 4 → Nat :=
  let c9_3710 : Index := 9#32
  let c0_3711 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6977 : Index := Scalar.indexCast v5643
  let c127_i32 : BitVec 32 := 127#32
  let v5644 : BitVec 32 := Scalar.andi arg34 c127_i32
  let v6978 : Index := Scalar.indexCast v5644
  ![9, 0, v6977.toNat, v6978.toNat]
def k0_off155 (v6979 : BitVec 32) : Fin 3 → Nat :=
  let c16383_i32_3714 : BitVec 32 := 16383#32
  let v6983 : BitVec 32 := Scalar.andi v6979 c16383_i32_3714
  let v6984 : Index := Scalar.indexCast v6983
  let c0_3715 : Index := 0#32
  let c0_3716 : Index := 0#32
  ![v6984.toNat, 0, 0]

def k0_chk73 (v6979 : BitVec 32) : Prop :=
  (∀ a, (k0_off155 v6979) a + S1x1x128.size a ≤ S8192x1x128.size a)
theorem k0_off155_inb : ∀ (v6979 : BitVec 32) (k0_hw73 : k0_chk73 v6979), ∀ a, (k0_off155 v6979) a + S1x1x128.size a ≤ S8192x1x128.size a := fun v6979 k0_hw73 => k0_hw73

def k0_off156 (k0_t1 : Fin k0_t1_loop.trips) : Fin 4 → Nat :=
  let c9_3719 : Index := 9#32
  let c1_3720 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v6994 : Index := Scalar.indexCast v5643
  let c127_i32 : BitVec 32 := 127#32
  let v5644 : BitVec 32 := Scalar.andi arg34 c127_i32
  let v6995 : Index := Scalar.indexCast v5644
  ![9, 1, v6994.toNat, v6995.toNat]
def k0_off157 (v6996 : BitVec 32) : Fin 3 → Nat :=
  let c16383_i32_3723 : BitVec 32 := 16383#32
  let v7000 : BitVec 32 := Scalar.andi v6996 c16383_i32_3723
  let v7001 : Index := Scalar.indexCast v7000
  let c0_3724 : Index := 0#32
  let c0_3725 : Index := 0#32
  ![v7001.toNat, 0, 0]

def k0_chk74 (v6996 : BitVec 32) : Prop :=
  (∀ a, (k0_off157 v6996) a + S1x1x128.size a ≤ S8192x1x128.size a)
theorem k0_off157_inb : ∀ (v6996 : BitVec 32) (k0_hw74 : k0_chk74 v6996), ∀ a, (k0_off157 v6996) a + S1x1x128.size a ≤ S8192x1x128.size a := fun v6996 k0_hw74 => k0_hw74

def k0_off158 (k0_t1 : Fin k0_t1_loop.trips) : Fin 4 → Nat :=
  let c9_3728 : Index := 9#32
  let c2_3729 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7011 : Index := Scalar.indexCast v5643
  let c127_i32 : BitVec 32 := 127#32
  let v5644 : BitVec 32 := Scalar.andi arg34 c127_i32
  let v7012 : Index := Scalar.indexCast v5644
  ![9, 2, v7011.toNat, v7012.toNat]
def k0_off159 (v7013 : BitVec 32) : Fin 3 → Nat :=
  let c16383_i32_3732 : BitVec 32 := 16383#32
  let v7017 : BitVec 32 := Scalar.andi v7013 c16383_i32_3732
  let v7018 : Index := Scalar.indexCast v7017
  let c0_3733 : Index := 0#32
  let c0_3734 : Index := 0#32
  ![v7018.toNat, 0, 0]

def k0_chk75 (v7013 : BitVec 32) : Prop :=
  (∀ a, (k0_off159 v7013) a + S1x1x128.size a ≤ S8192x1x128.size a)
theorem k0_off159_inb : ∀ (v7013 : BitVec 32) (k0_hw75 : k0_chk75 v7013), ∀ a, (k0_off159 v7013) a + S1x1x128.size a ≤ S8192x1x128.size a := fun v7013 k0_hw75 => k0_hw75

def k0_off160 (k0_t1 : Fin k0_t1_loop.trips) : Fin 4 → Nat :=
  let c9_3737 : Index := 9#32
  let c3_3738 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7028 : Index := Scalar.indexCast v5643
  let c127_i32 : BitVec 32 := 127#32
  let v5644 : BitVec 32 := Scalar.andi arg34 c127_i32
  let v7029 : Index := Scalar.indexCast v5644
  ![9, 3, v7028.toNat, v7029.toNat]
def k0_off161 (v7030 : BitVec 32) : Fin 3 → Nat :=
  let c16383_i32_3741 : BitVec 32 := 16383#32
  let v7034 : BitVec 32 := Scalar.andi v7030 c16383_i32_3741
  let v7035 : Index := Scalar.indexCast v7034
  let c0_3742 : Index := 0#32
  let c0_3743 : Index := 0#32
  ![v7035.toNat, 0, 0]

def k0_chk76 (v7030 : BitVec 32) : Prop :=
  (∀ a, (k0_off161 v7030) a + S1x1x128.size a ≤ S8192x1x128.size a)
theorem k0_off161_inb : ∀ (v7030 : BitVec 32) (k0_hw76 : k0_chk76 v7030), ∀ a, (k0_off161 v7030) a + S1x1x128.size a ≤ S8192x1x128.size a := fun v7030 k0_hw76 => k0_hw76

def k0_off162 (k0_t1 : Fin k0_t1_loop.trips) : Fin 4 → Nat :=
  let c9_3746 : Index := 9#32
  let c4_3747 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7045 : Index := Scalar.indexCast v5643
  let c127_i32 : BitVec 32 := 127#32
  let v5644 : BitVec 32 := Scalar.andi arg34 c127_i32
  let v7046 : Index := Scalar.indexCast v5644
  ![9, 4, v7045.toNat, v7046.toNat]
def k0_off163 (v7047 : BitVec 32) : Fin 3 → Nat :=
  let c16383_i32_3750 : BitVec 32 := 16383#32
  let v7051 : BitVec 32 := Scalar.andi v7047 c16383_i32_3750
  let v7052 : Index := Scalar.indexCast v7051
  let c0_3751 : Index := 0#32
  let c0_3752 : Index := 0#32
  ![v7052.toNat, 0, 0]

def k0_chk77 (v7047 : BitVec 32) : Prop :=
  (∀ a, (k0_off163 v7047) a + S1x1x128.size a ≤ S8192x1x128.size a)
theorem k0_off163_inb : ∀ (v7047 : BitVec 32) (k0_hw77 : k0_chk77 v7047), ∀ a, (k0_off163 v7047) a + S1x1x128.size a ≤ S8192x1x128.size a := fun v7047 k0_hw77 => k0_hw77

def k0_off164 (k0_t1 : Fin k0_t1_loop.trips) : Fin 4 → Nat :=
  let c9_3755 : Index := 9#32
  let c5_3756 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7062 : Index := Scalar.indexCast v5643
  let c127_i32 : BitVec 32 := 127#32
  let v5644 : BitVec 32 := Scalar.andi arg34 c127_i32
  let v7063 : Index := Scalar.indexCast v5644
  ![9, 5, v7062.toNat, v7063.toNat]
def k0_off165 (v7064 : BitVec 32) : Fin 3 → Nat :=
  let c16383_i32_3759 : BitVec 32 := 16383#32
  let v7068 : BitVec 32 := Scalar.andi v7064 c16383_i32_3759
  let v7069 : Index := Scalar.indexCast v7068
  let c0_3760 : Index := 0#32
  let c0_3761 : Index := 0#32
  ![v7069.toNat, 0, 0]

def k0_chk78 (v7064 : BitVec 32) : Prop :=
  (∀ a, (k0_off165 v7064) a + S1x1x128.size a ≤ S8192x1x128.size a)
theorem k0_off165_inb : ∀ (v7064 : BitVec 32) (k0_hw78 : k0_chk78 v7064), ∀ a, (k0_off165 v7064) a + S1x1x128.size a ≤ S8192x1x128.size a := fun v7064 k0_hw78 => k0_hw78

def k0_off166 (k0_t1 : Fin k0_t1_loop.trips) : Fin 4 → Nat :=
  let c9_3764 : Index := 9#32
  let c6_3765 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7079 : Index := Scalar.indexCast v5643
  let c127_i32 : BitVec 32 := 127#32
  let v5644 : BitVec 32 := Scalar.andi arg34 c127_i32
  let v7080 : Index := Scalar.indexCast v5644
  ![9, 6, v7079.toNat, v7080.toNat]
def k0_off167 (v7081 : BitVec 32) : Fin 3 → Nat :=
  let c16383_i32_3768 : BitVec 32 := 16383#32
  let v7085 : BitVec 32 := Scalar.andi v7081 c16383_i32_3768
  let v7086 : Index := Scalar.indexCast v7085
  let c0_3769 : Index := 0#32
  let c0_3770 : Index := 0#32
  ![v7086.toNat, 0, 0]

def k0_chk79 (v7081 : BitVec 32) : Prop :=
  (∀ a, (k0_off167 v7081) a + S1x1x128.size a ≤ S8192x1x128.size a)
theorem k0_off167_inb : ∀ (v7081 : BitVec 32) (k0_hw79 : k0_chk79 v7081), ∀ a, (k0_off167 v7081) a + S1x1x128.size a ≤ S8192x1x128.size a := fun v7081 k0_hw79 => k0_hw79

def k0_off168 (k0_t1 : Fin k0_t1_loop.trips) : Fin 4 → Nat :=
  let c9_3773 : Index := 9#32
  let c7_3774 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7096 : Index := Scalar.indexCast v5643
  let c127_i32 : BitVec 32 := 127#32
  let v5644 : BitVec 32 := Scalar.andi arg34 c127_i32
  let v7097 : Index := Scalar.indexCast v5644
  ![9, 7, v7096.toNat, v7097.toNat]
def k0_off169 (v7098 : BitVec 32) : Fin 3 → Nat :=
  let c16383_i32_3777 : BitVec 32 := 16383#32
  let v7102 : BitVec 32 := Scalar.andi v7098 c16383_i32_3777
  let v7103 : Index := Scalar.indexCast v7102
  let c0_3778 : Index := 0#32
  let c0_3779 : Index := 0#32
  ![v7103.toNat, 0, 0]

def k0_chk80 (v7098 : BitVec 32) : Prop :=
  (∀ a, (k0_off169 v7098) a + S1x1x128.size a ≤ S8192x1x128.size a)
theorem k0_off169_inb : ∀ (v7098 : BitVec 32) (k0_hw80 : k0_chk80 v7098), ∀ a, (k0_off169 v7098) a + S1x1x128.size a ≤ S8192x1x128.size a := fun v7098 k0_hw80 => k0_hw80

def k0_off170 (k0_t1 : Fin k0_t1_loop.trips) : Fin 2 → Nat :=
  let c4608_i32 : BitVec 32 := 4608#32
  let c0_i32_2982 : BitVec 32 := 0#32
  let c1_i32_2983 : BitVec 32 := 1#32
  let arg34 : BitVec 32 := Scf.iv c0_i32_2982 c1_i32_2983 k0_t1
  let v7120 : BitVec 32 := Scalar.addi c4608_i32 arg34
  let v7121 : Index := Scalar.indexCast v7120
  let c0_3782 : Index := 0#32
  ![v7121.toNat, 0]
def k0_off171 (k0_t1 : Fin k0_t1_loop.trips) : Fin 4 → Nat :=
  let c10_3783 : Index := 10#32
  let c0_3784 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7125 : Index := Scalar.indexCast v5643
  let c127_i32 : BitVec 32 := 127#32
  let v5644 : BitVec 32 := Scalar.andi arg34 c127_i32
  let v7126 : Index := Scalar.indexCast v5644
  ![10, 0, v7125.toNat, v7126.toNat]
def k0_off172 (v7127 : BitVec 32) : Fin 3 → Nat :=
  let c16383_i32_3787 : BitVec 32 := 16383#32
  let v7131 : BitVec 32 := Scalar.andi v7127 c16383_i32_3787
  let v7132 : Index := Scalar.indexCast v7131
  let c0_3788 : Index := 0#32
  let c0_3789 : Index := 0#32
  ![v7132.toNat, 0, 0]

def k0_chk81 (v7127 : BitVec 32) : Prop :=
  (∀ a, (k0_off172 v7127) a + S1x1x128.size a ≤ S8192x1x128.size a)
theorem k0_off172_inb : ∀ (v7127 : BitVec 32) (k0_hw81 : k0_chk81 v7127), ∀ a, (k0_off172 v7127) a + S1x1x128.size a ≤ S8192x1x128.size a := fun v7127 k0_hw81 => k0_hw81

def k0_off173 (k0_t1 : Fin k0_t1_loop.trips) : Fin 4 → Nat :=
  let c10_3792 : Index := 10#32
  let c1_3793 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7142 : Index := Scalar.indexCast v5643
  let c127_i32 : BitVec 32 := 127#32
  let v5644 : BitVec 32 := Scalar.andi arg34 c127_i32
  let v7143 : Index := Scalar.indexCast v5644
  ![10, 1, v7142.toNat, v7143.toNat]
def k0_off174 (v7144 : BitVec 32) : Fin 3 → Nat :=
  let c16383_i32_3796 : BitVec 32 := 16383#32
  let v7148 : BitVec 32 := Scalar.andi v7144 c16383_i32_3796
  let v7149 : Index := Scalar.indexCast v7148
  let c0_3797 : Index := 0#32
  let c0_3798 : Index := 0#32
  ![v7149.toNat, 0, 0]

def k0_chk82 (v7144 : BitVec 32) : Prop :=
  (∀ a, (k0_off174 v7144) a + S1x1x128.size a ≤ S8192x1x128.size a)
theorem k0_off174_inb : ∀ (v7144 : BitVec 32) (k0_hw82 : k0_chk82 v7144), ∀ a, (k0_off174 v7144) a + S1x1x128.size a ≤ S8192x1x128.size a := fun v7144 k0_hw82 => k0_hw82

def k0_off175 (k0_t1 : Fin k0_t1_loop.trips) : Fin 4 → Nat :=
  let c10_3801 : Index := 10#32
  let c2_3802 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7159 : Index := Scalar.indexCast v5643
  let c127_i32 : BitVec 32 := 127#32
  let v5644 : BitVec 32 := Scalar.andi arg34 c127_i32
  let v7160 : Index := Scalar.indexCast v5644
  ![10, 2, v7159.toNat, v7160.toNat]
def k0_off176 (v7161 : BitVec 32) : Fin 3 → Nat :=
  let c16383_i32_3805 : BitVec 32 := 16383#32
  let v7165 : BitVec 32 := Scalar.andi v7161 c16383_i32_3805
  let v7166 : Index := Scalar.indexCast v7165
  let c0_3806 : Index := 0#32
  let c0_3807 : Index := 0#32
  ![v7166.toNat, 0, 0]

def k0_chk83 (v7161 : BitVec 32) : Prop :=
  (∀ a, (k0_off176 v7161) a + S1x1x128.size a ≤ S8192x1x128.size a)
theorem k0_off176_inb : ∀ (v7161 : BitVec 32) (k0_hw83 : k0_chk83 v7161), ∀ a, (k0_off176 v7161) a + S1x1x128.size a ≤ S8192x1x128.size a := fun v7161 k0_hw83 => k0_hw83

def k0_off177 (k0_t1 : Fin k0_t1_loop.trips) : Fin 4 → Nat :=
  let c10_3810 : Index := 10#32
  let c3_3811 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7176 : Index := Scalar.indexCast v5643
  let c127_i32 : BitVec 32 := 127#32
  let v5644 : BitVec 32 := Scalar.andi arg34 c127_i32
  let v7177 : Index := Scalar.indexCast v5644
  ![10, 3, v7176.toNat, v7177.toNat]
def k0_off178 (v7178 : BitVec 32) : Fin 3 → Nat :=
  let c16383_i32_3814 : BitVec 32 := 16383#32
  let v7182 : BitVec 32 := Scalar.andi v7178 c16383_i32_3814
  let v7183 : Index := Scalar.indexCast v7182
  let c0_3815 : Index := 0#32
  let c0_3816 : Index := 0#32
  ![v7183.toNat, 0, 0]

def k0_chk84 (v7178 : BitVec 32) : Prop :=
  (∀ a, (k0_off178 v7178) a + S1x1x128.size a ≤ S8192x1x128.size a)
theorem k0_off178_inb : ∀ (v7178 : BitVec 32) (k0_hw84 : k0_chk84 v7178), ∀ a, (k0_off178 v7178) a + S1x1x128.size a ≤ S8192x1x128.size a := fun v7178 k0_hw84 => k0_hw84

def k0_off179 (k0_t1 : Fin k0_t1_loop.trips) : Fin 4 → Nat :=
  let c10_3819 : Index := 10#32
  let c4_3820 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7193 : Index := Scalar.indexCast v5643
  let c127_i32 : BitVec 32 := 127#32
  let v5644 : BitVec 32 := Scalar.andi arg34 c127_i32
  let v7194 : Index := Scalar.indexCast v5644
  ![10, 4, v7193.toNat, v7194.toNat]
def k0_off180 (v7195 : BitVec 32) : Fin 3 → Nat :=
  let c16383_i32_3823 : BitVec 32 := 16383#32
  let v7199 : BitVec 32 := Scalar.andi v7195 c16383_i32_3823
  let v7200 : Index := Scalar.indexCast v7199
  let c0_3824 : Index := 0#32
  let c0_3825 : Index := 0#32
  ![v7200.toNat, 0, 0]

def k0_chk85 (v7195 : BitVec 32) : Prop :=
  (∀ a, (k0_off180 v7195) a + S1x1x128.size a ≤ S8192x1x128.size a)
theorem k0_off180_inb : ∀ (v7195 : BitVec 32) (k0_hw85 : k0_chk85 v7195), ∀ a, (k0_off180 v7195) a + S1x1x128.size a ≤ S8192x1x128.size a := fun v7195 k0_hw85 => k0_hw85

def k0_off181 (k0_t1 : Fin k0_t1_loop.trips) : Fin 4 → Nat :=
  let c10_3828 : Index := 10#32
  let c5_3829 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7210 : Index := Scalar.indexCast v5643
  let c127_i32 : BitVec 32 := 127#32
  let v5644 : BitVec 32 := Scalar.andi arg34 c127_i32
  let v7211 : Index := Scalar.indexCast v5644
  ![10, 5, v7210.toNat, v7211.toNat]
def k0_off182 (v7212 : BitVec 32) : Fin 3 → Nat :=
  let c16383_i32_3832 : BitVec 32 := 16383#32
  let v7216 : BitVec 32 := Scalar.andi v7212 c16383_i32_3832
  let v7217 : Index := Scalar.indexCast v7216
  let c0_3833 : Index := 0#32
  let c0_3834 : Index := 0#32
  ![v7217.toNat, 0, 0]

def k0_chk86 (v7212 : BitVec 32) : Prop :=
  (∀ a, (k0_off182 v7212) a + S1x1x128.size a ≤ S8192x1x128.size a)
theorem k0_off182_inb : ∀ (v7212 : BitVec 32) (k0_hw86 : k0_chk86 v7212), ∀ a, (k0_off182 v7212) a + S1x1x128.size a ≤ S8192x1x128.size a := fun v7212 k0_hw86 => k0_hw86

def k0_off183 (k0_t1 : Fin k0_t1_loop.trips) : Fin 4 → Nat :=
  let c10_3837 : Index := 10#32
  let c6_3838 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7227 : Index := Scalar.indexCast v5643
  let c127_i32 : BitVec 32 := 127#32
  let v5644 : BitVec 32 := Scalar.andi arg34 c127_i32
  let v7228 : Index := Scalar.indexCast v5644
  ![10, 6, v7227.toNat, v7228.toNat]
def k0_off184 (v7229 : BitVec 32) : Fin 3 → Nat :=
  let c16383_i32_3841 : BitVec 32 := 16383#32
  let v7233 : BitVec 32 := Scalar.andi v7229 c16383_i32_3841
  let v7234 : Index := Scalar.indexCast v7233
  let c0_3842 : Index := 0#32
  let c0_3843 : Index := 0#32
  ![v7234.toNat, 0, 0]

def k0_chk87 (v7229 : BitVec 32) : Prop :=
  (∀ a, (k0_off184 v7229) a + S1x1x128.size a ≤ S8192x1x128.size a)
theorem k0_off184_inb : ∀ (v7229 : BitVec 32) (k0_hw87 : k0_chk87 v7229), ∀ a, (k0_off184 v7229) a + S1x1x128.size a ≤ S8192x1x128.size a := fun v7229 k0_hw87 => k0_hw87

def k0_off185 (k0_t1 : Fin k0_t1_loop.trips) : Fin 4 → Nat :=
  let c10_3846 : Index := 10#32
  let c7_3847 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7244 : Index := Scalar.indexCast v5643
  let c127_i32 : BitVec 32 := 127#32
  let v5644 : BitVec 32 := Scalar.andi arg34 c127_i32
  let v7245 : Index := Scalar.indexCast v5644
  ![10, 7, v7244.toNat, v7245.toNat]
def k0_off186 (v7246 : BitVec 32) : Fin 3 → Nat :=
  let c16383_i32_3850 : BitVec 32 := 16383#32
  let v7250 : BitVec 32 := Scalar.andi v7246 c16383_i32_3850
  let v7251 : Index := Scalar.indexCast v7250
  let c0_3851 : Index := 0#32
  let c0_3852 : Index := 0#32
  ![v7251.toNat, 0, 0]

def k0_chk88 (v7246 : BitVec 32) : Prop :=
  (∀ a, (k0_off186 v7246) a + S1x1x128.size a ≤ S8192x1x128.size a)
theorem k0_off186_inb : ∀ (v7246 : BitVec 32) (k0_hw88 : k0_chk88 v7246), ∀ a, (k0_off186 v7246) a + S1x1x128.size a ≤ S8192x1x128.size a := fun v7246 k0_hw88 => k0_hw88

def k0_off187 (k0_t1 : Fin k0_t1_loop.trips) : Fin 2 → Nat :=
  let c5120_i32 : BitVec 32 := 5120#32
  let c0_i32_2982 : BitVec 32 := 0#32
  let c1_i32_2983 : BitVec 32 := 1#32
  let arg34 : BitVec 32 := Scf.iv c0_i32_2982 c1_i32_2983 k0_t1
  let v7268 : BitVec 32 := Scalar.addi c5120_i32 arg34
  let v7269 : Index := Scalar.indexCast v7268
  let c0_3855 : Index := 0#32
  ![v7269.toNat, 0]
def k0_off188 (k0_t1 : Fin k0_t1_loop.trips) : Fin 4 → Nat :=
  let c11_3856 : Index := 11#32
  let c0_3857 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7273 : Index := Scalar.indexCast v5643
  let c127_i32 : BitVec 32 := 127#32
  let v5644 : BitVec 32 := Scalar.andi arg34 c127_i32
  let v7274 : Index := Scalar.indexCast v5644
  ![11, 0, v7273.toNat, v7274.toNat]
def k0_off189 (v7275 : BitVec 32) : Fin 3 → Nat :=
  let c16383_i32_3860 : BitVec 32 := 16383#32
  let v7279 : BitVec 32 := Scalar.andi v7275 c16383_i32_3860
  let v7280 : Index := Scalar.indexCast v7279
  let c0_3861 : Index := 0#32
  let c0_3862 : Index := 0#32
  ![v7280.toNat, 0, 0]

def k0_chk89 (v7275 : BitVec 32) : Prop :=
  (∀ a, (k0_off189 v7275) a + S1x1x128.size a ≤ S8192x1x128.size a)
theorem k0_off189_inb : ∀ (v7275 : BitVec 32) (k0_hw89 : k0_chk89 v7275), ∀ a, (k0_off189 v7275) a + S1x1x128.size a ≤ S8192x1x128.size a := fun v7275 k0_hw89 => k0_hw89

def k0_off190 (k0_t1 : Fin k0_t1_loop.trips) : Fin 4 → Nat :=
  let c11_3865 : Index := 11#32
  let c1_3866 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7290 : Index := Scalar.indexCast v5643
  let c127_i32 : BitVec 32 := 127#32
  let v5644 : BitVec 32 := Scalar.andi arg34 c127_i32
  let v7291 : Index := Scalar.indexCast v5644
  ![11, 1, v7290.toNat, v7291.toNat]
def k0_off191 (v7292 : BitVec 32) : Fin 3 → Nat :=
  let c16383_i32_3869 : BitVec 32 := 16383#32
  let v7296 : BitVec 32 := Scalar.andi v7292 c16383_i32_3869
  let v7297 : Index := Scalar.indexCast v7296
  let c0_3870 : Index := 0#32
  let c0_3871 : Index := 0#32
  ![v7297.toNat, 0, 0]

def k0_chk90 (v7292 : BitVec 32) : Prop :=
  (∀ a, (k0_off191 v7292) a + S1x1x128.size a ≤ S8192x1x128.size a)
theorem k0_off191_inb : ∀ (v7292 : BitVec 32) (k0_hw90 : k0_chk90 v7292), ∀ a, (k0_off191 v7292) a + S1x1x128.size a ≤ S8192x1x128.size a := fun v7292 k0_hw90 => k0_hw90

def k0_off192 (k0_t1 : Fin k0_t1_loop.trips) : Fin 4 → Nat :=
  let c11_3874 : Index := 11#32
  let c2_3875 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7307 : Index := Scalar.indexCast v5643
  let c127_i32 : BitVec 32 := 127#32
  let v5644 : BitVec 32 := Scalar.andi arg34 c127_i32
  let v7308 : Index := Scalar.indexCast v5644
  ![11, 2, v7307.toNat, v7308.toNat]
def k0_off193 (v7309 : BitVec 32) : Fin 3 → Nat :=
  let c16383_i32_3878 : BitVec 32 := 16383#32
  let v7313 : BitVec 32 := Scalar.andi v7309 c16383_i32_3878
  let v7314 : Index := Scalar.indexCast v7313
  let c0_3879 : Index := 0#32
  let c0_3880 : Index := 0#32
  ![v7314.toNat, 0, 0]

def k0_chk91 (v7309 : BitVec 32) : Prop :=
  (∀ a, (k0_off193 v7309) a + S1x1x128.size a ≤ S8192x1x128.size a)
theorem k0_off193_inb : ∀ (v7309 : BitVec 32) (k0_hw91 : k0_chk91 v7309), ∀ a, (k0_off193 v7309) a + S1x1x128.size a ≤ S8192x1x128.size a := fun v7309 k0_hw91 => k0_hw91

def k0_off194 (k0_t1 : Fin k0_t1_loop.trips) : Fin 4 → Nat :=
  let c11_3883 : Index := 11#32
  let c3_3884 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7324 : Index := Scalar.indexCast v5643
  let c127_i32 : BitVec 32 := 127#32
  let v5644 : BitVec 32 := Scalar.andi arg34 c127_i32
  let v7325 : Index := Scalar.indexCast v5644
  ![11, 3, v7324.toNat, v7325.toNat]
def k0_off195 (v7326 : BitVec 32) : Fin 3 → Nat :=
  let c16383_i32_3887 : BitVec 32 := 16383#32
  let v7330 : BitVec 32 := Scalar.andi v7326 c16383_i32_3887
  let v7331 : Index := Scalar.indexCast v7330
  let c0_3888 : Index := 0#32
  let c0_3889 : Index := 0#32
  ![v7331.toNat, 0, 0]

def k0_chk92 (v7326 : BitVec 32) : Prop :=
  (∀ a, (k0_off195 v7326) a + S1x1x128.size a ≤ S8192x1x128.size a)
theorem k0_off195_inb : ∀ (v7326 : BitVec 32) (k0_hw92 : k0_chk92 v7326), ∀ a, (k0_off195 v7326) a + S1x1x128.size a ≤ S8192x1x128.size a := fun v7326 k0_hw92 => k0_hw92

def k0_off196 (k0_t1 : Fin k0_t1_loop.trips) : Fin 4 → Nat :=
  let c11_3892 : Index := 11#32
  let c4_3893 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7341 : Index := Scalar.indexCast v5643
  let c127_i32 : BitVec 32 := 127#32
  let v5644 : BitVec 32 := Scalar.andi arg34 c127_i32
  let v7342 : Index := Scalar.indexCast v5644
  ![11, 4, v7341.toNat, v7342.toNat]
def k0_off197 (v7343 : BitVec 32) : Fin 3 → Nat :=
  let c16383_i32_3896 : BitVec 32 := 16383#32
  let v7347 : BitVec 32 := Scalar.andi v7343 c16383_i32_3896
  let v7348 : Index := Scalar.indexCast v7347
  let c0_3897 : Index := 0#32
  let c0_3898 : Index := 0#32
  ![v7348.toNat, 0, 0]

def k0_chk93 (v7343 : BitVec 32) : Prop :=
  (∀ a, (k0_off197 v7343) a + S1x1x128.size a ≤ S8192x1x128.size a)
theorem k0_off197_inb : ∀ (v7343 : BitVec 32) (k0_hw93 : k0_chk93 v7343), ∀ a, (k0_off197 v7343) a + S1x1x128.size a ≤ S8192x1x128.size a := fun v7343 k0_hw93 => k0_hw93

def k0_off198 (k0_t1 : Fin k0_t1_loop.trips) : Fin 4 → Nat :=
  let c11_3901 : Index := 11#32
  let c5_3902 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7358 : Index := Scalar.indexCast v5643
  let c127_i32 : BitVec 32 := 127#32
  let v5644 : BitVec 32 := Scalar.andi arg34 c127_i32
  let v7359 : Index := Scalar.indexCast v5644
  ![11, 5, v7358.toNat, v7359.toNat]
def k0_off199 (v7360 : BitVec 32) : Fin 3 → Nat :=
  let c16383_i32_3905 : BitVec 32 := 16383#32
  let v7364 : BitVec 32 := Scalar.andi v7360 c16383_i32_3905
  let v7365 : Index := Scalar.indexCast v7364
  let c0_3906 : Index := 0#32
  let c0_3907 : Index := 0#32
  ![v7365.toNat, 0, 0]

def k0_chk94 (v7360 : BitVec 32) : Prop :=
  (∀ a, (k0_off199 v7360) a + S1x1x128.size a ≤ S8192x1x128.size a)
theorem k0_off199_inb : ∀ (v7360 : BitVec 32) (k0_hw94 : k0_chk94 v7360), ∀ a, (k0_off199 v7360) a + S1x1x128.size a ≤ S8192x1x128.size a := fun v7360 k0_hw94 => k0_hw94

def k0_off200 (k0_t1 : Fin k0_t1_loop.trips) : Fin 4 → Nat :=
  let c11_3910 : Index := 11#32
  let c6_3911 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7375 : Index := Scalar.indexCast v5643
  let c127_i32 : BitVec 32 := 127#32
  let v5644 : BitVec 32 := Scalar.andi arg34 c127_i32
  let v7376 : Index := Scalar.indexCast v5644
  ![11, 6, v7375.toNat, v7376.toNat]
def k0_off201 (v7377 : BitVec 32) : Fin 3 → Nat :=
  let c16383_i32_3914 : BitVec 32 := 16383#32
  let v7381 : BitVec 32 := Scalar.andi v7377 c16383_i32_3914
  let v7382 : Index := Scalar.indexCast v7381
  let c0_3915 : Index := 0#32
  let c0_3916 : Index := 0#32
  ![v7382.toNat, 0, 0]

def k0_chk95 (v7377 : BitVec 32) : Prop :=
  (∀ a, (k0_off201 v7377) a + S1x1x128.size a ≤ S8192x1x128.size a)
theorem k0_off201_inb : ∀ (v7377 : BitVec 32) (k0_hw95 : k0_chk95 v7377), ∀ a, (k0_off201 v7377) a + S1x1x128.size a ≤ S8192x1x128.size a := fun v7377 k0_hw95 => k0_hw95

def k0_off202 (k0_t1 : Fin k0_t1_loop.trips) : Fin 4 → Nat :=
  let c11_3919 : Index := 11#32
  let c7_3920 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7392 : Index := Scalar.indexCast v5643
  let c127_i32 : BitVec 32 := 127#32
  let v5644 : BitVec 32 := Scalar.andi arg34 c127_i32
  let v7393 : Index := Scalar.indexCast v5644
  ![11, 7, v7392.toNat, v7393.toNat]
def k0_off203 (v7394 : BitVec 32) : Fin 3 → Nat :=
  let c16383_i32_3923 : BitVec 32 := 16383#32
  let v7398 : BitVec 32 := Scalar.andi v7394 c16383_i32_3923
  let v7399 : Index := Scalar.indexCast v7398
  let c0_3924 : Index := 0#32
  let c0_3925 : Index := 0#32
  ![v7399.toNat, 0, 0]

def k0_chk96 (v7394 : BitVec 32) : Prop :=
  (∀ a, (k0_off203 v7394) a + S1x1x128.size a ≤ S8192x1x128.size a)
theorem k0_off203_inb : ∀ (v7394 : BitVec 32) (k0_hw96 : k0_chk96 v7394), ∀ a, (k0_off203 v7394) a + S1x1x128.size a ≤ S8192x1x128.size a := fun v7394 k0_hw96 => k0_hw96

def k0_off204 (k0_t1 : Fin k0_t1_loop.trips) : Fin 2 → Nat :=
  let c5632_i32 : BitVec 32 := 5632#32
  let c0_i32_2982 : BitVec 32 := 0#32
  let c1_i32_2983 : BitVec 32 := 1#32
  let arg34 : BitVec 32 := Scf.iv c0_i32_2982 c1_i32_2983 k0_t1
  let v7416 : BitVec 32 := Scalar.addi c5632_i32 arg34
  let v7417 : Index := Scalar.indexCast v7416
  let c0_3928 : Index := 0#32
  ![v7417.toNat, 0]
def k0_off205 (k0_t1 : Fin k0_t1_loop.trips) : Fin 4 → Nat :=
  let c12_3929 : Index := 12#32
  let c0_3930 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7421 : Index := Scalar.indexCast v5643
  let c127_i32 : BitVec 32 := 127#32
  let v5644 : BitVec 32 := Scalar.andi arg34 c127_i32
  let v7422 : Index := Scalar.indexCast v5644
  ![12, 0, v7421.toNat, v7422.toNat]
def k0_off206 (v7423 : BitVec 32) : Fin 3 → Nat :=
  let c16383_i32_3933 : BitVec 32 := 16383#32
  let v7427 : BitVec 32 := Scalar.andi v7423 c16383_i32_3933
  let v7428 : Index := Scalar.indexCast v7427
  let c0_3934 : Index := 0#32
  let c0_3935 : Index := 0#32
  ![v7428.toNat, 0, 0]

def k0_chk97 (v7423 : BitVec 32) : Prop :=
  (∀ a, (k0_off206 v7423) a + S1x1x128.size a ≤ S8192x1x128.size a)
theorem k0_off206_inb : ∀ (v7423 : BitVec 32) (k0_hw97 : k0_chk97 v7423), ∀ a, (k0_off206 v7423) a + S1x1x128.size a ≤ S8192x1x128.size a := fun v7423 k0_hw97 => k0_hw97

def k0_off207 (k0_t1 : Fin k0_t1_loop.trips) : Fin 4 → Nat :=
  let c12_3938 : Index := 12#32
  let c1_3939 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7438 : Index := Scalar.indexCast v5643
  let c127_i32 : BitVec 32 := 127#32
  let v5644 : BitVec 32 := Scalar.andi arg34 c127_i32
  let v7439 : Index := Scalar.indexCast v5644
  ![12, 1, v7438.toNat, v7439.toNat]
def k0_off208 (v7440 : BitVec 32) : Fin 3 → Nat :=
  let c16383_i32_3942 : BitVec 32 := 16383#32
  let v7444 : BitVec 32 := Scalar.andi v7440 c16383_i32_3942
  let v7445 : Index := Scalar.indexCast v7444
  let c0_3943 : Index := 0#32
  let c0_3944 : Index := 0#32
  ![v7445.toNat, 0, 0]

def k0_chk98 (v7440 : BitVec 32) : Prop :=
  (∀ a, (k0_off208 v7440) a + S1x1x128.size a ≤ S8192x1x128.size a)
theorem k0_off208_inb : ∀ (v7440 : BitVec 32) (k0_hw98 : k0_chk98 v7440), ∀ a, (k0_off208 v7440) a + S1x1x128.size a ≤ S8192x1x128.size a := fun v7440 k0_hw98 => k0_hw98

def k0_off209 (k0_t1 : Fin k0_t1_loop.trips) : Fin 4 → Nat :=
  let c12_3947 : Index := 12#32
  let c2_3948 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7455 : Index := Scalar.indexCast v5643
  let c127_i32 : BitVec 32 := 127#32
  let v5644 : BitVec 32 := Scalar.andi arg34 c127_i32
  let v7456 : Index := Scalar.indexCast v5644
  ![12, 2, v7455.toNat, v7456.toNat]
def k0_off210 (v7457 : BitVec 32) : Fin 3 → Nat :=
  let c16383_i32_3951 : BitVec 32 := 16383#32
  let v7461 : BitVec 32 := Scalar.andi v7457 c16383_i32_3951
  let v7462 : Index := Scalar.indexCast v7461
  let c0_3952 : Index := 0#32
  let c0_3953 : Index := 0#32
  ![v7462.toNat, 0, 0]

def k0_chk99 (v7457 : BitVec 32) : Prop :=
  (∀ a, (k0_off210 v7457) a + S1x1x128.size a ≤ S8192x1x128.size a)
theorem k0_off210_inb : ∀ (v7457 : BitVec 32) (k0_hw99 : k0_chk99 v7457), ∀ a, (k0_off210 v7457) a + S1x1x128.size a ≤ S8192x1x128.size a := fun v7457 k0_hw99 => k0_hw99

def k0_off211 (k0_t1 : Fin k0_t1_loop.trips) : Fin 4 → Nat :=
  let c12_3956 : Index := 12#32
  let c3_3957 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7472 : Index := Scalar.indexCast v5643
  let c127_i32 : BitVec 32 := 127#32
  let v5644 : BitVec 32 := Scalar.andi arg34 c127_i32
  let v7473 : Index := Scalar.indexCast v5644
  ![12, 3, v7472.toNat, v7473.toNat]
def k0_off212 (v7474 : BitVec 32) : Fin 3 → Nat :=
  let c16383_i32_3960 : BitVec 32 := 16383#32
  let v7478 : BitVec 32 := Scalar.andi v7474 c16383_i32_3960
  let v7479 : Index := Scalar.indexCast v7478
  let c0_3961 : Index := 0#32
  let c0_3962 : Index := 0#32
  ![v7479.toNat, 0, 0]

def k0_chk100 (v7474 : BitVec 32) : Prop :=
  (∀ a, (k0_off212 v7474) a + S1x1x128.size a ≤ S8192x1x128.size a)
theorem k0_off212_inb : ∀ (v7474 : BitVec 32) (k0_hw100 : k0_chk100 v7474), ∀ a, (k0_off212 v7474) a + S1x1x128.size a ≤ S8192x1x128.size a := fun v7474 k0_hw100 => k0_hw100

def k0_off213 (k0_t1 : Fin k0_t1_loop.trips) : Fin 4 → Nat :=
  let c12_3965 : Index := 12#32
  let c4_3966 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7489 : Index := Scalar.indexCast v5643
  let c127_i32 : BitVec 32 := 127#32
  let v5644 : BitVec 32 := Scalar.andi arg34 c127_i32
  let v7490 : Index := Scalar.indexCast v5644
  ![12, 4, v7489.toNat, v7490.toNat]
def k0_off214 (v7491 : BitVec 32) : Fin 3 → Nat :=
  let c16383_i32_3969 : BitVec 32 := 16383#32
  let v7495 : BitVec 32 := Scalar.andi v7491 c16383_i32_3969
  let v7496 : Index := Scalar.indexCast v7495
  let c0_3970 : Index := 0#32
  let c0_3971 : Index := 0#32
  ![v7496.toNat, 0, 0]

def k0_chk101 (v7491 : BitVec 32) : Prop :=
  (∀ a, (k0_off214 v7491) a + S1x1x128.size a ≤ S8192x1x128.size a)
theorem k0_off214_inb : ∀ (v7491 : BitVec 32) (k0_hw101 : k0_chk101 v7491), ∀ a, (k0_off214 v7491) a + S1x1x128.size a ≤ S8192x1x128.size a := fun v7491 k0_hw101 => k0_hw101

def k0_off215 (k0_t1 : Fin k0_t1_loop.trips) : Fin 4 → Nat :=
  let c12_3974 : Index := 12#32
  let c5_3975 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7506 : Index := Scalar.indexCast v5643
  let c127_i32 : BitVec 32 := 127#32
  let v5644 : BitVec 32 := Scalar.andi arg34 c127_i32
  let v7507 : Index := Scalar.indexCast v5644
  ![12, 5, v7506.toNat, v7507.toNat]
def k0_off216 (v7508 : BitVec 32) : Fin 3 → Nat :=
  let c16383_i32_3978 : BitVec 32 := 16383#32
  let v7512 : BitVec 32 := Scalar.andi v7508 c16383_i32_3978
  let v7513 : Index := Scalar.indexCast v7512
  let c0_3979 : Index := 0#32
  let c0_3980 : Index := 0#32
  ![v7513.toNat, 0, 0]

def k0_chk102 (v7508 : BitVec 32) : Prop :=
  (∀ a, (k0_off216 v7508) a + S1x1x128.size a ≤ S8192x1x128.size a)
theorem k0_off216_inb : ∀ (v7508 : BitVec 32) (k0_hw102 : k0_chk102 v7508), ∀ a, (k0_off216 v7508) a + S1x1x128.size a ≤ S8192x1x128.size a := fun v7508 k0_hw102 => k0_hw102

def k0_off217 (k0_t1 : Fin k0_t1_loop.trips) : Fin 4 → Nat :=
  let c12_3983 : Index := 12#32
  let c6_3984 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7523 : Index := Scalar.indexCast v5643
  let c127_i32 : BitVec 32 := 127#32
  let v5644 : BitVec 32 := Scalar.andi arg34 c127_i32
  let v7524 : Index := Scalar.indexCast v5644
  ![12, 6, v7523.toNat, v7524.toNat]
def k0_off218 (v7525 : BitVec 32) : Fin 3 → Nat :=
  let c16383_i32_3987 : BitVec 32 := 16383#32
  let v7529 : BitVec 32 := Scalar.andi v7525 c16383_i32_3987
  let v7530 : Index := Scalar.indexCast v7529
  let c0_3988 : Index := 0#32
  let c0_3989 : Index := 0#32
  ![v7530.toNat, 0, 0]

def k0_chk103 (v7525 : BitVec 32) : Prop :=
  (∀ a, (k0_off218 v7525) a + S1x1x128.size a ≤ S8192x1x128.size a)
theorem k0_off218_inb : ∀ (v7525 : BitVec 32) (k0_hw103 : k0_chk103 v7525), ∀ a, (k0_off218 v7525) a + S1x1x128.size a ≤ S8192x1x128.size a := fun v7525 k0_hw103 => k0_hw103

def k0_off219 (k0_t1 : Fin k0_t1_loop.trips) : Fin 4 → Nat :=
  let c12_3992 : Index := 12#32
  let c7_3993 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7540 : Index := Scalar.indexCast v5643
  let c127_i32 : BitVec 32 := 127#32
  let v5644 : BitVec 32 := Scalar.andi arg34 c127_i32
  let v7541 : Index := Scalar.indexCast v5644
  ![12, 7, v7540.toNat, v7541.toNat]
def k0_off220 (v7542 : BitVec 32) : Fin 3 → Nat :=
  let c16383_i32_3996 : BitVec 32 := 16383#32
  let v7546 : BitVec 32 := Scalar.andi v7542 c16383_i32_3996
  let v7547 : Index := Scalar.indexCast v7546
  let c0_3997 : Index := 0#32
  let c0_3998 : Index := 0#32
  ![v7547.toNat, 0, 0]

def k0_chk104 (v7542 : BitVec 32) : Prop :=
  (∀ a, (k0_off220 v7542) a + S1x1x128.size a ≤ S8192x1x128.size a)
theorem k0_off220_inb : ∀ (v7542 : BitVec 32) (k0_hw104 : k0_chk104 v7542), ∀ a, (k0_off220 v7542) a + S1x1x128.size a ≤ S8192x1x128.size a := fun v7542 k0_hw104 => k0_hw104

def k0_off221 (k0_t1 : Fin k0_t1_loop.trips) : Fin 2 → Nat :=
  let c6144_i32 : BitVec 32 := 6144#32
  let c0_i32_2982 : BitVec 32 := 0#32
  let c1_i32_2983 : BitVec 32 := 1#32
  let arg34 : BitVec 32 := Scf.iv c0_i32_2982 c1_i32_2983 k0_t1
  let v7564 : BitVec 32 := Scalar.addi c6144_i32 arg34
  let v7565 : Index := Scalar.indexCast v7564
  let c0_4001 : Index := 0#32
  ![v7565.toNat, 0]
def k0_off222 (k0_t1 : Fin k0_t1_loop.trips) : Fin 4 → Nat :=
  let c13_4002 : Index := 13#32
  let c0_4003 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7569 : Index := Scalar.indexCast v5643
  let c127_i32 : BitVec 32 := 127#32
  let v5644 : BitVec 32 := Scalar.andi arg34 c127_i32
  let v7570 : Index := Scalar.indexCast v5644
  ![13, 0, v7569.toNat, v7570.toNat]
def k0_off223 (v7571 : BitVec 32) : Fin 3 → Nat :=
  let c16383_i32_4006 : BitVec 32 := 16383#32
  let v7575 : BitVec 32 := Scalar.andi v7571 c16383_i32_4006
  let v7576 : Index := Scalar.indexCast v7575
  let c0_4007 : Index := 0#32
  let c0_4008 : Index := 0#32
  ![v7576.toNat, 0, 0]

def k0_chk105 (v7571 : BitVec 32) : Prop :=
  (∀ a, (k0_off223 v7571) a + S1x1x128.size a ≤ S8192x1x128.size a)
theorem k0_off223_inb : ∀ (v7571 : BitVec 32) (k0_hw105 : k0_chk105 v7571), ∀ a, (k0_off223 v7571) a + S1x1x128.size a ≤ S8192x1x128.size a := fun v7571 k0_hw105 => k0_hw105

def k0_off224 (k0_t1 : Fin k0_t1_loop.trips) : Fin 4 → Nat :=
  let c13_4011 : Index := 13#32
  let c1_4012 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7586 : Index := Scalar.indexCast v5643
  let c127_i32 : BitVec 32 := 127#32
  let v5644 : BitVec 32 := Scalar.andi arg34 c127_i32
  let v7587 : Index := Scalar.indexCast v5644
  ![13, 1, v7586.toNat, v7587.toNat]
def k0_off225 (v7588 : BitVec 32) : Fin 3 → Nat :=
  let c16383_i32_4015 : BitVec 32 := 16383#32
  let v7592 : BitVec 32 := Scalar.andi v7588 c16383_i32_4015
  let v7593 : Index := Scalar.indexCast v7592
  let c0_4016 : Index := 0#32
  let c0_4017 : Index := 0#32
  ![v7593.toNat, 0, 0]

def k0_chk106 (v7588 : BitVec 32) : Prop :=
  (∀ a, (k0_off225 v7588) a + S1x1x128.size a ≤ S8192x1x128.size a)
theorem k0_off225_inb : ∀ (v7588 : BitVec 32) (k0_hw106 : k0_chk106 v7588), ∀ a, (k0_off225 v7588) a + S1x1x128.size a ≤ S8192x1x128.size a := fun v7588 k0_hw106 => k0_hw106

def k0_off226 (k0_t1 : Fin k0_t1_loop.trips) : Fin 4 → Nat :=
  let c13_4020 : Index := 13#32
  let c2_4021 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7603 : Index := Scalar.indexCast v5643
  let c127_i32 : BitVec 32 := 127#32
  let v5644 : BitVec 32 := Scalar.andi arg34 c127_i32
  let v7604 : Index := Scalar.indexCast v5644
  ![13, 2, v7603.toNat, v7604.toNat]
def k0_off227 (v7605 : BitVec 32) : Fin 3 → Nat :=
  let c16383_i32_4024 : BitVec 32 := 16383#32
  let v7609 : BitVec 32 := Scalar.andi v7605 c16383_i32_4024
  let v7610 : Index := Scalar.indexCast v7609
  let c0_4025 : Index := 0#32
  let c0_4026 : Index := 0#32
  ![v7610.toNat, 0, 0]

def k0_chk107 (v7605 : BitVec 32) : Prop :=
  (∀ a, (k0_off227 v7605) a + S1x1x128.size a ≤ S8192x1x128.size a)
theorem k0_off227_inb : ∀ (v7605 : BitVec 32) (k0_hw107 : k0_chk107 v7605), ∀ a, (k0_off227 v7605) a + S1x1x128.size a ≤ S8192x1x128.size a := fun v7605 k0_hw107 => k0_hw107

def k0_off228 (k0_t1 : Fin k0_t1_loop.trips) : Fin 4 → Nat :=
  let c13_4029 : Index := 13#32
  let c3_4030 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7620 : Index := Scalar.indexCast v5643
  let c127_i32 : BitVec 32 := 127#32
  let v5644 : BitVec 32 := Scalar.andi arg34 c127_i32
  let v7621 : Index := Scalar.indexCast v5644
  ![13, 3, v7620.toNat, v7621.toNat]
def k0_off229 (v7622 : BitVec 32) : Fin 3 → Nat :=
  let c16383_i32_4033 : BitVec 32 := 16383#32
  let v7626 : BitVec 32 := Scalar.andi v7622 c16383_i32_4033
  let v7627 : Index := Scalar.indexCast v7626
  let c0_4034 : Index := 0#32
  let c0_4035 : Index := 0#32
  ![v7627.toNat, 0, 0]

def k0_chk108 (v7622 : BitVec 32) : Prop :=
  (∀ a, (k0_off229 v7622) a + S1x1x128.size a ≤ S8192x1x128.size a)
theorem k0_off229_inb : ∀ (v7622 : BitVec 32) (k0_hw108 : k0_chk108 v7622), ∀ a, (k0_off229 v7622) a + S1x1x128.size a ≤ S8192x1x128.size a := fun v7622 k0_hw108 => k0_hw108

def k0_off230 (k0_t1 : Fin k0_t1_loop.trips) : Fin 4 → Nat :=
  let c13_4038 : Index := 13#32
  let c4_4039 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7637 : Index := Scalar.indexCast v5643
  let c127_i32 : BitVec 32 := 127#32
  let v5644 : BitVec 32 := Scalar.andi arg34 c127_i32
  let v7638 : Index := Scalar.indexCast v5644
  ![13, 4, v7637.toNat, v7638.toNat]
def k0_off231 (v7639 : BitVec 32) : Fin 3 → Nat :=
  let c16383_i32_4042 : BitVec 32 := 16383#32
  let v7643 : BitVec 32 := Scalar.andi v7639 c16383_i32_4042
  let v7644 : Index := Scalar.indexCast v7643
  let c0_4043 : Index := 0#32
  let c0_4044 : Index := 0#32
  ![v7644.toNat, 0, 0]

def k0_chk109 (v7639 : BitVec 32) : Prop :=
  (∀ a, (k0_off231 v7639) a + S1x1x128.size a ≤ S8192x1x128.size a)
theorem k0_off231_inb : ∀ (v7639 : BitVec 32) (k0_hw109 : k0_chk109 v7639), ∀ a, (k0_off231 v7639) a + S1x1x128.size a ≤ S8192x1x128.size a := fun v7639 k0_hw109 => k0_hw109

def k0_off232 (k0_t1 : Fin k0_t1_loop.trips) : Fin 4 → Nat :=
  let c13_4047 : Index := 13#32
  let c5_4048 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7654 : Index := Scalar.indexCast v5643
  let c127_i32 : BitVec 32 := 127#32
  let v5644 : BitVec 32 := Scalar.andi arg34 c127_i32
  let v7655 : Index := Scalar.indexCast v5644
  ![13, 5, v7654.toNat, v7655.toNat]
def k0_off233 (v7656 : BitVec 32) : Fin 3 → Nat :=
  let c16383_i32_4051 : BitVec 32 := 16383#32
  let v7660 : BitVec 32 := Scalar.andi v7656 c16383_i32_4051
  let v7661 : Index := Scalar.indexCast v7660
  let c0_4052 : Index := 0#32
  let c0_4053 : Index := 0#32
  ![v7661.toNat, 0, 0]

def k0_chk110 (v7656 : BitVec 32) : Prop :=
  (∀ a, (k0_off233 v7656) a + S1x1x128.size a ≤ S8192x1x128.size a)
theorem k0_off233_inb : ∀ (v7656 : BitVec 32) (k0_hw110 : k0_chk110 v7656), ∀ a, (k0_off233 v7656) a + S1x1x128.size a ≤ S8192x1x128.size a := fun v7656 k0_hw110 => k0_hw110

def k0_off234 (k0_t1 : Fin k0_t1_loop.trips) : Fin 4 → Nat :=
  let c13_4056 : Index := 13#32
  let c6_4057 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7671 : Index := Scalar.indexCast v5643
  let c127_i32 : BitVec 32 := 127#32
  let v5644 : BitVec 32 := Scalar.andi arg34 c127_i32
  let v7672 : Index := Scalar.indexCast v5644
  ![13, 6, v7671.toNat, v7672.toNat]
def k0_off235 (v7673 : BitVec 32) : Fin 3 → Nat :=
  let c16383_i32_4060 : BitVec 32 := 16383#32
  let v7677 : BitVec 32 := Scalar.andi v7673 c16383_i32_4060
  let v7678 : Index := Scalar.indexCast v7677
  let c0_4061 : Index := 0#32
  let c0_4062 : Index := 0#32
  ![v7678.toNat, 0, 0]

def k0_chk111 (v7673 : BitVec 32) : Prop :=
  (∀ a, (k0_off235 v7673) a + S1x1x128.size a ≤ S8192x1x128.size a)
theorem k0_off235_inb : ∀ (v7673 : BitVec 32) (k0_hw111 : k0_chk111 v7673), ∀ a, (k0_off235 v7673) a + S1x1x128.size a ≤ S8192x1x128.size a := fun v7673 k0_hw111 => k0_hw111

def k0_off236 (k0_t1 : Fin k0_t1_loop.trips) : Fin 4 → Nat :=
  let c13_4065 : Index := 13#32
  let c7_4066 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7688 : Index := Scalar.indexCast v5643
  let c127_i32 : BitVec 32 := 127#32
  let v5644 : BitVec 32 := Scalar.andi arg34 c127_i32
  let v7689 : Index := Scalar.indexCast v5644
  ![13, 7, v7688.toNat, v7689.toNat]
def k0_off237 (v7690 : BitVec 32) : Fin 3 → Nat :=
  let c16383_i32_4069 : BitVec 32 := 16383#32
  let v7694 : BitVec 32 := Scalar.andi v7690 c16383_i32_4069
  let v7695 : Index := Scalar.indexCast v7694
  let c0_4070 : Index := 0#32
  let c0_4071 : Index := 0#32
  ![v7695.toNat, 0, 0]

def k0_chk112 (v7690 : BitVec 32) : Prop :=
  (∀ a, (k0_off237 v7690) a + S1x1x128.size a ≤ S8192x1x128.size a)
theorem k0_off237_inb : ∀ (v7690 : BitVec 32) (k0_hw112 : k0_chk112 v7690), ∀ a, (k0_off237 v7690) a + S1x1x128.size a ≤ S8192x1x128.size a := fun v7690 k0_hw112 => k0_hw112

def k0_off238 (k0_t1 : Fin k0_t1_loop.trips) : Fin 2 → Nat :=
  let c6656_i32 : BitVec 32 := 6656#32
  let c0_i32_2982 : BitVec 32 := 0#32
  let c1_i32_2983 : BitVec 32 := 1#32
  let arg34 : BitVec 32 := Scf.iv c0_i32_2982 c1_i32_2983 k0_t1
  let v7712 : BitVec 32 := Scalar.addi c6656_i32 arg34
  let v7713 : Index := Scalar.indexCast v7712
  let c0_4074 : Index := 0#32
  ![v7713.toNat, 0]
def k0_off239 (k0_t1 : Fin k0_t1_loop.trips) : Fin 4 → Nat :=
  let c14_4075 : Index := 14#32
  let c0_4076 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7717 : Index := Scalar.indexCast v5643
  let c127_i32 : BitVec 32 := 127#32
  let v5644 : BitVec 32 := Scalar.andi arg34 c127_i32
  let v7718 : Index := Scalar.indexCast v5644
  ![14, 0, v7717.toNat, v7718.toNat]
def k0_off240 (v7719 : BitVec 32) : Fin 3 → Nat :=
  let c16383_i32_4079 : BitVec 32 := 16383#32
  let v7723 : BitVec 32 := Scalar.andi v7719 c16383_i32_4079
  let v7724 : Index := Scalar.indexCast v7723
  let c0_4080 : Index := 0#32
  let c0_4081 : Index := 0#32
  ![v7724.toNat, 0, 0]

def k0_chk113 (v7719 : BitVec 32) : Prop :=
  (∀ a, (k0_off240 v7719) a + S1x1x128.size a ≤ S8192x1x128.size a)
theorem k0_off240_inb : ∀ (v7719 : BitVec 32) (k0_hw113 : k0_chk113 v7719), ∀ a, (k0_off240 v7719) a + S1x1x128.size a ≤ S8192x1x128.size a := fun v7719 k0_hw113 => k0_hw113

def k0_off241 (k0_t1 : Fin k0_t1_loop.trips) : Fin 4 → Nat :=
  let c14_4084 : Index := 14#32
  let c1_4085 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7734 : Index := Scalar.indexCast v5643
  let c127_i32 : BitVec 32 := 127#32
  let v5644 : BitVec 32 := Scalar.andi arg34 c127_i32
  let v7735 : Index := Scalar.indexCast v5644
  ![14, 1, v7734.toNat, v7735.toNat]
def k0_off242 (v7736 : BitVec 32) : Fin 3 → Nat :=
  let c16383_i32_4088 : BitVec 32 := 16383#32
  let v7740 : BitVec 32 := Scalar.andi v7736 c16383_i32_4088
  let v7741 : Index := Scalar.indexCast v7740
  let c0_4089 : Index := 0#32
  let c0_4090 : Index := 0#32
  ![v7741.toNat, 0, 0]

def k0_chk114 (v7736 : BitVec 32) : Prop :=
  (∀ a, (k0_off242 v7736) a + S1x1x128.size a ≤ S8192x1x128.size a)
theorem k0_off242_inb : ∀ (v7736 : BitVec 32) (k0_hw114 : k0_chk114 v7736), ∀ a, (k0_off242 v7736) a + S1x1x128.size a ≤ S8192x1x128.size a := fun v7736 k0_hw114 => k0_hw114

def k0_off243 (k0_t1 : Fin k0_t1_loop.trips) : Fin 4 → Nat :=
  let c14_4093 : Index := 14#32
  let c2_4094 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7751 : Index := Scalar.indexCast v5643
  let c127_i32 : BitVec 32 := 127#32
  let v5644 : BitVec 32 := Scalar.andi arg34 c127_i32
  let v7752 : Index := Scalar.indexCast v5644
  ![14, 2, v7751.toNat, v7752.toNat]
def k0_off244 (v7753 : BitVec 32) : Fin 3 → Nat :=
  let c16383_i32_4097 : BitVec 32 := 16383#32
  let v7757 : BitVec 32 := Scalar.andi v7753 c16383_i32_4097
  let v7758 : Index := Scalar.indexCast v7757
  let c0_4098 : Index := 0#32
  let c0_4099 : Index := 0#32
  ![v7758.toNat, 0, 0]

def k0_chk115 (v7753 : BitVec 32) : Prop :=
  (∀ a, (k0_off244 v7753) a + S1x1x128.size a ≤ S8192x1x128.size a)
theorem k0_off244_inb : ∀ (v7753 : BitVec 32) (k0_hw115 : k0_chk115 v7753), ∀ a, (k0_off244 v7753) a + S1x1x128.size a ≤ S8192x1x128.size a := fun v7753 k0_hw115 => k0_hw115

def k0_off245 (k0_t1 : Fin k0_t1_loop.trips) : Fin 4 → Nat :=
  let c14_4102 : Index := 14#32
  let c3_4103 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7768 : Index := Scalar.indexCast v5643
  let c127_i32 : BitVec 32 := 127#32
  let v5644 : BitVec 32 := Scalar.andi arg34 c127_i32
  let v7769 : Index := Scalar.indexCast v5644
  ![14, 3, v7768.toNat, v7769.toNat]
def k0_off246 (v7770 : BitVec 32) : Fin 3 → Nat :=
  let c16383_i32_4106 : BitVec 32 := 16383#32
  let v7774 : BitVec 32 := Scalar.andi v7770 c16383_i32_4106
  let v7775 : Index := Scalar.indexCast v7774
  let c0_4107 : Index := 0#32
  let c0_4108 : Index := 0#32
  ![v7775.toNat, 0, 0]

def k0_chk116 (v7770 : BitVec 32) : Prop :=
  (∀ a, (k0_off246 v7770) a + S1x1x128.size a ≤ S8192x1x128.size a)
theorem k0_off246_inb : ∀ (v7770 : BitVec 32) (k0_hw116 : k0_chk116 v7770), ∀ a, (k0_off246 v7770) a + S1x1x128.size a ≤ S8192x1x128.size a := fun v7770 k0_hw116 => k0_hw116

def k0_off247 (k0_t1 : Fin k0_t1_loop.trips) : Fin 4 → Nat :=
  let c14_4111 : Index := 14#32
  let c4_4112 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7785 : Index := Scalar.indexCast v5643
  let c127_i32 : BitVec 32 := 127#32
  let v5644 : BitVec 32 := Scalar.andi arg34 c127_i32
  let v7786 : Index := Scalar.indexCast v5644
  ![14, 4, v7785.toNat, v7786.toNat]
def k0_off248 (v7787 : BitVec 32) : Fin 3 → Nat :=
  let c16383_i32_4115 : BitVec 32 := 16383#32
  let v7791 : BitVec 32 := Scalar.andi v7787 c16383_i32_4115
  let v7792 : Index := Scalar.indexCast v7791
  let c0_4116 : Index := 0#32
  let c0_4117 : Index := 0#32
  ![v7792.toNat, 0, 0]

def k0_chk117 (v7787 : BitVec 32) : Prop :=
  (∀ a, (k0_off248 v7787) a + S1x1x128.size a ≤ S8192x1x128.size a)
theorem k0_off248_inb : ∀ (v7787 : BitVec 32) (k0_hw117 : k0_chk117 v7787), ∀ a, (k0_off248 v7787) a + S1x1x128.size a ≤ S8192x1x128.size a := fun v7787 k0_hw117 => k0_hw117

def k0_off249 (k0_t1 : Fin k0_t1_loop.trips) : Fin 4 → Nat :=
  let c14_4120 : Index := 14#32
  let c5_4121 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7802 : Index := Scalar.indexCast v5643
  let c127_i32 : BitVec 32 := 127#32
  let v5644 : BitVec 32 := Scalar.andi arg34 c127_i32
  let v7803 : Index := Scalar.indexCast v5644
  ![14, 5, v7802.toNat, v7803.toNat]
def k0_off250 (v7804 : BitVec 32) : Fin 3 → Nat :=
  let c16383_i32_4124 : BitVec 32 := 16383#32
  let v7808 : BitVec 32 := Scalar.andi v7804 c16383_i32_4124
  let v7809 : Index := Scalar.indexCast v7808
  let c0_4125 : Index := 0#32
  let c0_4126 : Index := 0#32
  ![v7809.toNat, 0, 0]

def k0_chk118 (v7804 : BitVec 32) : Prop :=
  (∀ a, (k0_off250 v7804) a + S1x1x128.size a ≤ S8192x1x128.size a)
theorem k0_off250_inb : ∀ (v7804 : BitVec 32) (k0_hw118 : k0_chk118 v7804), ∀ a, (k0_off250 v7804) a + S1x1x128.size a ≤ S8192x1x128.size a := fun v7804 k0_hw118 => k0_hw118

def k0_off251 (k0_t1 : Fin k0_t1_loop.trips) : Fin 4 → Nat :=
  let c14_4129 : Index := 14#32
  let c6_4130 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7819 : Index := Scalar.indexCast v5643
  let c127_i32 : BitVec 32 := 127#32
  let v5644 : BitVec 32 := Scalar.andi arg34 c127_i32
  let v7820 : Index := Scalar.indexCast v5644
  ![14, 6, v7819.toNat, v7820.toNat]
def k0_off252 (v7821 : BitVec 32) : Fin 3 → Nat :=
  let c16383_i32_4133 : BitVec 32 := 16383#32
  let v7825 : BitVec 32 := Scalar.andi v7821 c16383_i32_4133
  let v7826 : Index := Scalar.indexCast v7825
  let c0_4134 : Index := 0#32
  let c0_4135 : Index := 0#32
  ![v7826.toNat, 0, 0]

def k0_chk119 (v7821 : BitVec 32) : Prop :=
  (∀ a, (k0_off252 v7821) a + S1x1x128.size a ≤ S8192x1x128.size a)
theorem k0_off252_inb : ∀ (v7821 : BitVec 32) (k0_hw119 : k0_chk119 v7821), ∀ a, (k0_off252 v7821) a + S1x1x128.size a ≤ S8192x1x128.size a := fun v7821 k0_hw119 => k0_hw119

def k0_off253 (k0_t1 : Fin k0_t1_loop.trips) : Fin 4 → Nat :=
  let c14_4138 : Index := 14#32
  let c7_4139 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7836 : Index := Scalar.indexCast v5643
  let c127_i32 : BitVec 32 := 127#32
  let v5644 : BitVec 32 := Scalar.andi arg34 c127_i32
  let v7837 : Index := Scalar.indexCast v5644
  ![14, 7, v7836.toNat, v7837.toNat]
def k0_off254 (v7838 : BitVec 32) : Fin 3 → Nat :=
  let c16383_i32_4142 : BitVec 32 := 16383#32
  let v7842 : BitVec 32 := Scalar.andi v7838 c16383_i32_4142
  let v7843 : Index := Scalar.indexCast v7842
  let c0_4143 : Index := 0#32
  let c0_4144 : Index := 0#32
  ![v7843.toNat, 0, 0]

def k0_chk120 (v7838 : BitVec 32) : Prop :=
  (∀ a, (k0_off254 v7838) a + S1x1x128.size a ≤ S8192x1x128.size a)
theorem k0_off254_inb : ∀ (v7838 : BitVec 32) (k0_hw120 : k0_chk120 v7838), ∀ a, (k0_off254 v7838) a + S1x1x128.size a ≤ S8192x1x128.size a := fun v7838 k0_hw120 => k0_hw120

def k0_off255 (k0_t1 : Fin k0_t1_loop.trips) : Fin 2 → Nat :=
  let c7168_i32 : BitVec 32 := 7168#32
  let c0_i32_2982 : BitVec 32 := 0#32
  let c1_i32_2983 : BitVec 32 := 1#32
  let arg34 : BitVec 32 := Scf.iv c0_i32_2982 c1_i32_2983 k0_t1
  let v7860 : BitVec 32 := Scalar.addi c7168_i32 arg34
  let v7861 : Index := Scalar.indexCast v7860
  let c0_4147 : Index := 0#32
  ![v7861.toNat, 0]
def k0_off256 (k0_t1 : Fin k0_t1_loop.trips) : Fin 4 → Nat :=
  let c15_4148 : Index := 15#32
  let c0_4149 : Index := 0#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7865 : Index := Scalar.indexCast v5643
  let c127_i32 : BitVec 32 := 127#32
  let v5644 : BitVec 32 := Scalar.andi arg34 c127_i32
  let v7866 : Index := Scalar.indexCast v5644
  ![15, 0, v7865.toNat, v7866.toNat]
def k0_off257 (v7867 : BitVec 32) : Fin 3 → Nat :=
  let c16383_i32_4152 : BitVec 32 := 16383#32
  let v7871 : BitVec 32 := Scalar.andi v7867 c16383_i32_4152
  let v7872 : Index := Scalar.indexCast v7871
  let c0_4153 : Index := 0#32
  let c0_4154 : Index := 0#32
  ![v7872.toNat, 0, 0]

def k0_chk121 (v7867 : BitVec 32) : Prop :=
  (∀ a, (k0_off257 v7867) a + S1x1x128.size a ≤ S8192x1x128.size a)
theorem k0_off257_inb : ∀ (v7867 : BitVec 32) (k0_hw121 : k0_chk121 v7867), ∀ a, (k0_off257 v7867) a + S1x1x128.size a ≤ S8192x1x128.size a := fun v7867 k0_hw121 => k0_hw121

def k0_off258 (k0_t1 : Fin k0_t1_loop.trips) : Fin 4 → Nat :=
  let c15_4157 : Index := 15#32
  let c1_4158 : Index := 1#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7882 : Index := Scalar.indexCast v5643
  let c127_i32 : BitVec 32 := 127#32
  let v5644 : BitVec 32 := Scalar.andi arg34 c127_i32
  let v7883 : Index := Scalar.indexCast v5644
  ![15, 1, v7882.toNat, v7883.toNat]
def k0_off259 (v7884 : BitVec 32) : Fin 3 → Nat :=
  let c16383_i32_4161 : BitVec 32 := 16383#32
  let v7888 : BitVec 32 := Scalar.andi v7884 c16383_i32_4161
  let v7889 : Index := Scalar.indexCast v7888
  let c0_4162 : Index := 0#32
  let c0_4163 : Index := 0#32
  ![v7889.toNat, 0, 0]

def k0_chk122 (v7884 : BitVec 32) : Prop :=
  (∀ a, (k0_off259 v7884) a + S1x1x128.size a ≤ S8192x1x128.size a)
theorem k0_off259_inb : ∀ (v7884 : BitVec 32) (k0_hw122 : k0_chk122 v7884), ∀ a, (k0_off259 v7884) a + S1x1x128.size a ≤ S8192x1x128.size a := fun v7884 k0_hw122 => k0_hw122

def k0_off260 (k0_t1 : Fin k0_t1_loop.trips) : Fin 4 → Nat :=
  let c15_4166 : Index := 15#32
  let c2_4167 : Index := 2#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7899 : Index := Scalar.indexCast v5643
  let c127_i32 : BitVec 32 := 127#32
  let v5644 : BitVec 32 := Scalar.andi arg34 c127_i32
  let v7900 : Index := Scalar.indexCast v5644
  ![15, 2, v7899.toNat, v7900.toNat]
def k0_off261 (v7901 : BitVec 32) : Fin 3 → Nat :=
  let c16383_i32_4170 : BitVec 32 := 16383#32
  let v7905 : BitVec 32 := Scalar.andi v7901 c16383_i32_4170
  let v7906 : Index := Scalar.indexCast v7905
  let c0_4171 : Index := 0#32
  let c0_4172 : Index := 0#32
  ![v7906.toNat, 0, 0]

def k0_chk123 (v7901 : BitVec 32) : Prop :=
  (∀ a, (k0_off261 v7901) a + S1x1x128.size a ≤ S8192x1x128.size a)
theorem k0_off261_inb : ∀ (v7901 : BitVec 32) (k0_hw123 : k0_chk123 v7901), ∀ a, (k0_off261 v7901) a + S1x1x128.size a ≤ S8192x1x128.size a := fun v7901 k0_hw123 => k0_hw123

def k0_off262 (k0_t1 : Fin k0_t1_loop.trips) : Fin 4 → Nat :=
  let c15_4175 : Index := 15#32
  let c3_4176 : Index := 3#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7916 : Index := Scalar.indexCast v5643
  let c127_i32 : BitVec 32 := 127#32
  let v5644 : BitVec 32 := Scalar.andi arg34 c127_i32
  let v7917 : Index := Scalar.indexCast v5644
  ![15, 3, v7916.toNat, v7917.toNat]
def k0_off263 (v7918 : BitVec 32) : Fin 3 → Nat :=
  let c16383_i32_4179 : BitVec 32 := 16383#32
  let v7922 : BitVec 32 := Scalar.andi v7918 c16383_i32_4179
  let v7923 : Index := Scalar.indexCast v7922
  let c0_4180 : Index := 0#32
  let c0_4181 : Index := 0#32
  ![v7923.toNat, 0, 0]

def k0_chk124 (v7918 : BitVec 32) : Prop :=
  (∀ a, (k0_off263 v7918) a + S1x1x128.size a ≤ S8192x1x128.size a)
theorem k0_off263_inb : ∀ (v7918 : BitVec 32) (k0_hw124 : k0_chk124 v7918), ∀ a, (k0_off263 v7918) a + S1x1x128.size a ≤ S8192x1x128.size a := fun v7918 k0_hw124 => k0_hw124

def k0_off264 (k0_t1 : Fin k0_t1_loop.trips) : Fin 4 → Nat :=
  let c15_4184 : Index := 15#32
  let c4_4185 : Index := 4#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7933 : Index := Scalar.indexCast v5643
  let c127_i32 : BitVec 32 := 127#32
  let v5644 : BitVec 32 := Scalar.andi arg34 c127_i32
  let v7934 : Index := Scalar.indexCast v5644
  ![15, 4, v7933.toNat, v7934.toNat]
def k0_off265 (v7935 : BitVec 32) : Fin 3 → Nat :=
  let c16383_i32_4188 : BitVec 32 := 16383#32
  let v7939 : BitVec 32 := Scalar.andi v7935 c16383_i32_4188
  let v7940 : Index := Scalar.indexCast v7939
  let c0_4189 : Index := 0#32
  let c0_4190 : Index := 0#32
  ![v7940.toNat, 0, 0]

def k0_chk125 (v7935 : BitVec 32) : Prop :=
  (∀ a, (k0_off265 v7935) a + S1x1x128.size a ≤ S8192x1x128.size a)
theorem k0_off265_inb : ∀ (v7935 : BitVec 32) (k0_hw125 : k0_chk125 v7935), ∀ a, (k0_off265 v7935) a + S1x1x128.size a ≤ S8192x1x128.size a := fun v7935 k0_hw125 => k0_hw125

def k0_off266 (k0_t1 : Fin k0_t1_loop.trips) : Fin 4 → Nat :=
  let c15_4193 : Index := 15#32
  let c5_4194 : Index := 5#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7950 : Index := Scalar.indexCast v5643
  let c127_i32 : BitVec 32 := 127#32
  let v5644 : BitVec 32 := Scalar.andi arg34 c127_i32
  let v7951 : Index := Scalar.indexCast v5644
  ![15, 5, v7950.toNat, v7951.toNat]
def k0_off267 (v7952 : BitVec 32) : Fin 3 → Nat :=
  let c16383_i32_4197 : BitVec 32 := 16383#32
  let v7956 : BitVec 32 := Scalar.andi v7952 c16383_i32_4197
  let v7957 : Index := Scalar.indexCast v7956
  let c0_4198 : Index := 0#32
  let c0_4199 : Index := 0#32
  ![v7957.toNat, 0, 0]

def k0_chk126 (v7952 : BitVec 32) : Prop :=
  (∀ a, (k0_off267 v7952) a + S1x1x128.size a ≤ S8192x1x128.size a)
theorem k0_off267_inb : ∀ (v7952 : BitVec 32) (k0_hw126 : k0_chk126 v7952), ∀ a, (k0_off267 v7952) a + S1x1x128.size a ≤ S8192x1x128.size a := fun v7952 k0_hw126 => k0_hw126

def k0_off268 (k0_t1 : Fin k0_t1_loop.trips) : Fin 4 → Nat :=
  let c15_4202 : Index := 15#32
  let c6_4203 : Index := 6#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7967 : Index := Scalar.indexCast v5643
  let c127_i32 : BitVec 32 := 127#32
  let v5644 : BitVec 32 := Scalar.andi arg34 c127_i32
  let v7968 : Index := Scalar.indexCast v5644
  ![15, 6, v7967.toNat, v7968.toNat]
def k0_off269 (v7969 : BitVec 32) : Fin 3 → Nat :=
  let c16383_i32_4206 : BitVec 32 := 16383#32
  let v7973 : BitVec 32 := Scalar.andi v7969 c16383_i32_4206
  let v7974 : Index := Scalar.indexCast v7973
  let c0_4207 : Index := 0#32
  let c0_4208 : Index := 0#32
  ![v7974.toNat, 0, 0]

def k0_chk127 (v7969 : BitVec 32) : Prop :=
  (∀ a, (k0_off269 v7969) a + S1x1x128.size a ≤ S8192x1x128.size a)
theorem k0_off269_inb : ∀ (v7969 : BitVec 32) (k0_hw127 : k0_chk127 v7969), ∀ a, (k0_off269 v7969) a + S1x1x128.size a ≤ S8192x1x128.size a := fun v7969 k0_hw127 => k0_hw127

def k0_off270 (k0_t1 : Fin k0_t1_loop.trips) : Fin 4 → Nat :=
  let c15_4211 : Index := 15#32
  let c7_4212 : Index := 7#32
  let c0_i32_2982 : BitVec 32 := 0#32
  let c1_i32_2983 : BitVec 32 := 1#32
  let arg34 : BitVec 32 := Scf.iv c0_i32_2982 c1_i32_2983 k0_t1
  let c7_i32 : BitVec 32 := 7#32
  let v5643 : BitVec 32 := Scalar.shrsi arg34 c7_i32
  let v7984 : Index := Scalar.indexCast v5643
  let c127_i32 : BitVec 32 := 127#32
  let v5644 : BitVec 32 := Scalar.andi arg34 c127_i32
  let v7985 : Index := Scalar.indexCast v5644
  ![15, 7, v7984.toNat, v7985.toNat]
def k0_off271 (v7986 : BitVec 32) : Fin 3 → Nat :=
  let c16383_i32_4215 : BitVec 32 := 16383#32
  let v7990 : BitVec 32 := Scalar.andi v7986 c16383_i32_4215
  let v7991 : Index := Scalar.indexCast v7990
  let c0_4216 : Index := 0#32
  let c0_4217 : Index := 0#32
  ![v7991.toNat, 0, 0]

def k0_chk128 (v7986 : BitVec 32) : Prop :=
  (∀ a, (k0_off271 v7986) a + S1x1x128.size a ≤ S8192x1x128.size a)
theorem k0_off271_inb : ∀ (v7986 : BitVec 32) (k0_hw128 : k0_chk128 v7986), ∀ a, (k0_off271 v7986) a + S1x1x128.size a ≤ S8192x1x128.size a := fun v7986 k0_hw128 => k0_hw128

def k0_off272 (k0_t1 : Fin k0_t1_loop.trips) : Fin 2 → Nat :=
  let c7680_i32 : BitVec 32 := 7680#32
  let c0_i32_2982 : BitVec 32 := 0#32
  let c1_i32_2983 : BitVec 32 := 1#32
  let arg34 : BitVec 32 := Scf.iv c0_i32_2982 c1_i32_2983 k0_t1
  let v8008 : BitVec 32 := Scalar.addi c7680_i32 arg34
  let v8009 : Index := Scalar.indexCast v8008
  let c0_4220 : Index := 0#32
  ![v8009.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S216x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S615x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1839x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5593x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8192x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8192x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8192x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8192x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8192x1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8192x1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8192x1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8192x1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8192x1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8192x1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8192x1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S512x9 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceIdeal.lean ====
abbrev S1024x1024x3 : Shape := ⟨3, ![1024, 1024, 3]⟩
abbrev S3 : Shape := ⟨1, ![3]⟩
abbrev S16x524288x2 : Shape := ⟨3, ![16, 524288, 2]⟩
abbrev S32x32 : Shape := ⟨2, ![32, 32]⟩
abbrev S32x9 : Shape := ⟨2, ![32, 9]⟩
abbrev S9 : Shape := ⟨1, ![9]⟩
abbrev S16 : Shape := ⟨1, ![16]⟩
abbrev S8x3 : Shape := ⟨2, ![8, 3]⟩
abbrev S1048576x3 : Shape := ⟨2, ![1048576, 3]⟩
abbrev S1x3 : Shape := ⟨2, ![1, 3]⟩
abbrev S_ : Shape := ⟨0, ![]⟩
abbrev S1048576x1x3 : Shape := ⟨3, ![1048576, 1, 3]⟩
abbrev S1x16x1 : Shape := ⟨3, ![1, 16, 1]⟩
abbrev S1048576x16x3 : Shape := ⟨3, ![1048576, 16, 3]⟩
abbrev S1048576x16x1x3 : Shape := ⟨4, ![1048576, 16, 1, 3]⟩
abbrev S1x1x8x3 : Shape := ⟨4, ![1, 1, 8, 3]⟩
abbrev S1048576x16x8x3 : Shape := ⟨4, ![1048576, 16, 8, 3]⟩
abbrev S1x16x1x1 : Shape := ⟨4, ![1, 16, 1, 1]⟩
abbrev S1048576x16x8x1 : Shape := ⟨4, ![1048576, 16, 8, 1]⟩
abbrev S1048576x16x8 : Shape := ⟨3, ![1048576, 16, 8]⟩
abbrev S1048576x16x8x2 : Shape := ⟨4, ![1048576, 16, 8, 2]⟩
abbrev S1048576x16x2 : Shape := ⟨3, ![1048576, 16, 2]⟩
abbrev S1048576x32 : Shape := ⟨2, ![1048576, 32]⟩
abbrev S1048576x9 : Shape := ⟨2, ![1048576, 9]⟩
abbrev S1x9 : Shape := ⟨2, ![1, 9]⟩
abbrev S1024x1024x9 : Shape := ⟨3, ![1024, 1024, 9]⟩

abbrev nBuf : Space → Nat
  | .hbm => 157
  | .vmem => 0
  | .smem => 0
  | _ => 0

abbrev hbmTy0_0 (i : Nat) : BufTy := match i % 128 with
  | 0 => ⟨S1024x1024x3, .f32⟩
  | 1 => ⟨S3, .f32⟩
  | 2 => ⟨S3, .f32⟩
  | 3 => ⟨S16x524288x2, .f32⟩
  | 4 => ⟨S32x32, .f32⟩
  | 5 => ⟨S32x32, .f32⟩
  | 6 => ⟨S32x9, .f32⟩
  | 7 => ⟨S9, .f32⟩
  | 8 => ⟨S9, .f32⟩
  | 9 => ⟨S16, .f32⟩
  | 10 => ⟨S8x3, .i32⟩
  | 11 => ⟨S16, .i32⟩
  | 12 => ⟨S16, .i32⟩
  | 13 => ⟨S16, .i1⟩
  | 14 => ⟨S1048576x3, .f32⟩
  | 15 => ⟨S1x3, .f32⟩
  | 16 => ⟨S1048576x3, .f32⟩
  | 17 => ⟨S1048576x3, .f32⟩
  | 18 => ⟨S3, .f32⟩
  | 19 => ⟨S1x3, .f32⟩
  | 20 => ⟨S1048576x3, .f32⟩
  | 21 => ⟨S1048576x3, .f32⟩
  | 22 => ⟨S_, .f32⟩
  | 23 => ⟨S_, .f32⟩
  | 24 => ⟨S_, .f32⟩
  | 25 => ⟨S1048576x3, .f32⟩
  | 26 => ⟨S1048576x3, .f32⟩
  | 27 => ⟨S_, .f32⟩
  | 28 => ⟨S1048576x3, .f32⟩
  | 29 => ⟨S1048576x3, .f32⟩
  | 30 => ⟨S1048576x1x3, .f32⟩
  | 31 => ⟨S1x16x1, .f32⟩
  | 32 => ⟨S1048576x16x3, .f32⟩
  | 33 => ⟨S1048576x16x3, .f32⟩
  | 34 => ⟨S1048576x16x3, .f32⟩
  | 35 => ⟨S1048576x16x3, .f32⟩
  | 36 => ⟨S1048576x16x3, .f32⟩
  | 37 => ⟨S1048576x16x3, .i32⟩
  | 38 => ⟨S1048576x16x1x3, .i32⟩
  | 39 => ⟨S1x1x8x3, .i32⟩
  | 40 => ⟨S1048576x16x8x3, .i32⟩
  | 41 => ⟨S1048576x16x8x3, .i32⟩
  | 42 => ⟨S1048576x16x8x3, .i32⟩
  | 43 => ⟨S1x16x1x1, .i32⟩
  | 44 => ⟨S_, .i32⟩
  | 45 => ⟨S_, .i32⟩
  | 46 => ⟨S1048576x16x8x3, .i32⟩
  | 47 => ⟨S1048576x16x8x3, .i32⟩
  | 48 => ⟨S1048576x16x8x3, .i32⟩
  | 49 => ⟨S1048576x16x8x3, .i32⟩
  | 50 => ⟨S_, .i32⟩
  | 51 => ⟨S8x3, .i32⟩
  | 52 => ⟨S8x3, .i1⟩
  | 53 => ⟨S1048576x16x1x3, .f32⟩
  | 54 => ⟨S1048576x16x1x3, .f32⟩
  | 55 => ⟨S_, .f32⟩
  | 56 => ⟨S1048576x16x1x3, .f32⟩
  | 57 => ⟨S1048576x16x1x3, .f32⟩
  | 58 => ⟨S1048576x16x8x3, .i1⟩
  | 59 => ⟨S1048576x16x8x3, .f32⟩
  | 60 => ⟨S1048576x16x8x3, .f32⟩
  | 61 => ⟨S1048576x16x8x3, .f32⟩
  | 62 => ⟨S1048576x16x8x1, .f32⟩
  | 63 => ⟨S1048576x16x8, .f32⟩
  | 64 => ⟨S1048576x16x8x1, .f32⟩
  | 65 => ⟨S1048576x16x8, .f32⟩
  | 66 => ⟨S1048576x16x8, .f32⟩
  | 67 => ⟨S1048576x16x8x1, .f32⟩
  | 68 => ⟨S1048576x16x8, .f32⟩
  | 69 => ⟨S1048576x16x8, .f32⟩
  | 70 => ⟨S16, .i32⟩
  | 71 => ⟨S1x16x1, .i32⟩
  | 72 => ⟨S1048576x16x8x1, .f32⟩
  | 73 => ⟨S1x16x1, .i32⟩
  | 74 => ⟨S1048576x16x8x1, .i32⟩
  | 75 => ⟨S1048576x16x8, .i32⟩
  | 76 => ⟨S1048576x16x8x1, .i32⟩
  | 77 => ⟨S1048576x16x8, .i32⟩
  | 78 => ⟨S1048576x16x8x1, .i32⟩
  | 79 => ⟨S1048576x16x8, .i32⟩
  | 80 => ⟨S1048576x16x8, .i32⟩
  | 81 => ⟨S1048576x16x8, .i32⟩
  | 82 => ⟨S1048576x16x8, .i32⟩
  | 83 => ⟨S1048576x16x8, .i32⟩
  | 84 => ⟨S1048576x16x8, .i32⟩
  | 85 => ⟨S1048576x16x8, .i32⟩
  | 86 => ⟨S1048576x16x8x3, .i32⟩
  | 87 => ⟨S1048576x16x8x1, .i32⟩
  | 88 => ⟨S1048576x16x8, .i32⟩
  | 89 => ⟨S1048576x16x8x1, .i32⟩
  | 90 => ⟨S1048576x16x8, .i32⟩
  | 91 => ⟨S_, .i32⟩
  | 92 => ⟨S1048576x16x8, .i32⟩
  | 93 => ⟨S1048576x16x8, .i32⟩
  | 94 => ⟨S1048576x16x8, .i32⟩
  | 95 => ⟨S1048576x16x8x1, .i32⟩
  | 96 => ⟨S1048576x16x8, .i32⟩
  | 97 => ⟨S_, .i32⟩
  | 98 => ⟨S1048576x16x8, .i32⟩
  | 99 => ⟨S1048576x16x8, .i32⟩
  | 100 => ⟨S1048576x16x8, .i32⟩
  | 101 => ⟨S_, .i32⟩
  | 102 => ⟨S1048576x16x8, .i32⟩
  | 103 => ⟨S1048576x16x8, .i32⟩
  | 104 => ⟨S1048576x16x8, .i32⟩
  | 105 => ⟨S1x16x1, .i1⟩
  | 106 => ⟨S1048576x16x8, .i1⟩
  | 107 => ⟨S1048576x16x8, .i32⟩
  | 108 => ⟨S_, .i32⟩
  | 109 => ⟨S1x16x1, .i32⟩
  | 110 => ⟨S1x16x1, .i1⟩
  | 111 => ⟨S_, .i32⟩
  | 112 => ⟨S1x16x1, .i32⟩
  | 113 => ⟨S1x16x1, .i32⟩
  | 114 => ⟨S1x16x1, .i32⟩
  | 115 => ⟨S_, .i32⟩
  | 116 => ⟨S1048576x16x8, .i32⟩
  | 117 => ⟨S1048576x16x8, .i1⟩
  | 118 => ⟨S_, .i32⟩
  | 119 => ⟨S1048576x16x8, .i32⟩
  | 120 => ⟨S1048576x16x8, .i32⟩
  | 121 => ⟨S1048576x16x8, .i32⟩
  | 122 => ⟨S1048576x16x8, .i32⟩
  | 123 => ⟨S1048576x16x8x1, .i32⟩
  | 124 => ⟨S1048576x16x8x1, .i32⟩
  | 125 => ⟨S1048576x16x8x2, .i32⟩
  | 126 => ⟨S1048576x16x8x2, .f32⟩
  | 127 => ⟨S1048576x16x8x2, .f32⟩
  | _ => ⟨S1024x1024x3, .f32⟩

abbrev hbmTy0_1 (i : Nat) : BufTy := match i % 128 with
  | 0 => ⟨S1048576x16x8x2, .f32⟩
  | 1 => ⟨S_, .f32⟩
  | 2 => ⟨S1048576x16x2, .f32⟩
  | 3 => ⟨S1048576x32, .f32⟩
  | 4 => ⟨S1048576x32, .f32⟩
  | 5 => ⟨S_, .f32⟩
  | 6 => ⟨S1048576x32, .f32⟩
  | 7 => ⟨S1048576x32, .f32⟩
  | 8 => ⟨S1048576x32, .f32⟩
  | 9 => ⟨S_, .f32⟩
  | 10 => ⟨S1048576x32, .f32⟩
  | 11 => ⟨S1048576x32, .f32⟩
  | 12 => ⟨S1048576x9, .f32⟩
  | 13 => ⟨S1048576x9, .f32⟩
  | 14 => ⟨S1048576x9, .f32⟩
  | 15 => ⟨S_, .f32⟩
  | 16 => ⟨S1048576x9, .f32⟩
  | 17 => ⟨S1048576x9, .f32⟩
  | 18 => ⟨S_, .f32⟩
  | 19 => ⟨S1048576x9, .f32⟩
  | 20 => ⟨S1048576x9, .f32⟩
  | 21 => ⟨S9, .f32⟩
  | 22 => ⟨S1x9, .f32⟩
  | 23 => ⟨S1048576x9, .f32⟩
  | 24 => ⟨S1048576x9, .f32⟩
  | 25 => ⟨S1x9, .f32⟩
  | 26 => ⟨S1048576x9, .f32⟩
  | 27 => ⟨S1048576x9, .f32⟩
  | 28 => ⟨S1024x1024x9, .f32⟩
  | _ => ⟨S1024x1024x3, .f32⟩

abbrev hbmTy (i : Nat) : BufTy := match i / 128 with
  | 0 => hbmTy0_0 i
  | 1 => hbmTy0_1 i
  | _ => ⟨S1024x1024x3, .f32⟩

abbrev bufTy : (tb : Table) → Fin (tcTables nBuf tb) → BufTy
  | .hbm, ⟨i, _⟩ => hbmTy i
  | _, _ => ⟨S1024x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_8 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_9 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call3_v0 : Ref sig .tc := ⟨.hbm, 106, rfl⟩
abbrev main_v72 : Ref sig .tc := ⟨.hbm, 107, rfl⟩
abbrev main_c_11 : Ref sig .tc := ⟨.hbm, 108, rfl⟩
abbrev main_v73 : Ref sig .tc := ⟨.hbm, 109, rfl⟩
abbrev main_v74 : Ref sig .tc := ⟨.hbm, 110, rfl⟩
abbrev main_c_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_13 : Ref sig .tc := ⟨.hbm, 115, rfl⟩
abbrev main_v78 : Ref sig .tc := ⟨.hbm, 116, rfl⟩
abbrev main_v79 : Ref sig .tc := ⟨.hbm, 117, rfl⟩
abbrev main_c_14 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_15 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call4_cst : Ref sig .tc := ⟨.hbm, 133, rfl⟩
abbrev main_call4_v0 : Ref sig .tc := ⟨.hbm, 134, rfl⟩
abbrev main_v93 : Ref sig .tc := ⟨.hbm, 135, rfl⟩
abbrev main_v94 : Ref sig .tc := ⟨.hbm, 136, rfl⟩
abbrev main_call5_cst : Ref sig .tc := ⟨.hbm, 137, rfl⟩
abbrev main_call5_v0 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_16 : Ref sig .tc := ⟨.hbm, 143, rfl⟩
abbrev main_v99 : Ref sig .tc := ⟨.hbm, 144, rfl⟩
abbrev main_v100 : Ref sig .tc := ⟨.hbm, 145, rfl⟩
abbrev main_cst_17 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩

abbrev nD : Nat := 1
abbrev τ : Topo := Topo.v7x

variable {F : FTy → Type} [FloatOps F]
-- ==== Proof.Struct.lean ====
module

public import proofs.«01_k».proof.KernelIdeal

@[expose] public section

noncomputable section

/-
  The kernel's body written once as a short structured program: the three coordinates, the 16 levels times 8
  corners of packed indices and weights, the two copies, the loop over the points, and the dense layers.
-/
namespace Tex

open Idealize.ShloMosaic Idealize.SL.Sem
open Cert.KernelIdeal (S1x4x128 S4x128 S2x4 S1x1 S16x8x4x128 S1x1x4x128 S1x1x1x1 S1x128 S1x1x128 S8192x128 S512x128 S2048x32 S128x32 S512x32 S32x32 S32x9 S512x9 S1x9 S_)
open Cert.KernelIdeal.Facts₀

variable {F : FTy → Type} [FloatOps F] [Cert.KernelIdeal.Facts₀]
variable {nD : Nat} {τ : Topo} {sig : RefSig} {Λ : Labels}

/-- What distinguishes one level: its resolution, the word of the float `resolution - 1`, whether its table is
    dense, its table's rows and its resolution as a number. -/
structure Lvl where
  res : BitVec 32
  word : BitVec 32
  dense : Bool
  rows : Nat
  side : Nat

/-- The sixteen levels. -/
def lvl : Fin 16 → Lvl := ![
  ⟨16#32, 0x41700000#32, true, 64, 16⟩,
  ⟨24#32, 0x41B80000#32, true, 216, 24⟩,
  ⟨34#32, 0x42040000#32, true, 615, 34⟩,
  ⟨49#32, 0x42400000#32, true, 1839, 49⟩,
  ⟨71#32, 0x428C0000#32, true, 5593, 71⟩,
  ⟨102#32, 0x42CA0000#32, false, 8192, 102⟩,
  ⟨148#32, 0x43130000#32, false, 8192, 148⟩,
  ⟨213#32, 0x43540000#32, false, 8192, 213⟩,
  ⟨308#32, 0x43998000#32, false, 8192, 308⟩,
  ⟨446#32, 0x43DE8000#32, false, 8192, 446⟩,
  ⟨646#32, 0x44214000#32, false, 8192, 646⟩,
  ⟨934#32, 0x44694000#32, false, 8192, 934⟩,
  ⟨1352#32, 0x44A8E000#32, false, 8192, 1352⟩,
  ⟨1956#32, 0x44F46000#32, false, 8192, 1956⟩,
  ⟨2831#32, 0x4530E000#32, false, 8192, 2831⟩,
  ⟨4096#32, 0x457FF000#32, false, 8192, 4096⟩]

/-- The shape of a level's table. -/
abbrev tabShape (l : Fin 16) : Shape := ⟨3, ![(lvl l).rows, 1, 128]⟩

/-- A coordinate scaled to the level's grid. -/
def pos (l : Fin 16) (x : FVec F S4x128 .f32) : FVec F S4x128 .f32 := mulf x (broadcast S4x128 (Scalar.ofBits .f32 (lvl l).word))
/-- Its cell. -/
def cell (l : Fin 16) (x : FVec F S4x128 .f32) : IVec S4x128 32 := fptosi 32 (floor (pos l x))
/-- Its place inside the cell. -/
def frac (l : Fin 16) (x : FVec F S4x128 .f32) : FVec F S4x128 .f32 := subf (pos l x) (floor (pos l x))
/-- A corner's weight along an axis. -/
def wgt (l : Fin 16) (x : FVec F S4x128 .f32) (b : Bool) : FVec F S4x128 .f32 :=
  match b with
  | true => frac l x
  | false => subf (broadcast S4x128 (Scalar.ofBits .f32 0x3F800000#32)) (frac l x)
/-- A corner's coordinate along an axis, kept inside the grid. -/
def clipc (l : Fin 16) (x : FVec F S4x128 .f32) (b : Bool) : IVec S4x128 32 :=
  minsi (broadcast S4x128 ((lvl l).res - 1#32)) (maxsi (broadcast S4x128 0#32) (addi (cell l x) (broadcast S4x128 (match b with | true => 1#32 | false => 0#32))))
/-- The table entry of three coordinates. -/
def entry (l : Fin 16) (c0 c1 c2 : IVec S4x128 32) : IVec S4x128 32 :=
  match (lvl l).dense with
  | true => addi c0 (muli (broadcast S4x128 (lvl l).res) (addi c1 (muli (broadcast S4x128 (lvl l).res) c2)))
  | false => andi (xori (xori c0 (muli c1 (broadcast S4x128 2654435761#32))) (muli c2 (broadcast S4x128 805459861#32))) (broadcast S4x128 524287#32)
/-- An entry packed: its place in a row above its row. -/
def packE (e : IVec S4x128 32) : IVec S4x128 32 :=
  ori (shli (andi e (broadcast S4x128 63#32)) (broadcast S4x128 15#32)) (shrsi e (broadcast S4x128 6#32))

/-- Whether corner `c` is the far one along each axis. -/
def bx (c : Fin 8) : Bool := ![false, true, false, true, false, true, false, true] c
def bY (c : Fin 8) : Bool := ![false, false, true, true, false, false, true, true] c
def bz (c : Fin 8) : Bool := ![false, false, false, false, true, true, true, true] c

/-- The packed index of a corner at a level. -/
def packV (l : Fin 16) (c : Fin 8) (x y z : FVec F S4x128 .f32) : IVec S4x128 32 :=
  packE (entry l (clipc l x (bx c)) (clipc l y (bY c)) (clipc l z (bz c)))
/-- The weight of a corner at a level. -/
def wV (l : Fin 16) (c : Fin 8) (x y z : FVec F S4x128 .f32) : FVec F S4x128 .f32 :=
  mulf (mulf (wgt l x (bx c)) (wgt l y (bY c))) (wgt l z (bz c))

theorem slab_inb (l : Fin 16) (c : Fin 8) : ∀ a, (![l.val, c.val, 0, 0] : Fin 4 → Nat) a + S1x1x4x128.size a ≤ S16x8x4x128.size a := by
  revert l c; decide

/-- One corner's two stores. -/
def encStep (a27 : Memref sig .tc .vmem S16x8x4x128 .i32) (a28 : Memref sig .tc .vmem S16x8x4x128 .f32) (x y z : FVec F S4x128 .f32)
    (l : Fin 16) (c : Fin 8) : Prog (TpuEff nD τ sig (Elt F) Λ .tc) PUnit := do
  let _ ← Prog.lift (.load a27 (Rect.unit (s := S16x8x4x128) ![l.val, c.val, 0, 0] S1x1x4x128.size (slab_inb l c)).toLoadRect (View.loadsAt_vmem h_S1x1x4x128))
  Prog.lift (.store a27 (Rect.unit (s := S16x8x4x128) ![l.val, c.val, 0, 0] S1x1x4x128.size (slab_inb l c)) (shapeCast S1x1x4x128 (packV l c x y z) shapeCasts_S4x128_S1x1x4x128) Finset.univ (View.stores_vmem_bits_univ h_S1x1x4x128 rfl) (.inl rfl))
  let _ ← Prog.lift (.load a28 (Rect.unit (s := S16x8x4x128) ![l.val, c.val, 0, 0] S1x1x4x128.size (slab_inb l c)).toLoadRect (View.loadsAt_vmem h_S1x1x4x128))
  Prog.lift (.store a28 (Rect.unit (s := S16x8x4x128) ![l.val, c.val, 0, 0] S1x1x4x128.size (slab_inb l c)) (shapeCast S1x1x4x128 (wV l c x y z) shapeCasts_S4x128_S1x1x4x128) Finset.univ (View.stores_vmem_bits_univ h_S1x1x4x128 rfl) (.inl rfl))

/-- Running a step for every entry of a list. -/
def each {E : Type → Type} {ι : Type} (f : ι → Prog E PUnit) : List ι → Prog E PUnit
  | [] => pure ⟨⟩
  | i :: is => do f i; each f is

/-- The levels and the corners in order. -/
def levels : List (Fin 16) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩]
def corners : List (Fin 8) := [⟨0, by decide⟩, ⟨1, by decide⟩, ⟨2, by decide⟩, ⟨3, by decide⟩, ⟨4, by decide⟩, ⟨5, by decide⟩, ⟨6, by decide⟩, ⟨7, by decide⟩]

/-- All the stores of packed indices and weights. -/
def encAll (a27 : Memref sig .tc .vmem S16x8x4x128 .i32) (a28 : Memref sig .tc .vmem S16x8x4x128 .f32) (x y z : FVec F S4x128 .f32) :
    Prog (TpuEff nD τ sig (Elt F) Λ .tc) PUnit :=
  each (fun l => each (fun c => encStep a27 a28 x y z l c) corners) levels

theorem nrm_inb (r : Fin 2) (d : Fin 3) : ∀ a, (![r.val, d.val] : Fin 2 → Nat) a + S1x1.size a ≤ S2x4.size a := by
  revert r d; decide

/-- One normalised coordinate of the block's points. -/
def coord (a : Memref sig .tc .vmem S1x4x128 .f32) (a4 : Memref sig .tc .smem S2x4 .f32) (d : Fin 3) :
    Prog (TpuEff nD τ sig (Elt F) Λ .tc) (FVec F S4x128 .f32) := do
  let v ← Prog.lift (.load a (Rect.unit (s := S1x4x128) ![0, 0, 0] S1x4x128.size inb_S1x4x128_S1x4x128_0_0_0).toLoadRect (View.loadsAt_vmem h_S1x4x128))
  let lo : Elt F .f32 ← smemLoad a4 (Rect.unit (s := S2x4) ![0, d.val] S1x1.size (nrm_inb 0 d)) numel1_S1x1 rfl
  let sc : Elt F .f32 ← smemLoad a4 (Rect.unit (s := S2x4) ![1, d.val] S1x1.size (nrm_inb 1 d)) numel1_S1x1 rfl
  pure (minimumf (broadcast S4x128 (Scalar.ofBits .f32 0x3F800000#32)) (maximumf (broadcast S4x128 (Scalar.ofBits .f32 0x00000000#32))
    (mulf (subf (shapeCast S4x128 v shapeCasts_S1x4x128_S4x128) (broadcast S4x128 lo)) (broadcast S4x128 sc))))

/-- The loop over the block's points. -/
abbrev loop : Scf.Loop 32 := ⟨0#32, Scalar.addi 0#32 512#32, 1#32⟩
/-- The point of a trip. -/
abbrev ivOf (t : Fin loop.trips) : BitVec 32 := Scf.iv 0#32 1#32 t

/-- Where trip `t` finds the word of corner `c` at level `l`. -/
def wordOff (l : Fin 16) (c : Fin 8) (t : Fin loop.trips) : Fin 4 → Nat :=
  ![l.val, c.val, (Scalar.indexCast (Scalar.shrsi (ivOf t) 7#32)).toNat, (Scalar.indexCast (Scalar.andi (ivOf t) 127#32)).toNat]
/-- Where it finds the table's row. -/
def rowOff (pk : BitVec 32) : Fin 3 → Nat := ![(Scalar.indexCast (Scalar.andi pk 16383#32)).toNat, 0, 0]
/-- Where it leaves a level's row. -/
def accOff (l : Fin 16) (t : Fin loop.trips) : Fin 2 → Nat := ![(Scalar.indexCast (Scalar.addi (BitVec.ofNat 32 (512 * l.val)) (ivOf t))).toNat, 0]

theorem trips_eq : loop.trips = 512 := by decide

theorem trip_lt (t : Fin loop.trips) : t.val < 512 := by
  have ht := t.isLt
  have h := trips_eq
  omega

theorem iv_toNat (t : Fin loop.trips) : (ivOf t).toNat = t.val := by
  have ht := trip_lt t
  simp [ivOf, Scf.iv]
  omega

/-- A trip's number is its point, as a word. -/
theorem iv_eq (t : Fin loop.trips) : ivOf t = BitVec.ofNat 32 t.val := by
  apply BitVec.eq_of_toNat_eq
  have ht := trip_lt t
  rw [iv_toNat, BitVec.toNat_ofNat]
  omega

theorem seg_toNat (t : Fin loop.trips) : (Scalar.indexCast (Scalar.shrsi (ivOf t) 7#32)).toNat = t.val / 128 := by
  rw [iv_eq]
  have ht := trip_lt t
  generalize t.val = n at ht
  revert n
  decide +kernel
theorem lane_toNat (t : Fin loop.trips) : (Scalar.indexCast (Scalar.andi (ivOf t) 127#32)).toNat = t.val % 128 := by
  rw [iv_eq]
  have ht := trip_lt t
  generalize t.val = n at ht
  revert n
  decide +kernel
theorem accRow_toNat (l : Fin 16) (t : Fin loop.trips) : (Scalar.indexCast (Scalar.addi (BitVec.ofNat 32 (512 * l.val)) (ivOf t))).toNat = 512 * l.val + t.val := by
  rw [iv_eq]
  have ht := trip_lt t
  have hl := l.isLt
  generalize t.val = n at ht
  change (BitVec.ofNat 32 (512 * l.val) + BitVec.ofNat 32 n).toNat = _
  rw [BitVec.toNat_add, BitVec.toNat_ofNat, BitVec.toNat_ofNat]
  omega

theorem word_inb (l : Fin 16) (c : Fin 8) (t : Fin loop.trips) : ∀ a, wordOff l c t a + S1x1x1x1.size a ≤ S16x8x4x128.size a := by
  have h2 := seg_toNat t
  have h3 := lane_toNat t
  have ht := trip_lt t
  have hl := l.isLt
  have hc := c.isLt
  intro a
  unfold wordOff
  rw [h2, h3]
  fin_cases a <;> simp <;> omega
theorem acc_inb (l : Fin 16) (t : Fin loop.trips) : ∀ a, accOff l t a + S1x128.size a ≤ S8192x128.size a := by
  have h := accRow_toNat l t
  have ht := trip_lt t
  have hl := l.isLt
  intro a
  unfold accOff
  rw [h]
  fin_cases a <;> simp <;> omega

/-- The row a packed index names is a row of the level's table. -/
def rowOk (l : Fin 16) (pk : BitVec 32) : Prop := ∀ a, rowOff pk a + S1x1x128.size a ≤ (tabShape l).size a
instance rowOk.dec (l : Fin 16) (pk : BitVec 32) : Decidable (rowOk l pk) := decidable_of_iff' _ (Iff.of_eq (rowOk.eq_1 l pk))

/-- The tables by level. -/
abbrev Tabs (sig : RefSig) : Type := (l : Fin 16) → Memref sig .tc .vmem (tabShape l) .f32

/-- The even lane below each lane. -/
def lane2 : IVec S1x128 32 := andi (iota .tc S1x128 32 [1] iota_S1x128_d1_w32) (broadcast S1x128 4294967294#32)

/-- A corner's contribution to a point's row at a level. -/
def contrib (row : FVec F S1x128 .f32) (pk : BitVec 32) (w : Elt F .f32) : FVec F S1x128 .f32 :=
  mulf (select (cmpi .eq lane2 (broadcast S1x128 (Scalar.shrsi pk 14#32))) row (broadcast S1x128 (Scalar.ofBits .f32 0x00000000#32))) (broadcast S1x128 w)

/-- One corner at one level of a trip: the packed index, the weight, the row. -/
def corner (tabs : Tabs sig) (a30 : Memref sig .tc .smem S16x8x4x128 .i32) (a31 : Memref sig .tc .smem S16x8x4x128 .f32)
    (t : Fin loop.trips) (l : Fin 16) (c : Fin 8) : Prog (TpuEff nD τ sig (Elt F) Λ .tc) (FVec F S1x128 .f32) := do
  let pk : Elt F .i32 ← smemLoad a30 (Rect.unit (s := S16x8x4x128) (wordOff l c t) S1x1x1x1.size (word_inb l c t)) numel1_S1x1x1x1 rfl
  have hw : rowOk l pk := (← Prog.lift (TpuEff.assume (rowOk l pk) (rowOk.dec l pk))).down
  let w : Elt F .f32 ← smemLoad a31 (Rect.unit (s := S16x8x4x128) (wordOff l c t) S1x1x1x1.size (word_inb l c t)) numel1_S1x1x1x1 rfl
  let row : Vec F S1x1x128 .f32 ← Prog.lift (.load (tabs l) (Rect.unit (s := tabShape l) (rowOff pk) S1x1x128.size hw).toLoadRect (View.loadsAt_vmem h_S1x1x128))
  pure (contrib (shapeCast S1x128 row shapeCasts_S1x1x128_S1x128) pk w)

/-- One level of a trip: the eight corners, summed and stored. -/
def levelStep (tabs : Tabs sig) (a29 : Memref sig .tc .vmem S8192x128 .f32) (a30 : Memref sig .tc .smem S16x8x4x128 .i32) (a31 : Memref sig .tc .smem S16x8x4x128 .f32)
    (t : Fin loop.trips) (l : Fin 16) : Prog (TpuEff nD τ sig (Elt F) Λ .tc) PUnit := do
  let c0 ← corner tabs a30 a31 t l ⟨0, by decide⟩
  let c1 ← corner tabs a30 a31 t l ⟨1, by decide⟩
  let c2 ← corner tabs a30 a31 t l ⟨2, by decide⟩
  let c3 ← corner tabs a30 a31 t l ⟨3, by decide⟩
  let c4 ← corner tabs a30 a31 t l ⟨4, by decide⟩
  let c5 ← corner tabs a30 a31 t l ⟨5, by decide⟩
  let c6 ← corner tabs a30 a31 t l ⟨6, by decide⟩
  let c7 ← corner tabs a30 a31 t l ⟨7, by decide⟩
  let _ ← Prog.lift (.load a29 (Rect.unit (s := S8192x128) (accOff l t) S1x128.size (acc_inb l t)).toLoadRect (View.loadsAt_vmem h_S1x128))
  Prog.lift (.store a29 (Rect.unit (s := S8192x128) (accOff l t) S1x128.size (acc_inb l t))
    (shapeCast S1x128 (addf (addf (addf c0 c1) (addf c2 c3)) (addf (addf c4 c5) (addf c6 c7))) shapeCasts_S1x128_S1x128)
    Finset.univ (View.stores_vmem_bits_univ h_S1x128 rfl) (.inl rfl))

/-- A trip of the loop. -/
def trip (tabs : Tabs sig) (a29 : Memref sig .tc .vmem S8192x128 .f32) (a30 : Memref sig .tc .smem S16x8x4x128 .i32) (a31 : Memref sig .tc .smem S16x8x4x128 .f32)
    (t : Fin loop.trips) : Prog (TpuEff nD τ sig (Elt F) Λ .tc) PUnit :=
  each (levelStep tabs a29 a30 a31 t) levels

theorem accBlk_inb (l : Fin 16) : ∀ a, (![512 * l.val, 0] : Fin 2 → Nat) a + S512x128.size a ≤ S8192x128.size a := by
  revert l; decide
theorem gBlk_inb (l : Fin 16) : ∀ a, (![128 * l.val, 0] : Fin 2 → Nat) a + S128x32.size a ≤ S2048x32.size a := by
  revert l; decide

/-- The first layer, a level at a time. -/
def layer1 (a7 : Memref sig .tc .vmem S2048x32 .f32) (a29 : Memref sig .tc .vmem S8192x128 .f32) :
    List (Fin 16) → FVec F S512x32 .f32 → Prog (TpuEff nD τ sig (Elt F) Λ .tc) (FVec F S512x32 .f32)
  | [], h => pure h
  | l :: ls, h => do
    let a : Vec F S512x128 .f32 ← Prog.lift (.load a29 (Rect.unit (s := S8192x128) ![512 * l.val, 0] S512x128.size (accBlk_inb l)).toLoadRect (View.loadsAt_vmem h_S512x128))
    let g : Vec F S128x32 .f32 ← Prog.lift (.load a7 (Rect.unit (s := S2048x32) ![128 * l.val, 0] S128x32.size (gBlk_inb l)).toLoadRect (View.loadsAt_vmem h_S128x32))
    layer1 a7 a29 ls (addf h (matmul Cert.KernelIdeal.dot_S512x128_S128x32_S512x32_1_0_0_1_n_n none a (shapeCast S128x32 g shapeCasts_S128x32_S128x32) (constant S512x32 .f32 0x00000000#32)))

/-- The outputs of a block from the first layer's sums. -/
def outV (h : FVec F S512x32 .f32) (w2 : Vec F S32x32 .f32) (w3 : Vec F S32x9 .f32) (s m : Vec F S1x9 .f32) : FVec F S512x9 .f32 :=
  addf (mulf (logistic (matmul Cert.KernelIdeal.dot_S512x32_S32x9_S512x9_1_0_0_1_n_n none
      (maximumf (matmul Cert.KernelIdeal.dot_S512x32_S32x32_S512x32_1_0_0_1_n_n none (maximumf h (broadcast S512x32 (Scalar.ofBits .f32 0x00000000#32))) w2 (constant S512x32 .f32 0x00000000#32))
        (broadcast S512x32 (Scalar.ofBits .f32 0x00000000#32))) w3 (constant S512x9 .f32 0x00000000#32)))
    (broadcastTo S512x9 (shapeCast S1x9 s shapeCasts_S1x9_S1x9) broadcasts_S1x9_S512x9))
    (broadcastTo S512x9 (shapeCast S1x9 m shapeCasts_S1x9_S1x9) broadcasts_S1x9_S512x9)

/-- The dense layers and the block's store. -/
def tail (a5 a6 : Memref sig .tc .vmem S1x9 .f32) (a7 : Memref sig .tc .vmem S2048x32 .f32) (a8 : Memref sig .tc .vmem S32x32 .f32) (a9 : Memref sig .tc .vmem S32x9 .f32)
    (a26 : Memref sig .tc .vmem S512x9 .f32) (a29 : Memref sig .tc .vmem S8192x128 .f32) : Prog (TpuEff nD τ sig (Elt F) Λ .tc) PUnit := do
  let h ← layer1 a7 a29 levels (broadcast S512x32 (Scalar.ofBits .f32 0x00000000#32))
  let w2 : Vec F S32x32 .f32 ← Prog.lift (.load a8 (Rect.unit (s := S32x32) ![0, 0] S32x32.size inb_S32x32_S32x32_0_0).toLoadRect (View.loadsAt_vmem h_S32x32))
  let w3 : Vec F S32x9 .f32 ← Prog.lift (.load a9 (Rect.unit (s := S32x9) ![0, 0] S32x9.size inb_S32x9_S32x9_0_0).toLoadRect (View.loadsAt_vmem h_S32x9))
  let s : Vec F S1x9 .f32 ← Prog.lift (.load a6 (Rect.unit (s := S1x9) ![0, 0] S1x9.size inb_S1x9_S1x9_0_0).toLoadRect (View.loadsAt_vmem h_S1x9))
  let m : Vec F S1x9 .f32 ← Prog.lift (.load a5 (Rect.unit (s := S1x9) ![0, 0] S1x9.size inb_S1x9_S1x9_0_0).toLoadRect (View.loadsAt_vmem h_S1x9))
  let _ ← Prog.lift (.load a26 (Rect.unit (s := S512x9) ![0, 0] S512x9.size inb_S512x9_S512x9_0_0).toLoadRect (View.loadsAt_vmem h_S512x9))
  Prog.lift (.store a26 (Rect.unit (s := S512x9) ![0, 0] S512x9.size inb_S512x9_S512x9_0_0) (outV h w2 w3 s m) Finset.univ (View.stores_vmem_bits_univ h_S512x9 rfl) (.inl rfl))

theorem loop_ok : loop.OK := by decide

/-- The whole body. -/
def body (a1 a2 a3 : Memref sig .tc .vmem S1x4x128 .f32) (a4 : Memref sig .tc .smem S2x4 .f32)
    (a5 a6 : Memref sig .tc .vmem S1x9 .f32) (a7 : Memref sig .tc .vmem S2048x32 .f32) (a8 : Memref sig .tc .vmem S32x32 .f32) (a9 : Memref sig .tc .vmem S32x9 .f32)
    (tabs : Tabs sig) (a26 : Memref sig .tc .vmem S512x9 .f32)
    (a27 : Memref sig .tc .vmem S16x8x4x128 .i32) (h27 : a27.IsWhole) (a28 : Memref sig .tc .vmem S16x8x4x128 .f32) (h28 : a28.IsWhole) (a29 : Memref sig .tc .vmem S8192x128 .f32)
    (a30 : Memref sig .tc .smem S16x8x4x128 .i32) (h30 : a30.IsWhole) (a31 : Memref sig .tc .smem S16x8x4x128 .f32) (h31 : a31.IsWhole)
    (a32 a33 : DmaSems sig S_) : Prog (TpuEff nD τ sig (Elt F) Λ .tc) PUnit := do
  let x ← coord a1 a4 0
  let y ← coord a2 a4 1
  let z ← coord a3 a4 2
  encAll a27 a28 x y z
  Prog.lift (.enqueueDma a27 (.here a30) (.dma a32.sem) h27.wordExact h30.wordExact ⟨Or.inl rfl, trivial⟩)
  Prog.lift (.enqueueDma a28 (.here a31) (.dma a33.sem) h28.wordExact h31.wordExact ⟨Or.inl rfl, trivial⟩)
  Prog.lift (.waitDma2 a32.sem a27 a30 h27.wordExact h30.wordExact)
  Prog.lift (.waitDma2 a33.sem a28 a31 h28.wordExact h31.wordExact)
  Scf.Loop.for loop loop_ok PUnit.unit fun t _ => trip tabs a29 a30 a31 t
  tail a5 a6 a7 a8 a9 a26 a29

end Tex
-- ==== Proof.Rules.lean ====
module

public import proofs.«01_k».proof.Proof.Struct
public import Idealize.ShloMosaic.Lib.Tactic
public import Idealize.ShloMosaic.Lib.Memref
public import Idealize.ShloMosaic.Lib.Transfers
public import Idealize.ShloMosaic.Lib.Pipeline.Kit

@[expose] public section

noncomputable section

/-
  The four instructions the body uses, as rules over buffers owned at what they hold: a load reads the rectangle, a
  store overlays it, a word of scalar memory is the buffer's element, a copy between two own buffers leaves the
  destination at the source's contents.
-/
namespace Tex

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} (U : Type) [URA U] {Λ : Labels}

local notation "𝕄" => MT nD τ sig Unit Val ℕ U ℕ

/-- A memref held by a core's TensorCore at contents `X`. -/
abbrev own (c : Dev nD) {sp : Space} {s : Shape} {e : EltTy} (m : Memref sig .tc sp s e) (X : s.Idx → Val e) : sProp 𝕄 :=
  owns (c : Thread nD τ) m fullShare X

variable {U}

/-- The weakest precondition the rules speak of. -/
abbrev Wp (defs : Defs nD τ sig Val Λ) (c : Dev nD) {α : Type} (p : Prog (TpuEff nD τ sig Val Λ .tc) α) (Q : α → sProp 𝕄) : sProp 𝕄 :=
  wp frame (wpE defs Variants.none (c : Thread nD τ) none) Set.univ p Q

variable {defs : Defs nD τ sig Val Λ} (c : Dev nD)

theorem acc_subset {sp : Space} {s : Shape} {e : EltTy} (m : Memref sig .tc sp s e) (r : Rect s) : (m.access r).setOn Finset.univ ⊆ m.view.set :=
  m.view.set_slice_subset r

/-- What a buffer reads after a write through a rectangle. -/
theorem read_acc {sp : Space} {s : Shape} {e : EltTy} (m : Memref sig .tc sp s e) (r : Rect s) (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    exact (m.view.read_slice_write_emb r f w (Finset.mem_univ i)).trans (r.overlay_emb _ _ i).symm
  · rw [Rect.overlay_of_not_mem _ _ _ hj]
    exact m.view.read_slice_write_of_not_mem r f w Finset.univ (r.map_emb_univ ▸ hj)

/-- A load through a rectangle. -/
theorem wp_ld {α : Type} {Q : α → sProp 𝕄} {cs : CoreSpace} {s : Shape} {e : EltTy} {m : Memref sig .tc cs s e} {X : s.Idx → Val e} {r : Rect s} {hl : m.view.LoadsAt r.toLoadRect}
    {k : (r.shape.Idx → Val e) → Prog (TpuEff nD τ sig Val Λ .tc) α} :
    iprop(own (τ := τ) U c m X ∗ (own (τ := τ) U c m X -∗ Wp defs c (k (fun x => X (r.emb x))) Q)) ⊢ Wp defs c (.op (.load m r.toLoadRect hl) k) Q := by
  iintro ⟨H, Hk⟩
  unfold own owns
  icases H with ⟨%f, %hf, H⟩
  subst hf
  iapply (wp_load (defs := defs) Variants.none (c : Thread nD τ) none Set.univ (m := m) (S := m.view.set) (View.setOn_subset_set _ _)) $$ H
  iintro H
  iapply Hk
  iexists f
  isplitr
  · ipureintro; rfl
  · iexact H

/-- A store through a rectangle. -/
theorem wp_st {α : Type} {Q : α → sProp 𝕄} {cs : CoreSpace} {s : Shape} {e : EltTy} {m : Memref sig .tc cs s e} {X : s.Idx → Val e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) α} :
    iprop(own (τ := τ) U c m X ∗ (own (τ := τ) U c m (r.overlay X w) -∗ Wp defs c (k ⟨⟩) Q)) ⊢ Wp defs c (.op (.store m r w Finset.univ hx hm) k) Q := by
  iintro ⟨H, Hk⟩
  unfold own owns
  icases H with ⟨%f, %hf, H⟩
  subst hf
  iapply (wp_store (defs := defs) Variants.none (c : Thread nD τ) none Set.univ (m := m) (r := r) (w := w) (Mk := Finset.univ) (hx := hx) (hm := hm) (S := m.view.set) (acc_subset m r)) $$ H
  iintro H
  iapply Hk
  iexists (m.access r).write Val f w Finset.univ
  isplitr
  · ipureintro; exact read_acc m r f w
  · iexact H

/-- A load alone. -/
theorem wp_ldL {cs : CoreSpace} {s : Shape} {e : EltTy} {m : Memref sig .tc cs s e} {X : s.Idx → Val e} {r : Rect s} {hl : m.view.LoadsAt r.toLoadRect}
    {Q : (r.shape.Idx → Val e) → sProp 𝕄} :
    iprop(own (τ := τ) U c m X ∗ (own (τ := τ) U c m X -∗ Q (fun x => X (r.emb x)))) ⊢ Wp defs c (Prog.lift (.load m r.toLoadRect hl)) Q := by
  iintro ⟨H, Hk⟩
  iapply (wp_ld c)
  isplitl [H]
  · iexact H
  iintro H
  unfold Wp
  rw [wp_ret]
  imodintro
  iapply Hk
  iexact H

/-- A store alone. -/
theorem wp_stL {cs : CoreSpace} {s : Shape} {e : EltTy} {m : Memref sig .tc cs s e} {X : s.Idx → Val e} {r : Rect s} {w : r.shape.Idx → Val e}
    {hx : (m.access r).Stores Finset.univ} {hm : (Finset.univ : Finset r.shape.Idx) = Finset.univ ∨ ∀ a, r.stride a = 1}
    {Q : PUnit → sProp 𝕄} :
    iprop(own (τ := τ) U c m X ∗ (own (τ := τ) U c m (r.overlay X w) -∗ Q ⟨⟩)) ⊢ Wp defs c (Prog.lift (.store m r w Finset.univ hx hm)) Q := by
  iintro ⟨H, Hk⟩
  iapply (wp_st c)
  isplitl [H]
  · iexact H
  iintro H
  unfold Wp
  rw [wp_ret]
  imodintro
  iapply Hk
  iexact H

/-- A word of scalar memory, alone. -/
theorem wp_wordL {s : Shape} {e : EltTy} {m : Memref sig .tc .smem s e} {X : s.Idx → Val e} {r : Rect s} {h1 : r.shape.numel = 1} {hp : e.packing = 1}
    {Q : Val e → sProp 𝕄} :
    iprop(own (τ := τ) U c m X ∗ (own (τ := τ) U c m X -∗ Q (X (r.emb (Shape.Idx.first (h1.symm ▸ Nat.one_pos)))))) ⊢ Wp defs c (smemLoad m r h1 hp) Q := by
  iintro ⟨H, Hk⟩
  iapply (wp_ld c)
  isplitl [H]
  · iexact H
  iintro H
  unfold Wp
  rw [wp_ret]
  imodintro
  iapply Hk
  iexact H

/-- A copy in flight: what it will deliver, whatever the form it was promised in. -/
def Pend (EC : UEmb Counters 𝕄) (c : Dev nD) {sp sp' : Space} {s : Shape} {e : EltTy} (src : Memref sig .tc sp s e) (dst : Memref sig .tc sp' s e) (sm : SemLoc sig)
    (X : s.Idx → Val e) : sProp 𝕄 :=
  iprop(∃ D : sProp 𝕄, ⌜D ⊢ iprop(own (τ := τ) U c src X ∗ own (τ := τ) U c dst X)⌝ ∗ Transfers.Flight EC (c : Thread nD τ) sm () dst.view.dmaCredit D)

/-- What a copy delivers, at the contents read. -/
theorem landed {sp sp' : Space} {s : Shape} {e : EltTy} {src : Memref sig .tc sp s e} {dst : Memref sig .tc sp' s e} {X : s.Idx → Val e}
    (f : Buf Val (src.view.loc (c : Thread nD τ))) (g : Buf Val (dst.view.loc (c : Thread nD τ))) (hf : src.view.read Val f = X) :
    iprop((dst.view.loc (c : Thread nD τ) ↦[dst.view.set]{fullShare} (dst.view.write Val g (ReadAs.same.apply (src.view.read Val f)) Finset.univ))
        ∗ (src.view.loc (c : Thread nD τ) ↦[src.view.set]{fullShare} f))
      ⊢ (iprop(own (τ := τ) U c src X ∗ own (τ := τ) U c dst X) : sProp 𝕄) := by
  iintro ⟨Hd, Hs⟩
  unfold own owns
  isplitl [Hs]
  · iexists f
    isplitr
    · ipureintro; exact hf
    iexact Hs
  · iexists (dst.view.write Val g (ReadAs.same.apply (src.view.read Val f)) Finset.univ)
    isplitr
    · ipureintro
      rw [← hf]
      exact View.read_write_univ _ _
    iexact Hd

/-- Starting a copy between two own buffers. -/
theorem wp_copyL (EC : UEmb Counters 𝕄) [EC.LandsIn (upEmb : UEmb _ 𝕄)] {sp sp' : Space} {s : Shape} {e : EltTy}
    {src : Memref sig .tc sp s e} {dst : Memref sig .tc sp' s e} {X Y : s.Idx → Val e} {sem : DmaSem sig}
    {hs : src.view.WordExact} {hd : dst.view.WordExact} {ht : DmaTarget.Typed sp (.dma sem) (DmaTarget.here (nD := nD) (τ := τ) (sig := sig) (p := Proc.tc) dst)}
    (hN : 0 < dst.view.dmaCredit) {Q : PUnit → sProp 𝕄} :
    iprop(own (τ := τ) U c src X ∗ own (τ := τ) U c dst Y ∗ semVal ((c : Thread nD τ), .dma sem) 0 ∗ (Pend (τ := τ) EC c src dst (.dma sem) X -∗ Q ⟨⟩))
      ⊢ Wp defs c (Prog.lift (.enqueueDma src (.here dst) (.dma sem) hs hd ht)) Q := by
  unfold own owns
  iintro ⟨⟨%f, %hf, Hs⟩, ⟨%g, %hg, Hd⟩, Hv, Hk⟩
  iapply (Transfers.wp_dmaLocal EC Variants.none (c : Thread nD τ) none (src := src) (dst := dst) () dst.view.dmaCredit rfl hN (Finset.Subset.refl _)) $$ [Hs Hd Hv]
  · isplitl [Hs]; · iexact Hs
    isplitl [Hd]; · iexact Hd
    iexact Hv
  iintro HF
  rw [wp_ret]
  imodintro
  iapply Hk
  unfold Pend
  iexists _
  isplitr
  swap
  · iexact HF
  · ipureintro
    exact landed c f g hf

/-- Waiting for it. -/
theorem wp_waitL (EC : UEmb Counters 𝕄) [EC.LandsIn (upEmb : UEmb _ 𝕄)] {sp sp' : Space} {s : Shape} {e : EltTy}
    {src : Memref sig .tc sp s e} {dst : Memref sig .tc sp' s e} {X : s.Idx → Val e} {sem : DmaSem sig}
    {hs : src.view.WordExact} {hd : dst.view.WordExact} {Q : PUnit → sProp 𝕄} :
    iprop(Pend (τ := τ) EC c src dst (.dma sem) X ∗ (∃ W, owes (c : Thread nD τ) 0 W)
        ∗ (iprop(own (τ := τ) U c src X ∗ own (τ := τ) U c dst X ∗ semVal ((c : Thread nD τ), .dma sem) 0 ∗ (∃ W, owes (c : Thread nD τ) 0 W)) -∗ Q ⟨⟩))
      ⊢ Wp defs c (Prog.lift (.waitDma2 sem src dst hs hd)) Q := by
  unfold Pend
  iintro ⟨⟨%D, %hD, HF⟩, ⟨%W, HW⟩, Hk⟩
  iapply (Transfers.wp_waitLocal EC Variants.none (c : Thread nD τ) none (srcw := src) (dstw := dst) () rfl) $$ [HF HW]
  · isplitl [HF]; · iexact HF
    iexact HW
  iintro ⟨HD, Hv, HW⟩
  rw [wp_ret]
  imodintro
  iapply Hk
  ihave H := hD $$ HD
  icases H with ⟨Hs, Hd⟩
  isplitl [Hs]; · iexact Hs
  isplitl [Hd]; · iexact Hd
  isplitl [Hv]; · iexact Hv
  iexists _; iexact HW

/-- Running a step for every entry: what the steps establish one by one holds of the list. -/
theorem wp_each {ι : Type} (f : ι → Prog (TpuEff nD τ sig Val Λ .tc) PUnit) (I : (ι → Prop) → sProp 𝕄)
    (h : ∀ i S, I S ⊢ Wp defs c (f i) fun _ => I fun j => j = i ∨ S j) (L : List ι) (S : ι → Prop) :
    I S ⊢ Wp defs c (each f L) fun _ => I fun j => j ∈ L ∨ S j := by
  induction L generalizing S with
  | nil =>
    unfold each Wp
    have e : (fun j => j ∈ ([] : List ι) ∨ S j) = S := by funext j; simp
    rw [e]
    iintro H
    iapply (show iprop(|={Set.univ}=> I S) ⊢ wp frame (wpE defs Variants.none (c : Thread nD τ) none) Set.univ (Prog.ret PUnit.unit) (fun _ => I S) by rw [wp_ret])
    imodintro
    iexact H
  | cons i is ih =>
    unfold each Wp
    rw [wp_bind]
    have e : (fun j => j ∈ i :: is ∨ S j) = fun j => j ∈ is ∨ (j = i ∨ S j) := by
      funext j; apply propext; rw [List.mem_cons]; tauto
    rw [e]
    refine (h i S).trans (wp_mono _ _ _ fun _ => ?_)
    exact ih _

/-- A counted loop carrying nothing, from an invariant of the trips done. -/
theorem wp_loopG (l : Scf.Loop 32) (hok : l.OK) (f : Fin l.trips → Prog (TpuEff nD τ sig Val Λ .tc) PUnit) (I : Nat → sProp 𝕄)
    (h : ∀ t, I t.val ⊢ Wp defs c (f t) fun _ => I (t.val + 1)) {Q : PUnit → sProp 𝕄} :
    iprop(I 0 ∗ (I l.trips -∗ Q ⟨⟩)) ⊢ Wp defs c (Scf.Loop.for l hok PUnit.unit fun t _ => f t) Q := by
  obtain ⟨lb, ub, st⟩ := l
  iintro ⟨H, Hk⟩
  iapply (Scf.wp_for frame (wpE defs Variants.none (c : Thread nD τ) none) Set.univ lb ub st hok PUnit.unit (fun t _ => f t)
    (fun k _ => I k) (fun t _ => h t))
  isplitl [H]; · iexact H
  iintro %_ H
  iapply Hk
  iexact H

end Tex
-- ==== Proof.Bound.lean ====
module

public import proofs.«01_k».proof.Proof.Struct

@[expose] public section

noncomputable section

/-
  The packed index of a table entry: every entry the kernel forms is an entry of its level's table, so the packed
  word's row is a row of the table, and its upper part is twice the entry's place in the row.
-/
namespace Tex

open Idealize.ShloMosaic Idealize.SL.Sem
open Cert.KernelIdeal (S1x4x128 S4x128 S2x4 S1x1 S16x8x4x128 S1x1x4x128 S1x1x1x1 S1x128 S1x1x128 S8192x128 S512x128 S2048x32 S128x32 S512x32 S32x32 S32x9 S512x9 S1x9 S_)

/-- An entry's word packed. -/
def pack1 (e : BitVec 32) : BitVec 32 := ((e &&& 63#32) <<< 15) ||| (e.sshiftRight 6)

theorem pack1_toNat (e : BitVec 32) (h : e.toNat < 2 ^ 19) : (pack1 e).toNat = 2 ^ 15 * (e.toNat % 64) + e.toNat / 64 := by
  have hm : e.msb = false := by
    rw [BitVec.msb_eq_decide]; simp; omega
  unfold pack1
  rw [BitVec.sshiftRight_eq_of_msb_false hm, BitVec.toNat_or, BitVec.toNat_shiftLeft, BitVec.toNat_and, BitVec.toNat_ushiftRight]
  have h1 : e.toNat &&& (63#32).toNat = e.toNat % 64 := Nat.and_two_pow_sub_one_eq_mod e.toNat 6
  rw [h1, Nat.shiftLeft_eq, Nat.shiftRight_eq_div_pow]
  have h2 : e.toNat % 64 * 2 ^ 15 % 2 ^ 32 = 2 ^ 15 * (e.toNat % 64) := by omega
  rw [h2, ← Nat.two_pow_add_eq_or_of_lt (by omega)]

/-- The packed word's low part is the entry's row. -/
theorem pack1_row (e : BitVec 32) (h : e.toNat < 2 ^ 19) : (pack1 e &&& 16383#32).toNat = e.toNat / 64 := by
  rw [BitVec.toNat_and, pack1_toNat e h]
  have h1 := Nat.and_two_pow_sub_one_eq_mod (2 ^ 15 * (e.toNat % 64) + e.toNat / 64) 14
  rw [show (16383#32).toNat = 2 ^ 14 - 1 from rfl, h1]
  omega

/-- Its high part is twice the entry's place in the row. -/
theorem pack1_place (e : BitVec 32) (h : e.toNat < 2 ^ 19) : ((pack1 e).sshiftRight 14).toNat = 2 * (e.toNat % 64) := by
  have hp := pack1_toNat e h
  have hm : (pack1 e).msb = false := by
    rw [BitVec.msb_eq_decide]; simp; omega
  rw [BitVec.sshiftRight_eq_of_msb_false hm, BitVec.toNat_ushiftRight, Nat.shiftRight_eq_div_pow, hp]
  omega

/-- A word kept between zero and the last cell of a grid. -/
def clip1 (r v : BitVec 32) : BitVec 32 := IntOp.minsi (r - 1#32) (IntOp.maxsi 0#32 v)

theorem clip1_lt (r v : BitVec 32) (h : 0 < r.toNat) (h' : r.toNat < 2 ^ 31) : (clip1 r v).toNat < r.toNat := by
  unfold clip1 IntOp.minsi IntOp.maxsi
  have e : (r - 1#32).toNat = r.toNat - 1 := by
    rw [BitVec.toNat_sub]; simp; omega
  simp only [BitVec.slt_eq_decide, BitVec.toInt_eq_toNat_cond, decide_eq_true_eq]
  split_ifs <;> simp_all <;> omega

/-- The table entry of three words. -/
def entry1 (l : Fin 16) (c0 c1 c2 : BitVec 32) : BitVec 32 :=
  match (lvl l).dense with
  | true => c0 + (lvl l).res * (c1 + (lvl l).res * c2)
  | false => ((c0 ^^^ (c1 * 2654435761#32)) ^^^ (c2 * 805459861#32)) &&& 524287#32

theorem lvl_side (l : Fin 16) : (lvl l).res.toNat = (lvl l).side ∧ 0 < (lvl l).side ∧ (lvl l).side < 2 ^ 31 := by revert l; decide
theorem lvl_dense (l : Fin 16) : (lvl l).dense = true → (lvl l).side ≤ 71 ∧ (lvl l).side * (lvl l).side * (lvl l).side ≤ 64 * (lvl l).rows := by
  revert l; decide
theorem lvl_hash (l : Fin 16) : (lvl l).dense = false → (lvl l).rows = 8192 := by revert l; decide
theorem lvl_rows (l : Fin 16) : (lvl l).rows ≤ 8192 := by revert l; decide

/-- A dense level's entry, as a number. -/
theorem dense_toNat (l : Fin 16) (hd : (lvl l).dense = true) {c0 c1 c2 : BitVec 32} (h0 : c0.toNat < (lvl l).side) (h1 : c1.toNat < (lvl l).side)
    (h2 : c2.toNat < (lvl l).side) :
    (entry1 l c0 c1 c2).toNat = c0.toNat + (lvl l).side * (c1.toNat + (lvl l).side * c2.toNat) ∧ (entry1 l c0 c1 c2).toNat < 64 * (lvl l).rows := by
  obtain ⟨hs, h71, hr⟩ := (⟨(lvl_side l).1, lvl_dense l hd⟩ : _ ∧ _)
  have hlt : c0.toNat + (lvl l).side * (c1.toNat + (lvl l).side * c2.toNat) < (lvl l).side * (lvl l).side * (lvl l).side := by
    have a1 : (lvl l).side * c2.toNat + (lvl l).side ≤ (lvl l).side * (lvl l).side := Nat.mul_le_mul_left (lvl l).side h2
    have a2 : c1.toNat + (lvl l).side * c2.toNat + 1 ≤ (lvl l).side * (lvl l).side := by omega
    have a3 : (lvl l).side * (c1.toNat + (lvl l).side * c2.toNat) + (lvl l).side ≤ (lvl l).side * ((lvl l).side * (lvl l).side) :=
      Nat.mul_le_mul_left (lvl l).side a2
    rw [Nat.mul_assoc]
    omega
  have hcube : (lvl l).side * (lvl l).side * (lvl l).side ≤ 71 * 71 * 71 := Nat.mul_le_mul (Nat.mul_le_mul h71 h71) h71
  have h3 : (lvl l).side * c2.toNat ≤ 71 * 71 := Nat.mul_le_mul h71 (by omega)
  have h4 : (lvl l).side * (c1.toNat + (lvl l).side * c2.toNat) < 2 ^ 32 := by omega
  have e : (entry1 l c0 c1 c2).toNat = c0.toNat + (lvl l).side * (c1.toNat + (lvl l).side * c2.toNat) := by
    unfold entry1
    rw [hd]
    simp only [BitVec.toNat_add, BitVec.toNat_mul, hs]
    rw [Nat.mod_eq_of_lt (show (lvl l).side * c2.toNat < 2 ^ 32 by omega), Nat.mod_eq_of_lt (show c1.toNat + (lvl l).side * c2.toNat < 2 ^ 32 by omega),
      Nat.mod_eq_of_lt h4, Nat.mod_eq_of_lt (by omega)]
  exact ⟨e, by omega⟩

/-- Every entry is one of its level's table. -/
theorem entry1_lt (l : Fin 16) {c0 c1 c2 : BitVec 32} (h0 : c0.toNat < (lvl l).side) (h1 : c1.toNat < (lvl l).side) (h2 : c2.toNat < (lvl l).side) :
    (entry1 l c0 c1 c2).toNat < 64 * (lvl l).rows ∧ (entry1 l c0 c1 c2).toNat < 2 ^ 19 := by
  have hr := lvl_rows l
  rcases hd : (lvl l).dense with _ | _
  · have h : (entry1 l c0 c1 c2).toNat < 2 ^ 19 := by
      unfold entry1
      rw [hd]
      simp only [BitVec.toNat_and]
      exact lt_of_le_of_lt Nat.and_le_right (by decide)
    rw [lvl_hash l hd]
    omega
  · have h := (dense_toNat l hd h0 h1 h2).2
    omega

/-- The word packed for a corner whose three cells are `v0 v1 v2`. -/
def word1 (l : Fin 16) (v0 v1 v2 : BitVec 32) : BitVec 32 := entry1 l (clip1 (lvl l).res v0) (clip1 (lvl l).res v1) (clip1 (lvl l).res v2)

theorem word1_lt (l : Fin 16) (v0 v1 v2 : BitVec 32) : (word1 l v0 v1 v2).toNat < 64 * (lvl l).rows ∧ (word1 l v0 v1 v2).toNat < 2 ^ 19 := by
  obtain ⟨hs, h0, h1⟩ := lvl_side l
  have h : ∀ v, (clip1 (lvl l).res v).toNat < (lvl l).side := fun v => hs ▸ clip1_lt _ v (by omega) (by omega)
  exact entry1_lt l (h _) (h _) (h _)

/-- The step a corner takes along an axis. -/
def step1 (b : Bool) : BitVec 32 := match b with | true => 1#32 | false => 0#32

variable {F : FTy → Type} [FloatOps F]

theorem clipc_apply (l : Fin 16) (x : FVec F S4x128 .f32) (b : Bool) (i : S4x128.Idx) : clipc l x b i = clip1 (lvl l).res (cell l x i + step1 b) := by
  cases b <;> rfl

theorem entry_apply (l : Fin 16) (a b c : IVec S4x128 32) (i : S4x128.Idx) : entry l a b c i = entry1 l (a i) (b i) (c i) := by
  unfold entry entry1
  cases (lvl l).dense <;> rfl

theorem packE_apply (e : IVec S4x128 32) (i : S4x128.Idx) : packE e i = pack1 (e i) := by
  have h15 : IntOp.shli .vector (e i &&& 63#32) 15#32 = (e i &&& 63#32) <<< 15 := by
    unfold IntOp.shli
    rw [if_pos (by decide)]
    rfl
  have h6 : IntOp.shrsi .vector (e i) 6#32 = (e i).sshiftRight 6 := by
    unfold IntOp.shrsi
    rw [if_pos (by decide)]
    rfl
  unfold pack1
  rw [← h15, ← h6]
  rfl

/-- A packed index at a place. -/
theorem packV_apply (l : Fin 16) (c : Fin 8) (x y z : FVec F S4x128 .f32) (i : S4x128.Idx) :
    packV l c x y z i = pack1 (word1 l (cell l x i + step1 (bx c)) (cell l y i + step1 (bY c)) (cell l z i + step1 (bz c))) := by
  unfold packV word1
  rw [packE_apply, entry_apply, clipc_apply, clipc_apply, clipc_apply]

/-- It names a row of its level's table. -/
theorem rowOk_packV (l : Fin 16) (c : Fin 8) (x y z : FVec F S4x128 .f32) (i : S4x128.Idx) : rowOk l (packV l c x y z i) := by
  rw [packV_apply]
  generalize hw : word1 l _ _ _ = w
  have hb := word1_lt l (cell l x i + step1 (bx c)) (cell l y i + step1 (bY c)) (cell l z i + step1 (bz c))
  rw [hw] at hb
  have h := pack1_row w hb.2
  intro a
  have e : (Scalar.indexCast (Scalar.andi (pack1 w) 16383#32)).toNat = w.toNat / 64 := h
  unfold rowOff
  rw [e]
  fin_cases a
  · show w.toNat / 64 + 1 ≤ (lvl l).rows
    omega
  · exact Nat.le_refl _
  · exact Nat.le_refl _

end Tex
-- ==== Proof.Spec.lean ====
module

public import proofs.«01_k».proof.Proof.Rules
public import proofs.«01_k».proof.Proof.Bound

@[expose] public section

noncomputable section

/-
  What the body computes, as functions of the buffers it reads, and the run of the body to it.
-/
namespace Tex

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal (S1x4x128 S4x128 S2x4 S1x1 S16x8x4x128 S1x1x4x128 S1x1x1x1 S1x128 S1x1x128 S8192x128 S512x128 S2048x32 S128x32 S512x32 S32x32 S32x9 S512x9 S1x9 S_)
open Cert.KernelIdeal.Facts₀

variable {F : FTy → Type} [FloatOps F] [Cert.KernelIdeal.Facts₀]
variable {nD : Nat} {τ : Topo} {sig : RefSig} (U : Type) [URA U] {Λ : Labels}

local notation "𝕄" => MT nD τ sig Unit (Elt F) ℕ U ℕ

/-! ## What it computes -/

/-- A normalised coordinate of the block's points. -/
def coordV (X : S1x4x128.Idx → Elt F .f32) (P : S2x4.Idx → Elt F .f32) (d : Fin 3) : FVec F S4x128 .f32 :=
  minimumf (broadcast S4x128 (Scalar.ofBits .f32 0x3F800000#32)) (maximumf (broadcast S4x128 (Scalar.ofBits .f32 0x00000000#32))
    (mulf (subf (shapeCast S4x128 (fun i => X ((Rect.unit (s := S1x4x128) ![0, 0, 0] S1x4x128.size inb_S1x4x128_S1x4x128_0_0_0).emb i) : FVec F S1x4x128 .f32) shapeCasts_S1x4x128_S4x128)
        (broadcast S4x128 (P ((Rect.unit (s := S2x4) ![0, d.val] S1x1.size (nrm_inb 0 d)).emb (Shape.Idx.first (numel1_S1x1.symm ▸ Nat.one_pos))))))
      (broadcast S4x128 (P ((Rect.unit (s := S2x4) ![1, d.val] S1x1.size (nrm_inb 1 d)).emb (Shape.Idx.first (numel1_S1x1.symm ▸ Nat.one_pos)))))))

/-- A level and corner's part of the buffers of indices and of weights. -/
abbrev slab (l : Fin 16) (c : Fin 8) : Rect S16x8x4x128 := Rect.unit (s := S16x8x4x128) ![l.val, c.val, 0, 0] S1x1x4x128.size (slab_inb l c)
/-- The place of a point in it. -/
def jw (t : Fin loop.trips) : S1x1x4x128.Idx :=
  fun a => match a with
    | ⟨0, _⟩ => (0 : Fin 1)
    | ⟨1, _⟩ => (0 : Fin 1)
    | ⟨2, _⟩ => (⟨t.val / 128, by have := trip_lt t; omega⟩ : Fin 4)
    | ⟨3, _⟩ => (⟨t.val % 128, by omega⟩ : Fin 128)

variable (x y z : FVec F S4x128 .f32)

/-- A point's packed index and weight at a corner. -/
def pkAt (l : Fin 16) (c : Fin 8) (t : Fin loop.trips) : BitVec 32 := shapeCast S1x1x4x128 (packV l c x y z) shapeCasts_S4x128_S1x1x4x128 (jw t)
def wAt (l : Fin 16) (c : Fin 8) (t : Fin loop.trips) : Elt F .f32 := shapeCast S1x1x4x128 (wV l c x y z) shapeCasts_S4x128_S1x1x4x128 (jw t)

theorem pkAt_ok (l : Fin 16) (c : Fin 8) (t : Fin loop.trips) : rowOk l (pkAt x y z l c t) := rowOk_packV l c x y z _

/-- The tables' contents by level. -/
abbrev TabV (F : FTy → Type) : Type := (l : Fin 16) → (tabShape l).Idx → Elt F .f32

/-- A corner's contribution to a point's row. -/
def contribV (T : TabV F) (t : Fin loop.trips) (l : Fin 16) (c : Fin 8) : FVec F S1x128 .f32 :=
  contrib (shapeCast S1x128 (fun i => T l ((Rect.unit (s := tabShape l) (rowOff (pkAt x y z l c t)) S1x1x128.size (pkAt_ok x y z l c t)).emb i) : FVec F S1x1x128 .f32)
    shapeCasts_S1x1x128_S1x128) (pkAt x y z l c t) (wAt x y z l c t)

/-- A point's row at a level. -/
def rowV (T : TabV F) (t : Fin loop.trips) (l : Fin 16) : FVec F S1x128 .f32 :=
  shapeCast S1x128 (addf (addf (addf (contribV x y z T t l ⟨0, by decide⟩) (contribV x y z T t l ⟨1, by decide⟩)) (addf (contribV x y z T t l ⟨2, by decide⟩) (contribV x y z T t l ⟨3, by decide⟩)))
    (addf (addf (contribV x y z T t l ⟨4, by decide⟩) (contribV x y z T t l ⟨5, by decide⟩)) (addf (contribV x y z T t l ⟨6, by decide⟩) (contribV x y z T t l ⟨7, by decide⟩)))) shapeCasts_S1x128_S1x128

/-- The row of a point in the accumulator. -/
abbrev accR (l : Fin 16) (t : Fin loop.trips) : Rect S8192x128 := Rect.unit (s := S8192x128) (accOff l t) S1x128.size (acc_inb l t)
/-- A level's rows there. -/
abbrev accB (l : Fin 16) : Rect S8192x128 := Rect.unit (s := S8192x128) ![512 * l.val, 0] S512x128.size (accBlk_inb l)

/-- The trip of a row of a level's block. -/
def tripOf (j : S512x128.Idx) : Fin loop.trips := ⟨(j 0).val, by have h : (j 0).val < 512 := (j 0).isLt; rw [trips_eq]; exact h⟩
/-- Its place in a row. -/
def laneOf (j : S512x128.Idx) : S1x128.Idx :=
  fun a => match a with
    | ⟨0, _⟩ => (0 : Fin 1)
    | ⟨1, _⟩ => (j 1 : Fin 128)

/-- A level's block of rows. -/
def blkV (T : TabV F) (l : Fin 16) : FVec F S512x128 .f32 := fun j => rowV x y z T (tripOf j) l (laneOf j)

/-- The first layer's sums, over a list of levels. -/
def layerV (T : TabV F) (G : S2048x32.Idx → Elt F .f32) : List (Fin 16) → FVec F S512x32 .f32 → FVec F S512x32 .f32
  | [], h => h
  | l :: ls, h => layerV T G ls (addf h (matmul Cert.KernelIdeal.dot_S512x128_S128x32_S512x32_1_0_0_1_n_n none (blkV x y z T l)
      (shapeCast S128x32 (fun i => G ((Rect.unit (s := S2048x32) ![128 * l.val, 0] S128x32.size (gBlk_inb l)).emb i) : FVec F S128x32 .f32) shapeCasts_S128x32_S128x32)
      (constant S512x32 .f32 0x00000000#32)))

/-- The block's outputs from everything it reads. -/
def outF (X1 X2 X3 : S1x4x128.Idx → Elt F .f32) (P : S2x4.Idx → Elt F .f32) (M S : S1x9.Idx → Elt F .f32) (G : S2048x32.Idx → Elt F .f32)
    (W2 : S32x32.Idx → Elt F .f32) (W3 : S32x9.Idx → Elt F .f32) (T : TabV F) : FVec F S512x9 .f32 :=
  outV (layerV (coordV X1 P 0) (coordV X2 P 1) (coordV X3 P 2) T G levels (broadcast S512x32 (Scalar.ofBits .f32 0x00000000#32)))
    (fun i => W2 ((Rect.unit (s := S32x32) ![0, 0] S32x32.size inb_S32x32_S32x32_0_0).emb i))
    (fun i => W3 ((Rect.unit (s := S32x9) ![0, 0] S32x9.size inb_S32x9_S32x9_0_0).emb i))
    (fun i => S ((Rect.unit (s := S1x9) ![0, 0] S1x9.size inb_S1x9_S1x9_0_0).emb i))
    (fun i => M ((Rect.unit (s := S1x9) ![0, 0] S1x9.size inb_S1x9_S1x9_0_0).emb i))

/-! ## The run -/

variable {x y z}
variable {U} {defs : Defs nD τ sig (Elt F) Λ} (c : Dev nD)

theorem wp_pure {α : Type} (v : α) (Q : α → sProp 𝕄) : Q v ⊢ Wp defs c (pure v) Q := by
  iintro H
  iapply (show iprop(|={Set.univ}=> Q v) ⊢ Wp defs c (Prog.ret v) Q by unfold Wp; rw [wp_ret])
  imodintro
  iexact H

theorem wp_pureE {α : Type} {v w : α} (h : v = w) (Q : α → sProp 𝕄) : Q w ⊢ Wp defs c (pure v) Q := h ▸ wp_pure c v Q

/-- A coordinate. -/
theorem wp_coord {a : Memref sig .tc .vmem S1x4x128 .f32} {a4 : Memref sig .tc .smem S2x4 .f32} {X : S1x4x128.Idx → Elt F .f32} {P : S2x4.Idx → Elt F .f32} (d : Fin 3)
    {Q : FVec F S4x128 .f32 → sProp 𝕄} :
    iprop(own (τ := τ) U c a X ∗ own (τ := τ) U c a4 P ∗ (own (τ := τ) U c a X -∗ own (τ := τ) U c a4 P -∗ Q (coordV X P d)))
      ⊢ Wp defs c (coord a a4 d) Q := by
  iintro ⟨H, H4, Hk⟩
  unfold coord Wp
  rw [wp_bind]
  iapply (wp_ldL c)
  isplitl [H]; · iexact H
  iintro H
  rw [wp_bind]
  iapply (wp_wordL c)
  isplitl [H4]; · iexact H4
  iintro H4
  rw [wp_bind]
  iapply (wp_wordL c)
  isplitl [H4]; · iexact H4
  iintro H4
  iapply (wp_pureE c (w := coordV X P d) rfl)
  iapply Hk $$ H H4

/-- The buffer of indices (or of weights) holds what it should where `S` says. -/
def Filled {e : EltTy} (V : (l : Fin 16) → (c : Fin 8) → S1x1x4x128.Idx → Elt F e) (d : S16x8x4x128.Idx → Elt F e) (S : Fin 16 → Fin 8 → Prop) : Prop :=
  ∀ l k, S l k → ∀ j, d ((slab l k).emb j) = V l k j

/-- Two different slabs share no place. -/
theorem slab_sep {l l' : Fin 16} {k k' : Fin 8} (j : S1x1x4x128.Idx) (h : (slab l k).emb j ∈ (slab l' k').set) : l = l' ∧ k = k' := by
  obtain ⟨i, hi⟩ := (slab l' k').exists_idx_of_mem h
  have e := fun a : Fin 4 => congrArg (fun f : S16x8x4x128.Idx => (f a).val) hi
  have e0 : l'.val + 1 * (i 0).val = l.val + 1 * (j 0).val := e 0
  have e1 : k'.val + 1 * (i 1).val = k.val + 1 * (j 1).val := e 1
  have hi0 : (i 0).val < 1 := (i 0).isLt
  have hj0 : (j 0).val < 1 := (j 0).isLt
  have hi1 : (i 1).val < 1 := (i 1).isLt
  have hj1 : (j 1).val < 1 := (j 1).isLt
  exact ⟨Fin.ext (by omega), Fin.ext (by omega)⟩

theorem Filled.step {e : EltTy} {V : (l : Fin 16) → (c : Fin 8) → S1x1x4x128.Idx → Elt F e} {d : S16x8x4x128.Idx → Elt F e} {S : Fin 16 → Fin 8 → Prop}
    (h : Filled V d S) (l : Fin 16) (k : Fin 8) : Filled V ((slab l k).overlay d (V l k)) (fun l' k' => (l' = l ∧ k' = k) ∨ S l' k') := by
  intro l' k' hs j
  by_cases hm : (slab l' k').emb j ∈ (slab l k).set
  · obtain ⟨rfl, rfl⟩ := slab_sep j hm
    exact (slab l' k').overlay_emb _ _ j
  · rw [(slab l k).overlay_of_not_mem _ _ hm]
    rcases hs with ⟨rfl, rfl⟩ | hs
    · exact absurd ((slab l' k').map_emb_univ ▸ Finset.mem_map_of_mem _ (Finset.mem_univ j)) hm
    · exact h l' k' hs j

/-- The two buffers, filled where `S` says. -/
def Enc (x y z : FVec F S4x128 .f32) (a27 : Memref sig .tc .vmem S16x8x4x128 .i32) (a28 : Memref sig .tc .vmem S16x8x4x128 .f32) (S : Fin 16 → Fin 8 → Prop) : sProp 𝕄 :=
  iprop(∃ (d : S16x8x4x128.Idx → Elt F .i32) (d' : S16x8x4x128.Idx → Elt F .f32),
    ⌜Filled (fun l k => shapeCast S1x1x4x128 (packV l k x y z) shapeCasts_S4x128_S1x1x4x128) d S
      ∧ Filled (fun l k => shapeCast S1x1x4x128 (wV l k x y z) shapeCasts_S4x128_S1x1x4x128) d' S⌝ ∗ own (τ := τ) U c a27 d ∗ own (τ := τ) U c a28 d')

theorem wp_encStep {a27 : Memref sig .tc .vmem S16x8x4x128 .i32} {a28 : Memref sig .tc .vmem S16x8x4x128 .f32} (S : Fin 16 → Fin 8 → Prop) (l : Fin 16) (k : Fin 8) :
    (Enc (τ := τ) (U := U) c x y z a27 a28 S) ⊢ Wp defs c (encStep a27 a28 x y z l k) fun _ => Enc (τ := τ) (U := U) c x y z a27 a28 fun l' k' => (l' = l ∧ k' = k) ∨ S l' k' := by
  unfold Enc
  iintro ⟨%d, %d', %hd, H, H'⟩
  unfold encStep Wp
  rw [wp_bind]
  iapply (wp_ldL c)
  isplitl [H]; · iexact H
  iintro H
  rw [wp_bind]
  iapply (wp_stL c)
  isplitl [H]; · iexact H
  iintro H
  rw [wp_bind]
  iapply (wp_ldL c)
  isplitl [H']; · iexact H'
  iintro H'
  iapply (wp_stL c)
  isplitl [H']; · iexact H'
  iintro H'
  iexists _
  iexists _
  isplitr
  swap
  · isplitl [H]; · iexact H
    iexact H'
  · ipureintro
    exact ⟨hd.1.step l k, hd.2.step l k⟩

theorem mem_levels (l : Fin 16) : l ∈ levels := by revert l; decide
theorem mem_corners (k : Fin 8) : k ∈ corners := by revert k; decide

theorem Enc.weaken {a27 : Memref sig .tc .vmem S16x8x4x128 .i32} {a28 : Memref sig .tc .vmem S16x8x4x128 .f32} {S S' : Fin 16 → Fin 8 → Prop}
    (h : ∀ l k, S' l k → S l k) : (Enc (τ := τ) (U := U) c x y z a27 a28 S) ⊢ Enc (τ := τ) (U := U) c x y z a27 a28 S' := by
  unfold Enc
  iintro ⟨%d, %d', %hd, H⟩
  iexists d
  iexists d'
  isplitr
  · ipureintro
    exact ⟨fun l k hs => hd.1 l k (h l k hs), fun l k hs => hd.2 l k (h l k hs)⟩
  iexact H

/-- A level's indices and weights. -/
theorem wp_encLevel {a27 : Memref sig .tc .vmem S16x8x4x128 .i32} {a28 : Memref sig .tc .vmem S16x8x4x128 .f32} (S : Fin 16 → Prop) (l : Fin 16) :
    (Enc (τ := τ) (U := U) c x y z a27 a28 fun l _ => S l) ⊢ Wp defs c (each (fun k => encStep a27 a28 x y z l k) corners)
      fun _ => Enc (τ := τ) (U := U) c x y z a27 a28 fun l' _ => l' = l ∨ S l' := by
  refine (Enc.weaken c ?_).trans ((wp_each (U := U) (defs := defs) c (fun k => encStep a27 a28 x y z l k)
    (fun R => Enc (τ := τ) (U := U) c x y z a27 a28 fun l' k' => (l' = l ∧ R k') ∨ S l') (fun k R => ?_) corners (fun _ => False)).trans
    (wp_mono _ _ _ fun _ => Enc.weaken c ?_))
  · intro l' k h
    rcases h with h | h
    · exact absurd h.2 (by simp)
    · exact h
  · refine (wp_encStep c _ l k).trans (wp_mono _ _ _ fun _ => Enc.weaken c ?_)
    intro l' k' h
    tauto
  · intro l' k h
    rcases h with h | h
    · exact .inl ⟨h, .inl (mem_corners k)⟩
    · exact .inr h

/-- All the indices and weights. -/
theorem wp_encAll {a27 : Memref sig .tc .vmem S16x8x4x128 .i32} {a28 : Memref sig .tc .vmem S16x8x4x128 .f32} :
    (Enc (τ := τ) (U := U) c x y z a27 a28 fun _ _ => False) ⊢ Wp defs c (encAll a27 a28 x y z) fun _ => Enc (τ := τ) (U := U) c x y z a27 a28 fun _ _ => True :=
  (wp_each (U := U) (defs := defs) c (fun l => each (fun k => encStep a27 a28 x y z l k) corners)
    (fun S => Enc (τ := τ) (U := U) c x y z a27 a28 fun l _ => S l) (fun l S => wp_encLevel c S l) levels (fun _ => False)).trans
    (wp_mono _ _ _ fun _ => Enc.weaken c fun l k _ => .inl (mem_levels l))

/-! ### The loop -/

/-- The place of a point's word is a place of its corner's slab. -/
theorem word_emb (l : Fin 16) (k : Fin 8) (t : Fin loop.trips) (i : S1x1x1x1.Idx) :
    (Rect.unit (s := S16x8x4x128) (wordOff l k t) S1x1x1x1.size (word_inb l k t)).emb i = (slab l k).emb (jw t) := by
  have h2 := seg_toNat t
  have h3 := lane_toNat t
  have hi : ∀ a, (i a).val = 0 := fun a => by
    have h : (i a).val < S1x1x1x1.size a := (i a).isLt
    have e : S1x1x1x1.size a = 1 := by fin_cases a <;> rfl
    omega
  funext a
  apply Fin.ext
  rw [Rect.emb_apply, Rect.emb_apply, hi]
  show wordOff l k t a + 1 * 0 = (![l.val, k.val, 0, 0] : Fin 4 → Nat) a + 1 * (jw t a).val
  unfold wordOff
  rw [h2, h3]
  fin_cases a
  · rfl
  · rfl
  · show t.val / 128 + 1 * 0 = 0 + 1 * (t.val / 128)
    omega
  · show t.val % 128 + 1 * 0 = 0 + 1 * (t.val % 128)
    omega

/-- Everything a trip reads. -/
def Reads (x y z : FVec F S4x128 .f32) (T : TabV F) (tabs : Tabs sig) (a30 : Memref sig .tc .smem S16x8x4x128 .i32) (a31 : Memref sig .tc .smem S16x8x4x128 .f32) : sProp 𝕄 :=
  iprop((∃ (d : S16x8x4x128.Idx → Elt F .i32) (d' : S16x8x4x128.Idx → Elt F .f32),
    ⌜Filled (fun l k => shapeCast S1x1x4x128 (packV l k x y z) shapeCasts_S4x128_S1x1x4x128) d (fun _ _ => True)
      ∧ Filled (fun l k => shapeCast S1x1x4x128 (wV l k x y z) shapeCasts_S4x128_S1x1x4x128) d' (fun _ _ => True)⌝ ∗ own (τ := τ) U c a30 d ∗ own (τ := τ) U c a31 d')
    ∗ bigSep Finset.univ (fun l => own (τ := τ) U c (tabs l) (T l)))

/-- One of a family, beside the rest. -/
theorem one_of {Φ : Fin 16 → sProp 𝕄} (l : Fin 16) :
    (bigSep Finset.univ Φ ⊢ iprop(Φ l ∗ bigSep (Finset.univ.erase l) Φ)) ∧ (iprop(Φ l ∗ bigSep (Finset.univ.erase l) Φ) ⊢ bigSep Finset.univ Φ) :=
  ⟨Entails.of_eq (BI.bigSep_erase (Finset.mem_univ l)), Entails.of_eq (BI.bigSep_erase (Finset.mem_univ l)).symm⟩

/-- One corner. -/
theorem wp_corner {T : TabV F} {tabs : Tabs sig} {a30 : Memref sig .tc .smem S16x8x4x128 .i32} {a31 : Memref sig .tc .smem S16x8x4x128 .f32} (t : Fin loop.trips) (l : Fin 16) (k : Fin 8)
    {Q : FVec F S1x128 .f32 → sProp 𝕄} :
    iprop(Reads (τ := τ) (U := U) c x y z T tabs a30 a31 ∗ (Reads (τ := τ) (U := U) c x y z T tabs a30 a31 -∗ Q (contribV x y z T t l k)))
      ⊢ Wp defs c (corner tabs a30 a31 t l k) Q := by
  unfold Reads
  iintro ⟨⟨⟨%d, %d', %hd, H, H'⟩, HT⟩, Hk⟩
  have e1 : d ((Rect.unit (s := S16x8x4x128) (wordOff l k t) S1x1x1x1.size (word_inb l k t)).emb (Shape.Idx.first (numel1_S1x1x1x1.symm ▸ Nat.one_pos))) = pkAt x y z l k t := by
    rw [word_emb]; exact hd.1 l k trivial (jw t)
  have e2 : d' ((Rect.unit (s := S16x8x4x128) (wordOff l k t) S1x1x1x1.size (word_inb l k t)).emb (Shape.Idx.first (numel1_S1x1x1x1.symm ▸ Nat.one_pos))) = wAt x y z l k t := by
    rw [word_emb]; exact hd.2 l k trivial (jw t)
  unfold corner Wp
  rw [wp_bind]
  iapply (wp_wordL c)
  isplitl [H]; · iexact H
  iintro H
  rw [e1, wp_bind]
  iapply (wp_assume (defs := defs) Variants.none (c : Thread nD τ) none Set.univ (pkAt_ok x y z l k t))
  rw [wp_ret]
  imodintro
  rw [wp_bind]
  iapply (wp_wordL c)
  isplitl [H']; · iexact H'
  iintro H'
  rw [e2, wp_bind]
  ihave HT' := (one_of l).1 $$ HT
  icases HT' with ⟨Hl, HR⟩
  iapply (wp_ldL c)
  isplitl [Hl]; · iexact Hl
  iintro Hl
  iapply (wp_pureE c (w := contribV x y z T t l k) rfl)
  iapply Hk
  isplitl [H H']
  · iexists d
    iexists d'
    isplitr
    · ipureintro; exact hd
    isplitl [H]; · iexact H
    iexact H'
  iapply (one_of l).2
  isplitl [Hl]; · iexact Hl
  iexact HR

/-- The accumulator holds the rows where `S` says. -/
def Rows (x y z : FVec F S4x128 .f32) (T : TabV F) (A : S8192x128.Idx → Elt F .f32) (S : Fin 16 → Fin loop.trips → Prop) : Prop :=
  ∀ l t, S l t → ∀ i, A ((accR l t).emb i) = rowV x y z T t l i

/-- Two different points' rows share no place. -/
theorem acc_sep {l l' : Fin 16} {t t' : Fin loop.trips} (j : S1x128.Idx) (h : (accR l t).emb j ∈ (accR l' t').set) : l = l' ∧ t = t' := by
  obtain ⟨i, hi⟩ := (accR l' t').exists_idx_of_mem h
  have e : accOff l' t' 0 + 1 * (i 0).val = accOff l t 0 + 1 * (j 0).val := congrArg (fun f : S8192x128.Idx => (f 0).val) hi
  have hi0 : (i 0).val < 1 := (i 0).isLt
  have hj0 : (j 0).val < 1 := (j 0).isLt
  have e1 : accOff l t 0 = 512 * l.val + t.val := accRow_toNat l t
  have e2 : accOff l' t' 0 = 512 * l'.val + t'.val := accRow_toNat l' t'
  have h1 := trip_lt t
  have h2 := trip_lt t'
  exact ⟨Fin.ext (by omega), Fin.ext (by omega)⟩

theorem Rows.step {T : TabV F} {A : S8192x128.Idx → Elt F .f32} {S : Fin 16 → Fin loop.trips → Prop} (h : Rows x y z T A S) (l : Fin 16) (t : Fin loop.trips) :
    Rows x y z T ((accR l t).overlay A (rowV x y z T t l)) (fun l' t' => (l' = l ∧ t' = t) ∨ S l' t') := by
  intro l' t' hs j
  by_cases hm : (accR l' t').emb j ∈ (accR l t).set
  · obtain ⟨rfl, rfl⟩ := acc_sep j hm
    exact (accR l' t').overlay_emb _ _ j
  · rw [(accR l t).overlay_of_not_mem _ _ hm]
    rcases hs with ⟨rfl, rfl⟩ | hs
    · exact absurd ((accR l' t').map_emb_univ ▸ Finset.mem_map_of_mem _ (Finset.mem_univ j)) hm
    · exact h l' t' hs j

/-- What a trip holds. -/
def Acc (x y z : FVec F S4x128 .f32) (T : TabV F) (tabs : Tabs sig) (a29 : Memref sig .tc .vmem S8192x128 .f32) (a30 : Memref sig .tc .smem S16x8x4x128 .i32)
    (a31 : Memref sig .tc .smem S16x8x4x128 .f32) (S : Fin 16 → Fin loop.trips → Prop) : sProp 𝕄 :=
  iprop(Reads (τ := τ) (U := U) c x y z T tabs a30 a31 ∗ ∃ A, ⌜Rows x y z T A S⌝ ∗ own (τ := τ) U c a29 A)

variable {T : TabV F} {tabs : Tabs sig} {a29 : Memref sig .tc .vmem S8192x128 .f32} {a30 : Memref sig .tc .smem S16x8x4x128 .i32} {a31 : Memref sig .tc .smem S16x8x4x128 .f32}

theorem Acc.weaken {S S' : Fin 16 → Fin loop.trips → Prop} (h : ∀ l k, S' l k → S l k) :
    (Acc (τ := τ) (U := U) c x y z T tabs a29 a30 a31 S) ⊢ Acc (τ := τ) (U := U) c x y z T tabs a29 a30 a31 S' := by
  unfold Acc
  iintro ⟨HR, %A, %hA, H⟩
  isplitl [HR]; · iexact HR
  iexists A
  isplitr
  · ipureintro
    exact fun l k hs => hA l k (h l k hs)
  iexact H

/-- One level of a trip. -/
theorem wp_levelStep (S : Fin 16 → Fin loop.trips → Prop) (t : Fin loop.trips) (l : Fin 16) :
    (Acc (τ := τ) (U := U) c x y z T tabs a29 a30 a31 S) ⊢ Wp defs c (levelStep tabs a29 a30 a31 t l)
      fun _ => Acc (τ := τ) (U := U) c x y z T tabs a29 a30 a31 fun l' t' => (l' = l ∧ t' = t) ∨ S l' t' := by
  unfold Acc
  iintro ⟨HR, %A, %hA, H⟩
  unfold levelStep Wp
  rw [wp_bind]
  iapply (wp_corner c t l)
  isplitl [HR]; · iexact HR
  iintro HR
  rw [wp_bind]
  iapply (wp_corner c t l)
  isplitl [HR]; · iexact HR
  iintro HR
  rw [wp_bind]
  iapply (wp_corner c t l)
  isplitl [HR]; · iexact HR
  iintro HR
  rw [wp_bind]
  iapply (wp_corner c t l)
  isplitl [HR]; · iexact HR
  iintro HR
  rw [wp_bind]
  iapply (wp_corner c t l)
  isplitl [HR]; · iexact HR
  iintro HR
  rw [wp_bind]
  iapply (wp_corner c t l)
  isplitl [HR]; · iexact HR
  iintro HR
  rw [wp_bind]
  iapply (wp_corner c t l)
  isplitl [HR]; · iexact HR
  iintro HR
  rw [wp_bind]
  iapply (wp_corner c t l)
  isplitl [HR]; · iexact HR
  iintro HR
  rw [wp_bind]
  iapply (wp_ldL c)
  isplitl [H]; · iexact H
  iintro H
  iapply (wp_stL c)
  isplitl [H]; · iexact H
  iintro H
  isplitl [HR]; · iexact HR
  iexists ((accR l t).overlay A (rowV x y z T t l))
  isplitr
  · ipureintro; exact hA.step l t
  iexact H

/-- A trip. -/
theorem wp_trip (t : Fin loop.trips) :
    (Acc (τ := τ) (U := U) c x y z T tabs a29 a30 a31 fun _ t' => t'.val < t.val) ⊢ Wp defs c (trip tabs a29 a30 a31 t)
      fun _ => Acc (τ := τ) (U := U) c x y z T tabs a29 a30 a31 fun _ t' => t'.val < t.val + 1 := by
  refine (Acc.weaken c ?_).trans ((wp_each (U := U) (defs := defs) c (levelStep tabs a29 a30 a31 t)
    (fun R => Acc (τ := τ) (U := U) c x y z T tabs a29 a30 a31 fun l t' => (t' = t ∧ R l) ∨ t'.val < t.val) (fun l R => ?_) levels (fun _ => False)).trans
    (wp_mono _ _ _ fun _ => Acc.weaken c ?_))
  · intro l' k h
    rcases h with h | h
    · exact absurd h.2 (by simp)
    · exact h
  · refine (wp_levelStep c _ t l).trans (wp_mono _ _ _ fun _ => Acc.weaken c ?_)
    intro l' k' h
    tauto
  · intro l t' h
    by_cases e : t' = t
    · exact .inl ⟨e, .inl (mem_levels l)⟩
    · refine .inr ?_
      have : t'.val ≠ t.val := fun h => e (Fin.ext h)
      omega

/-- The loop. -/
theorem wp_loop {Q : PUnit → sProp 𝕄} :
    iprop((Acc (τ := τ) (U := U) c x y z T tabs a29 a30 a31 fun _ _ => False)
        ∗ ((Acc (τ := τ) (U := U) c x y z T tabs a29 a30 a31 fun _ _ => True) -∗ Q ⟨⟩))
      ⊢ Wp defs c (Scf.Loop.for loop loop_ok PUnit.unit fun t _ => trip tabs a29 a30 a31 t) Q := by
  have h := wp_loopG (U := U) (defs := defs) c loop loop_ok (trip tabs a29 a30 a31)
    (fun k => Acc (τ := τ) (U := U) c x y z T tabs a29 a30 a31 fun _ t' => t'.val < k) (fun t => wp_trip c t) (Q := Q)
  iintro ⟨H, Hk⟩
  iapply h
  isplitl [H]
  · iapply (Acc.weaken c fun l t h => Nat.not_lt_zero t.val h) $$ H
  iintro H
  iapply Hk
  iapply (Acc.weaken c fun l t _ => t.isLt) $$ H

/-! ### The dense layers -/

/-- A level's block of the filled accumulator. -/
theorem blk_eq {A : S8192x128.Idx → Elt F .f32} (hA : Rows x y z T A fun _ _ => True) (l : Fin 16) : (fun j => A ((accB l).emb j)) = blkV x y z T l := by
  funext j
  have e : (accB l).emb j = (accR l (tripOf j)).emb (laneOf j) := by
    have h := accRow_toNat l (tripOf j)
    funext a
    apply Fin.ext
    rw [Rect.emb_apply, Rect.emb_apply]
    show (![512 * l.val, 0] : Fin 2 → Nat) a + 1 * (j a).val = accOff l (tripOf j) a + 1 * (laneOf j a).val
    unfold accOff
    rw [h]
    fin_cases a
    · show 512 * l.val + 1 * (j 0).val = 512 * l.val + (j 0).val + 1 * 0
      omega
    · rfl
  rw [e]
  exact hA l (tripOf j) trivial (laneOf j)

theorem wp_layer1 {a7 : Memref sig .tc .vmem S2048x32 .f32} {A : S8192x128.Idx → Elt F .f32} {G : S2048x32.Idx → Elt F .f32} (hA : Rows x y z T A fun _ _ => True)
    (ls : List (Fin 16)) (h : FVec F S512x32 .f32) {Q : FVec F S512x32 .f32 → sProp 𝕄} :
    iprop(own (τ := τ) U c a29 A ∗ own (τ := τ) U c a7 G ∗ (own (τ := τ) U c a29 A -∗ own (τ := τ) U c a7 G -∗ Q (layerV x y z T G ls h)))
      ⊢ Wp defs c (layer1 a7 a29 ls h) Q := by
  induction ls generalizing h with
  | nil =>
    iintro ⟨H, H7, Hk⟩
    unfold layer1 layerV
    iapply (wp_pure c)
    iapply Hk $$ H H7
  | cons l ls ih =>
    iintro ⟨H, H7, Hk⟩
    unfold layer1 layerV Wp
    rw [wp_bind]
    iapply (wp_ldL c)
    isplitl [H]; · iexact H
    iintro H
    rw [wp_bind]
    iapply (wp_ldL c)
    isplitl [H7]; · iexact H7
    iintro H7
    rw [blk_eq hA l]
    iapply ih
    isplitl [H]; · iexact H
    isplitl [H7]; · iexact H7
    iexact Hk

/-- A rectangle that is all of its shape places every index at itself. -/
theorem emb_all {s : Shape} {off : Fin s.rank → Nat} (h0 : ∀ a, off a = 0) (inb : ∀ a, off a + s.size a ≤ s.size a) (j : s.Idx) :
    (Rect.unit (s := s) off s.size inb).emb j = j := by
  funext a
  apply Fin.ext
  rw [Rect.emb_apply]
  show off a + 1 * (j a).val = (j a).val
  rw [h0]
  omega

/-- Writing all of a buffer leaves what was written. -/
theorem overlay_all {s : Shape} {α : Type} {off : Fin s.rank → Nat} (h0 : ∀ a, off a = 0) (inb : ∀ a, off a + s.size a ≤ s.size a) (X w : s.Idx → α) :
    (Rect.unit (s := s) off s.size inb).overlay X w = w := by
  funext j
  have h := Rect.overlay_emb (Rect.unit (s := s) off s.size inb) X w j
  rw [emb_all h0 inb j] at h
  exact h

theorem zeros2 (a : Fin 2) : (![0, 0] : Fin 2 → Nat) a = 0 := by fin_cases a <;> rfl

/-- Everything the body reads and leaves as it was. -/
def Ins (a1 a2 a3 : Memref sig .tc .vmem S1x4x128 .f32) (a4 : Memref sig .tc .smem S2x4 .f32)
    (a5 a6 : Memref sig .tc .vmem S1x9 .f32) (a7 : Memref sig .tc .vmem S2048x32 .f32) (a8 : Memref sig .tc .vmem S32x32 .f32) (a9 : Memref sig .tc .vmem S32x9 .f32)
    (X1 X2 X3 : S1x4x128.Idx → Elt F .f32) (P : S2x4.Idx → Elt F .f32) (M S : S1x9.Idx → Elt F .f32) (G : S2048x32.Idx → Elt F .f32)
    (W2 : S32x32.Idx → Elt F .f32) (W3 : S32x9.Idx → Elt F .f32) : sProp 𝕄 :=
  iprop(own (τ := τ) U c a1 X1 ∗ own (τ := τ) U c a2 X2 ∗ own (τ := τ) U c a3 X3 ∗ own (τ := τ) U c a4 P ∗ own (τ := τ) U c a5 M ∗ own (τ := τ) U c a6 S
    ∗ own (τ := τ) U c a7 G ∗ own (τ := τ) U c a8 W2 ∗ own (τ := τ) U c a9 W3)

variable {a1 a2 a3 : Memref sig .tc .vmem S1x4x128 .f32} {a4 : Memref sig .tc .smem S2x4 .f32}
    {a5 a6 : Memref sig .tc .vmem S1x9 .f32} {a7 : Memref sig .tc .vmem S2048x32 .f32} {a8 : Memref sig .tc .vmem S32x32 .f32} {a9 : Memref sig .tc .vmem S32x9 .f32}
    {X1 X2 X3 : S1x4x128.Idx → Elt F .f32} {P : S2x4.Idx → Elt F .f32} {M S : S1x9.Idx → Elt F .f32} {G : S2048x32.Idx → Elt F .f32}
    {W2 : S32x32.Idx → Elt F .f32} {W3 : S32x9.Idx → Elt F .f32}

/-- The dense layers: the output from the filled accumulator. -/
theorem wp_tail {a26 : Memref sig .tc .vmem S512x9 .f32} {A : S8192x128.Idx → Elt F .f32} {Y : S512x9.Idx → Elt F .f32} (hA : Rows x y z T A fun _ _ => True)
    {Q : PUnit → sProp 𝕄} :
    iprop(own (τ := τ) U c a29 A ∗ own (τ := τ) U c a5 M ∗ own (τ := τ) U c a6 S ∗ own (τ := τ) U c a7 G ∗ own (τ := τ) U c a8 W2 ∗ own (τ := τ) U c a9 W3
        ∗ own (τ := τ) U c a26 Y
        ∗ (iprop(own (τ := τ) U c a29 A ∗ own (τ := τ) U c a5 M ∗ own (τ := τ) U c a6 S ∗ own (τ := τ) U c a7 G ∗ own (τ := τ) U c a8 W2 ∗ own (τ := τ) U c a9 W3
          ∗ own (τ := τ) U c a26 (outV (layerV x y z T G levels (broadcast S512x32 (Scalar.ofBits .f32 0x00000000#32)))
            (fun i => W2 ((Rect.unit (s := S32x32) ![0, 0] S32x32.size inb_S32x32_S32x32_0_0).emb i))
            (fun i => W3 ((Rect.unit (s := S32x9) ![0, 0] S32x9.size inb_S32x9_S32x9_0_0).emb i))
            (fun i => S ((Rect.unit (s := S1x9) ![0, 0] S1x9.size inb_S1x9_S1x9_0_0).emb i))
            (fun i => M ((Rect.unit (s := S1x9) ![0, 0] S1x9.size inb_S1x9_S1x9_0_0).emb i)))) -∗ Q ⟨⟩))
      ⊢ Wp defs c (tail a5 a6 a7 a8 a9 a26 a29) Q := by
  iintro ⟨H, H5, H6, H7, H8, H9, HY, Hk⟩
  unfold tail Wp
  rw [wp_bind]
  iapply (wp_layer1 c hA)
  isplitl [H]; · iexact H
  isplitl [H7]; · iexact H7
  iintro H H7
  rw [wp_bind]
  iapply (wp_ldL c)
  isplitl [H8]; · iexact H8
  iintro H8
  rw [wp_bind]
  iapply (wp_ldL c)
  isplitl [H9]; · iexact H9
  iintro H9
  rw [wp_bind]
  iapply (wp_ldL c)
  isplitl [H6]; · iexact H6
  iintro H6
  rw [wp_bind]
  iapply (wp_ldL c)
  isplitl [H5]; · iexact H5
  iintro H5
  rw [wp_bind]
  iapply (wp_ldL c)
  isplitl [HY]; · iexact HY
  iintro HY
  iapply (wp_stL c)
  isplitl [HY]; · iexact HY
  iintro HY
  iapply Hk
  isplitl [H]; · iexact H
  isplitl [H5]; · iexact H5
  isplitl [H6]; · iexact H6
  isplitl [H7]; · iexact H7
  isplitl [H8]; · iexact H8
  isplitl [H9]; · iexact H9
  rw [overlay_all (s := S512x9) zeros2 inb_S512x9_S512x9_0_0]
  iexact HY

/-- The whole body: from its inputs at what they hold, the tables, the output and the scratch buffers at anything and the two semaphores at
    zero, it leaves the inputs as they were, the output at `outF` of them, the scratch buffers at something and the semaphores at zero. -/
theorem wp_body (EC : UEmb Counters 𝕄) [EC.LandsIn (upEmb : UEmb _ 𝕄)] {a26 : Memref sig .tc .vmem S512x9 .f32}
    {a27 : Memref sig .tc .vmem S16x8x4x128 .i32} (h27 : a27.IsWhole) {a28 : Memref sig .tc .vmem S16x8x4x128 .f32} (h28 : a28.IsWhole)
    (h30 : a30.IsWhole) (h31 : a31.IsWhole) {a32 a33 : DmaSems sig S_} (hN0 : 0 < a30.view.dmaCredit) (hN1 : 0 < a31.view.dmaCredit)
    {Q : PUnit → sProp 𝕄} :
    iprop((Ins (τ := τ) (U := U) c a1 a2 a3 a4 a5 a6 a7 a8 a9 X1 X2 X3 P M S G W2 W3 ∗ bigSep Finset.univ (fun l => own (τ := τ) U c (tabs l) (T l)))
        ∗ (∃ Y, own (τ := τ) U c a26 Y) ∗ (∃ d, own (τ := τ) U c a27 d) ∗ (∃ d, own (τ := τ) U c a28 d) ∗ (∃ d, own (τ := τ) U c a29 d)
        ∗ (∃ d, own (τ := τ) U c a30 d) ∗ (∃ d, own (τ := τ) U c a31 d)
        ∗ semVal ((c : Thread nD τ), .dma a32.sem) 0 ∗ semVal ((c : Thread nD τ), .dma a33.sem) 0 ∗ (∃ W, owes (c : Thread nD τ) 0 W)
        ∗ (iprop((Ins (τ := τ) (U := U) c a1 a2 a3 a4 a5 a6 a7 a8 a9 X1 X2 X3 P M S G W2 W3 ∗ bigSep Finset.univ (fun l => own (τ := τ) U c (tabs l) (T l)))
          ∗ own (τ := τ) U c a26 (outF X1 X2 X3 P M S G W2 W3 T) ∗ (∃ d, own (τ := τ) U c a27 d) ∗ (∃ d, own (τ := τ) U c a28 d) ∗ (∃ d, own (τ := τ) U c a29 d)
          ∗ (∃ d, own (τ := τ) U c a30 d) ∗ (∃ d, own (τ := τ) U c a31 d)
          ∗ semVal ((c : Thread nD τ), .dma a32.sem) 0 ∗ semVal ((c : Thread nD τ), .dma a33.sem) 0 ∗ (∃ W, owes (c : Thread nD τ) 0 W)) -∗ Q ⟨⟩))
      ⊢ Wp defs c (body a1 a2 a3 a4 a5 a6 a7 a8 a9 tabs a26 a27 h27 a28 h28 a29 a30 h30 a31 h31 a32 a33) Q := by
  unfold Ins
  iintro ⟨⟨⟨H1, H2, H3, H4, H5, H6, H7, H8, H9⟩, HT⟩, ⟨%Y, HY⟩, ⟨%d27, H27⟩, ⟨%d28, H28⟩, ⟨%d29, H29⟩, ⟨%d30, H30⟩, ⟨%d31, H31⟩, Hs, Hs', HW, Hk⟩
  unfold body Wp
  rw [wp_bind]
  iapply (wp_coord c 0)
  isplitl [H1]; · iexact H1
  isplitl [H4]; · iexact H4
  iintro H1 H4
  rw [wp_bind]
  iapply (wp_coord c 1)
  isplitl [H2]; · iexact H2
  isplitl [H4]; · iexact H4
  iintro H2 H4
  rw [wp_bind]
  iapply (wp_coord c 2)
  isplitl [H3]; · iexact H3
  isplitl [H4]; · iexact H4
  iintro H3 H4
  rw [wp_bind]
  ihave HE := (wp_encAll (U := U) (defs := defs) (τ := τ) c (x := coordV X1 P 0) (y := coordV X2 P 1) (z := coordV X3 P 2) (a27 := a27) (a28 := a28)) $$ [H27 H28]
  · unfold Enc
    iexists d27
    iexists d28
    isplitr
    · ipureintro
      exact ⟨fun _ _ h => h.elim, fun _ _ h => h.elim⟩
    isplitl [H27]; · iexact H27
    iexact H28
  iapply (wp_wand _ _ _) $$ HE
  iintro %_ HE
  unfold Enc
  icases HE with ⟨%e27, %e28, %he, H27, H28⟩
  rw [wp_bind]
  iapply (wp_copyL c EC hN0)
  isplitl [H27]; · iexact H27
  isplitl [H30]; · iexact H30
  isplitl [Hs]; · iexact Hs
  iintro HP
  rw [wp_bind]
  iapply (wp_copyL c EC hN1)
  isplitl [H28]; · iexact H28
  isplitl [H31]; · iexact H31
  isplitl [Hs']; · iexact Hs'
  iintro HP'
  rw [wp_bind]
  iapply (wp_waitL c EC)
  isplitl [HP]; · iexact HP
  isplitl [HW]; · iexact HW
  iintro ⟨H27, H30, Hs, HW⟩
  rw [wp_bind]
  iapply (wp_waitL c EC)
  isplitl [HP']; · iexact HP'
  isplitl [HW]; · iexact HW
  iintro ⟨H28, H31, Hs', HW⟩
  rw [wp_bind]
  iapply (wp_loop (U := U) (defs := defs) (τ := τ) c (x := coordV X1 P 0) (y := coordV X2 P 1) (z := coordV X3 P 2) (T := T))
  isplitl [H29 H30 H31 HT]
  · unfold Acc Reads
    isplitl [H30 H31 HT]
    · isplitl [H30 H31]
      · iexists e27
        iexists e28
        isplitr
        · ipureintro; exact he
        isplitl [H30]; · iexact H30
        iexact H31
      iexact HT
    iexists d29
    isplitr
    · ipureintro; exact fun _ _ h => h.elim
    iexact H29
  unfold Acc Reads
  iintro ⟨⟨⟨%f30, %f31, %hf, H30, H31⟩, HT⟩, %A, %hA, H29⟩
  iapply (wp_tail (U := U) (defs := defs) (τ := τ) c hA)
  isplitl [H29]; · iexact H29
  isplitl [H5]; · iexact H5
  isplitl [H6]; · iexact H6
  isplitl [H7]; · iexact H7
  isplitl [H8]; · iexact H8
  isplitl [H9]; · iexact H9
  isplitl [HY]; · iexact HY
  iintro ⟨H29, H5, H6, H7, H8, H9, HY⟩
  iapply Hk
  isplitl [H1 H2 H3 H4 H5 H6 H7 H8 H9 HT]
  · isplitr [HT]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact HT
  isplitl [HY]; · iexact HY
  isplitl [H27]; · iexists _; iexact H27
  isplitl [H28]; · iexists _; iexact H28
  isplitl [H29]; · iexists _; iexact H29
  isplitl [H30]; · iexists _; iexact H30
  isplitl [H31]; · iexists _; iexact H31
  isplitl [Hs]; · iexact Hs
  isplitl [Hs']; · iexact Hs'
  iexact HW

end Tex
-- ==== Proof.Parts.lean ====
module

public import proofs.«01_k».proof.Proof.Struct

@[expose] public section

noncomputable section

/-
  The structured body cut where the printed body is cut, so that the two agree by computation but for the
  association of what follows the loop.
-/
namespace Tex

open Idealize.ShloMosaic Idealize.SL.Sem
open Cert.KernelIdeal (S1x4x128 S4x128 S2x4 S1x1 S16x8x4x128 S1x1x4x128 S1x1x1x1 S1x128 S1x1x128 S8192x128 S512x128 S2048x32 S128x32 S512x32 S32x32 S32x9 S512x9 S1x9 S_)
open Cert.KernelIdeal.Facts₀

variable {F : FTy → Type} [FloatOps F] [Cert.KernelIdeal.Facts₀]
variable {nD : Nat} {τ : Topo} {sig : RefSig} {Λ : Labels}

/-- The first four levels of the first layer. -/
def after1 (a7 : Memref sig .tc .vmem S2048x32 .f32) (a29 : Memref sig .tc .vmem S8192x128 .f32) : Prog (TpuEff nD τ sig (Elt F) Λ .tc) (FVec F S512x32 .f32) :=
  layer1 a7 a29 (levels.take 4) (broadcast S512x32 (Scalar.ofBits .f32 0x00000000#32))

/-- The other levels and the other layers. -/
def after2 (a5 a6 : Memref sig .tc .vmem S1x9 .f32) (a7 : Memref sig .tc .vmem S2048x32 .f32) (a8 : Memref sig .tc .vmem S32x32 .f32) (a9 : Memref sig .tc .vmem S32x9 .f32)
    (a29 : Memref sig .tc .vmem S8192x128 .f32) (h : FVec F S512x32 .f32) : Prog (TpuEff nD τ sig (Elt F) Λ .tc) (FVec F S512x9 .f32) := do
  let h ← layer1 a7 a29 (levels.drop 4) h
  let w2 : Vec F S32x32 .f32 ← Prog.lift (.load a8 (Rect.unit (s := S32x32) ![0, 0] S32x32.size inb_S32x32_S32x32_0_0).toLoadRect (View.loadsAt_vmem h_S32x32))
  let w3 : Vec F S32x9 .f32 ← Prog.lift (.load a9 (Rect.unit (s := S32x9) ![0, 0] S32x9.size inb_S32x9_S32x9_0_0).toLoadRect (View.loadsAt_vmem h_S32x9))
  let s : Vec F S1x9 .f32 ← Prog.lift (.load a6 (Rect.unit (s := S1x9) ![0, 0] S1x9.size inb_S1x9_S1x9_0_0).toLoadRect (View.loadsAt_vmem h_S1x9))
  let m : Vec F S1x9 .f32 ← Prog.lift (.load a5 (Rect.unit (s := S1x9) ![0, 0] S1x9.size inb_S1x9_S1x9_0_0).toLoadRect (View.loadsAt_vmem h_S1x9))
  pure (outV h w2 w3 s m)

/-- The block's store. -/
def after3 (a26 : Memref sig .tc .vmem S512x9 .f32) (o : FVec F S512x9 .f32) : Prog (TpuEff nD τ sig (Elt F) Λ .tc) PUnit := do
  let _ ← Prog.lift (.load a26 (Rect.unit (s := S512x9) ![0, 0] S512x9.size inb_S512x9_S512x9_0_0).toLoadRect (View.loadsAt_vmem h_S512x9))
  Prog.lift (.store a26 (Rect.unit (s := S512x9) ![0, 0] S512x9.size inb_S512x9_S512x9_0_0) o Finset.univ (View.stores_vmem_bits_univ h_S512x9 rfl) (.inl rfl))

/-- What precedes the loop. -/
def opening (a1 a2 a3 : Memref sig .tc .vmem S1x4x128 .f32) (a4 : Memref sig .tc .smem S2x4 .f32)
    (a27 : Memref sig .tc .vmem S16x8x4x128 .i32) (h27 : a27.IsWhole) (a28 : Memref sig .tc .vmem S16x8x4x128 .f32) (h28 : a28.IsWhole)
    (a30 : Memref sig .tc .smem S16x8x4x128 .i32) (h30 : a30.IsWhole) (a31 : Memref sig .tc .smem S16x8x4x128 .f32) (h31 : a31.IsWhole)
    (a32 a33 : DmaSems sig S_) : Prog (TpuEff nD τ sig (Elt F) Λ .tc) PUnit := do
  let x ← coord a1 a4 0
  let y ← coord a2 a4 1
  let z ← coord a3 a4 2
  encAll a27 a28 x y z
  Prog.lift (.enqueueDma a27 (.here a30) (.dma a32.sem) h27.wordExact h30.wordExact ⟨Or.inl rfl, trivial⟩)
  Prog.lift (.enqueueDma a28 (.here a31) (.dma a33.sem) h28.wordExact h31.wordExact ⟨Or.inl rfl, trivial⟩)
  Prog.lift (.waitDma2 a32.sem a27 a30 h27.wordExact h30.wordExact)
  Prog.lift (.waitDma2 a33.sem a28 a31 h28.wordExact h31.wordExact)

/-- What follows the loop, associated to the right. -/
theorem rotate {E : Type → Type} {α β γ δ : Type} (o : Prog E PUnit) (p : Prog E α) (k1 : α → Prog E β) (k2 : β → Prog E γ) (k3 : γ → Prog E δ) :
    (o >>= fun _ => ((p >>= k1) >>= k2) >>= k3) = o >>= fun _ => p >>= fun r => k1 r >>= fun s => k2 s >>= k3 := by
  simp only [bind_assoc]

end Tex
-- ==== Proof.EqI.lean ====
module

public import proofs.«01_k».proof.Proof.Parts
public import Idealize.ShloMosaic.Lib.Tactic

@[expose] public section

set_option maxRecDepth 100000
set_option maxHeartbeats 0

noncomputable section
open Idealize.ShloMosaic Idealize.ShloMosaic.Tactic Idealize.SL.Sem
namespace Cert.KernelIdeal
variable {F : FTy → Type} [FloatOps F] [Facts]

/-- The tables by level. -/
def tabsOf {sig : RefSig} (a10 : Memref sig .tc .vmem (Tex.tabShape ⟨0, by decide⟩) .f32) (a11 : Memref sig .tc .vmem (Tex.tabShape ⟨1, by decide⟩) .f32) (a12 : Memref sig .tc .vmem (Tex.tabShape ⟨2, by decide⟩) .f32) (a13 : Memref sig .tc .vmem (Tex.tabShape ⟨3, by decide⟩) .f32) (a14 : Memref sig .tc .vmem (Tex.tabShape ⟨4, by decide⟩) .f32) (a15 : Memref sig .tc .vmem (Tex.tabShape ⟨5, by decide⟩) .f32) (a16 : Memref sig .tc .vmem (Tex.tabShape ⟨6, by decide⟩) .f32) (a17 : Memref sig .tc .vmem (Tex.tabShape ⟨7, by decide⟩) .f32) (a18 : Memref sig .tc .vmem (Tex.tabShape ⟨8, by decide⟩) .f32) (a19 : Memref sig .tc .vmem (Tex.tabShape ⟨9, by decide⟩) .f32) (a20 : Memref sig .tc .vmem (Tex.tabShape ⟨10, by decide⟩) .f32) (a21 : Memref sig .tc .vmem (Tex.tabShape ⟨11, by decide⟩) .f32) (a22 : Memref sig .tc .vmem (Tex.tabShape ⟨12, by decide⟩) .f32) (a23 : Memref sig .tc .vmem (Tex.tabShape ⟨13, by decide⟩) .f32) (a24 : Memref sig .tc .vmem (Tex.tabShape ⟨14, by decide⟩) .f32) (a25 : Memref sig .tc .vmem (Tex.tabShape ⟨15, by decide⟩) .f32) : Tex.Tabs sig
  | ⟨0, _⟩ => a10
  | ⟨1, _⟩ => a11
  | ⟨2, _⟩ => a12
  | ⟨3, _⟩ => a13
  | ⟨4, _⟩ => a14
  | ⟨5, _⟩ => a15
  | ⟨6, _⟩ => a16
  | ⟨7, _⟩ => a17
  | ⟨8, _⟩ => a18
  | ⟨9, _⟩ => a19
  | ⟨10, _⟩ => a20
  | ⟨11, _⟩ => a21
  | ⟨12, _⟩ => a22
  | ⟨13, _⟩ => a23
  | ⟨14, _⟩ => a24
  | ⟨15, _⟩ => a25
  | ⟨n + 16, h⟩ => absurd h (by omega)

/-- The printed body is the cut one. -/
theorem printed_eq  (i : grid0.Coords) (arg1 : Memref sig .tc .vmem S1x4x128 .f32) (harg1 : arg1.IsWhole) (arg2 : Memref sig .tc .vmem S1x4x128 .f32) (harg2 : arg2.IsWhole) (arg3 : Memref sig .tc .vmem S1x4x128 .f32) (harg3 : arg3.IsWhole) (arg4 : Memref sig .tc .smem S2x4 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S2048x32 .f32) (harg7 : arg7.IsWhole) (arg8 : Memref sig .tc .vmem S32x32 .f32) (harg8 : arg8.IsWhole) (arg9 : Memref sig .tc .vmem S32x9 .f32) (harg9 : arg9.IsWhole) (arg10 : Memref sig .tc .vmem S64x1x128 .f32) (harg10 : arg10.IsWhole) (arg11 : Memref sig .tc .vmem S216x1x128 .f32) (harg11 : arg11.IsWhole) (arg12 : Memref sig .tc .vmem S615x1x128 .f32) (harg12 : arg12.IsWhole) (arg13 : Memref sig .tc .vmem S1839x1x128 .f32) (harg13 : arg13.IsWhole) (arg14 : Memref sig .tc .vmem S5593x1x128 .f32) (harg14 : arg14.IsWhole) (arg15 : Memref sig .tc .vmem S8192x1x128 .f32) (harg15 : arg15.IsWhole) (arg16 : Memref sig .tc .vmem S8192x1x128 .f32) (harg16 : arg16.IsWhole) (arg17 : Memref sig .tc .vmem S8192x1x128 .f32) (harg17 : arg17.IsWhole) (arg18 : Memref sig .tc .vmem S8192x1x128 .f32) (harg18 : arg18.IsWhole) (arg19 : Memref sig .tc .vmem S8192x1x128 .f32) (harg19 : arg19.IsWhole) (arg20 : Memref sig .tc .vmem S8192x1x128 .f32) (harg20 : arg20.IsWhole) (arg21 : Memref sig .tc .vmem S8192x1x128 .f32) (harg21 : arg21.IsWhole) (arg22 : Memref sig .tc .vmem S8192x1x128 .f32) (harg22 : arg22.IsWhole) (arg23 : Memref sig .tc .vmem S8192x1x128 .f32) (harg23 : arg23.IsWhole) (arg24 : Memref sig .tc .vmem S8192x1x128 .f32) (harg24 : arg24.IsWhole) (arg25 : Memref sig .tc .vmem S8192x1x128 .f32) (harg25 : arg25.IsWhole) (arg26 : Memref sig .tc .vmem S512x9 .f32) (harg26 : arg26.IsWhole) (arg27 : Memref sig .tc .vmem S16x8x4x128 .i32) (harg27 : arg27.IsWhole) (arg28 : Memref sig .tc .vmem S16x8x4x128 .f32) (harg28 : arg28.IsWhole) (arg29 : Memref sig .tc .vmem S8192x128 .f32) (harg29 : arg29.IsWhole) (arg30 : Memref sig .tc .smem S16x8x4x128 .i32) (harg30 : arg30.IsWhole) (arg31 : Memref sig .tc .smem S16x8x4x128 .f32) (harg31 : arg31.IsWhole) (arg32 : DmaSems sig S_) (arg33 : DmaSems sig S_)  :
       cc0_mlptexture3d (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 arg33 =
      (Tex.opening (F := F) (Λ := Λ₀) (nD := nD) (τ := τ) arg1 arg2 arg3 arg4 arg27 harg27 arg28 harg28 arg30 harg30 arg31 harg31 arg32 arg33 >>= fun _ => (((Scf.Loop.for Tex.loop Tex.loop_ok PUnit.unit fun t _ => Tex.trip (tabsOf arg10 arg11 arg12 arg13 arg14 arg15 arg16 arg17 arg18 arg19 arg20 arg21 arg22 arg23 arg24 arg25) arg29 arg30 arg31 t) >>= (fun _ => Tex.after1 arg7 arg29)) >>= Tex.after2 arg5 arg6 arg7 arg8 arg9 arg29) >>= Tex.after3 arg26) := by sl_kernel_rfl

/-- The cut body is the structured one. -/
theorem plain_eq  (i : grid0.Coords) (arg1 : Memref sig .tc .vmem S1x4x128 .f32) (harg1 : arg1.IsWhole) (arg2 : Memref sig .tc .vmem S1x4x128 .f32) (harg2 : arg2.IsWhole) (arg3 : Memref sig .tc .vmem S1x4x128 .f32) (harg3 : arg3.IsWhole) (arg4 : Memref sig .tc .smem S2x4 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S2048x32 .f32) (harg7 : arg7.IsWhole) (arg8 : Memref sig .tc .vmem S32x32 .f32) (harg8 : arg8.IsWhole) (arg9 : Memref sig .tc .vmem S32x9 .f32) (harg9 : arg9.IsWhole) (arg10 : Memref sig .tc .vmem S64x1x128 .f32) (harg10 : arg10.IsWhole) (arg11 : Memref sig .tc .vmem S216x1x128 .f32) (harg11 : arg11.IsWhole) (arg12 : Memref sig .tc .vmem S615x1x128 .f32) (harg12 : arg12.IsWhole) (arg13 : Memref sig .tc .vmem S1839x1x128 .f32) (harg13 : arg13.IsWhole) (arg14 : Memref sig .tc .vmem S5593x1x128 .f32) (harg14 : arg14.IsWhole) (arg15 : Memref sig .tc .vmem S8192x1x128 .f32) (harg15 : arg15.IsWhole) (arg16 : Memref sig .tc .vmem S8192x1x128 .f32) (harg16 : arg16.IsWhole) (arg17 : Memref sig .tc .vmem S8192x1x128 .f32) (harg17 : arg17.IsWhole) (arg18 : Memref sig .tc .vmem S8192x1x128 .f32) (harg18 : arg18.IsWhole) (arg19 : Memref sig .tc .vmem S8192x1x128 .f32) (harg19 : arg19.IsWhole) (arg20 : Memref sig .tc .vmem S8192x1x128 .f32) (harg20 : arg20.IsWhole) (arg21 : Memref sig .tc .vmem S8192x1x128 .f32) (harg21 : arg21.IsWhole) (arg22 : Memref sig .tc .vmem S8192x1x128 .f32) (harg22 : arg22.IsWhole) (arg23 : Memref sig .tc .vmem S8192x1x128 .f32) (harg23 : arg23.IsWhole) (arg24 : Memref sig .tc .vmem S8192x1x128 .f32) (harg24 : arg24.IsWhole) (arg25 : Memref sig .tc .vmem S8192x1x128 .f32) (harg25 : arg25.IsWhole) (arg26 : Memref sig .tc .vmem S512x9 .f32) (harg26 : arg26.IsWhole) (arg27 : Memref sig .tc .vmem S16x8x4x128 .i32) (harg27 : arg27.IsWhole) (arg28 : Memref sig .tc .vmem S16x8x4x128 .f32) (harg28 : arg28.IsWhole) (arg29 : Memref sig .tc .vmem S8192x128 .f32) (harg29 : arg29.IsWhole) (arg30 : Memref sig .tc .smem S16x8x4x128 .i32) (harg30 : arg30.IsWhole) (arg31 : Memref sig .tc .smem S16x8x4x128 .f32) (harg31 : arg31.IsWhole) (arg32 : DmaSems sig S_) (arg33 : DmaSems sig S_)  :
      (Tex.opening (F := F) (Λ := Λ₀) (nD := nD) (τ := τ) arg1 arg2 arg3 arg4 arg27 harg27 arg28 harg28 arg30 harg30 arg31 harg31 arg32 arg33 >>= fun _ => (Scf.Loop.for Tex.loop Tex.loop_ok PUnit.unit fun t _ => Tex.trip (tabsOf arg10 arg11 arg12 arg13 arg14 arg15 arg16 arg17 arg18 arg19 arg20 arg21 arg22 arg23 arg24 arg25) arg29 arg30 arg31 t) >>= fun r => Tex.after1 arg7 arg29 >>= fun s => Tex.after2 arg5 arg6 arg7 arg8 arg9 arg29 s >>= Tex.after3 arg26) = Tex.body arg1 arg2 arg3 arg4 arg5 arg6 arg7 arg8 arg9 (tabsOf arg10 arg11 arg12 arg13 arg14 arg15 arg16 arg17 arg18 arg19 arg20 arg21 arg22 arg23 arg24 arg25) arg26 arg27 harg27 arg28 harg28 arg29 arg30 harg30 arg31 harg31 arg32 arg33 := by sl_kernel_rfl

/-- The printed body is the structured one. -/
theorem body_eq  (i : grid0.Coords) (arg1 : Memref sig .tc .vmem S1x4x128 .f32) (harg1 : arg1.IsWhole) (arg2 : Memref sig .tc .vmem S1x4x128 .f32) (harg2 : arg2.IsWhole) (arg3 : Memref sig .tc .vmem S1x4x128 .f32) (harg3 : arg3.IsWhole) (arg4 : Memref sig .tc .smem S2x4 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S2048x32 .f32) (harg7 : arg7.IsWhole) (arg8 : Memref sig .tc .vmem S32x32 .f32) (harg8 : arg8.IsWhole) (arg9 : Memref sig .tc .vmem S32x9 .f32) (harg9 : arg9.IsWhole) (arg10 : Memref sig .tc .vmem S64x1x128 .f32) (harg10 : arg10.IsWhole) (arg11 : Memref sig .tc .vmem S216x1x128 .f32) (harg11 : arg11.IsWhole) (arg12 : Memref sig .tc .vmem S615x1x128 .f32) (harg12 : arg12.IsWhole) (arg13 : Memref sig .tc .vmem S1839x1x128 .f32) (harg13 : arg13.IsWhole) (arg14 : Memref sig .tc .vmem S5593x1x128 .f32) (harg14 : arg14.IsWhole) (arg15 : Memref sig .tc .vmem S8192x1x128 .f32) (harg15 : arg15.IsWhole) (arg16 : Memref sig .tc .vmem S8192x1x128 .f32) (harg16 : arg16.IsWhole) (arg17 : Memref sig .tc .vmem S8192x1x128 .f32) (harg17 : arg17.IsWhole) (arg18 : Memref sig .tc .vmem S8192x1x128 .f32) (harg18 : arg18.IsWhole) (arg19 : Memref sig .tc .vmem S8192x1x128 .f32) (harg19 : arg19.IsWhole) (arg20 : Memref sig .tc .vmem S8192x1x128 .f32) (harg20 : arg20.IsWhole) (arg21 : Memref sig .tc .vmem S8192x1x128 .f32) (harg21 : arg21.IsWhole) (arg22 : Memref sig .tc .vmem S8192x1x128 .f32) (harg22 : arg22.IsWhole) (arg23 : Memref sig .tc .vmem S8192x1x128 .f32) (harg23 : arg23.IsWhole) (arg24 : Memref sig .tc .vmem S8192x1x128 .f32) (harg24 : arg24.IsWhole) (arg25 : Memref sig .tc .vmem S8192x1x128 .f32) (harg25 : arg25.IsWhole) (arg26 : Memref sig .tc .vmem S512x9 .f32) (harg26 : arg26.IsWhole) (arg27 : Memref sig .tc .vmem S16x8x4x128 .i32) (harg27 : arg27.IsWhole) (arg28 : Memref sig .tc .vmem S16x8x4x128 .f32) (harg28 : arg28.IsWhole) (arg29 : Memref sig .tc .vmem S8192x128 .f32) (harg29 : arg29.IsWhole) (arg30 : Memref sig .tc .smem S16x8x4x128 .i32) (harg30 : arg30.IsWhole) (arg31 : Memref sig .tc .smem S16x8x4x128 .f32) (harg31 : arg31.IsWhole) (arg32 : DmaSems sig S_) (arg33 : DmaSems sig S_)  :
       cc0_mlptexture3d (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 arg33 =
      Tex.body arg1 arg2 arg3 arg4 arg5 arg6 arg7 arg8 arg9 (tabsOf arg10 arg11 arg12 arg13 arg14 arg15 arg16 arg17 arg18 arg19 arg20 arg21 arg22 arg23 arg24 arg25) arg26 arg27 harg27 arg28 harg28 arg29 arg30 harg30 arg31 harg31 arg32 arg33 :=
  (printed_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 arg33).trans ((Tex.rotate _ _ _ _ _).trans (plain_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 arg33))

end Cert.KernelIdeal
-- ==== Proof.FrameI.lean ====
module

public import proofs.«01_k».proof.Proof.Spec
public import proofs.«01_k».proof.Proof.EqI
public import proofs.«01_k».proof.Proof.Gen.KernelIdeal.Frame

@[expose] public section

set_option maxRecDepth 16384
set_option maxHeartbeats 4000000

noncomputable section

/-
  The launch: the body at a grid point leaves the output block at `Tex.outF` of the blocks its windows hold, so the
  whole run ends with every argument as it was, the output array at those blocks, and every semaphore at zero.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region, over the algebra that also counts transfers -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The body's two transfer semaphores. -/
abbrev osem0 : Fin 2 → SemLoc sig := fun j => (![SemLoc.dma 30, SemLoc.dma 31] : Fin 2 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 30) 0 ∗ semVal ((c : Thread nD τ), SemLoc.dma 31) 0) := by
  rw [Pipeline.ownSems0_eq_of_list c osem0 [0, 1] (by decide) (by decide)]; rfl

/-- The scratch buffer `b` whole. -/
abbrev scr (c : Dev nD) (b : Ref sig .tc) : sProp 𝕄 :=
  iprop(∃ d, Tex.own (τ := τ) (Pipeline.UD sig nD τ) c (Memref.whole b) d)

/-- What is held between two points: the scratch buffers at something, the generator, the semaphores at zero. -/
theorem phi_eq (c : Dev nD) :
    (Pipeline.ΦD osem0 spec0 ∅ (V m) c : sProp 𝕄)
      = iprop(iprop(scr c cc0_scratch0 ∗ scr c cc0_scratch1 ∗ scr c cc0_scratch2 ∗ scr c cc0_scratch3 ∗ scr c cc0_scratch4)
          ∗ (∃ r, prngReg c r) ∗ iprop(semVal ((c : Thread nD τ), SemLoc.dma 30) 0 ∗ semVal ((c : Thread nD τ), SemLoc.dma 31) 0) ∗ emp) := by
  rw [Pipeline.ΦD_eq, scopedRest0_eq, ownSems00_eq, bigSep_empty]
  simp only [scr, Tex.own, owns_whole]; try rfl

/-! ## The proof data -/

/-- The tables' blocks by level. -/
def tabV (c : Dev nD) (t : Fin cfg0.N) : Tex.TabV F
  | ⟨0, _⟩ => iblk m c 9 t
  | ⟨1, _⟩ => iblk m c 10 t
  | ⟨2, _⟩ => iblk m c 11 t
  | ⟨3, _⟩ => iblk m c 12 t
  | ⟨4, _⟩ => iblk m c 13 t
  | ⟨5, _⟩ => iblk m c 14 t
  | ⟨6, _⟩ => iblk m c 15 t
  | ⟨7, _⟩ => iblk m c 16 t
  | ⟨8, _⟩ => iblk m c 17 t
  | ⟨9, _⟩ => iblk m c 18 t
  | ⟨10, _⟩ => iblk m c 19 t
  | ⟨11, _⟩ => iblk m c 20 t
  | ⟨12, _⟩ => iblk m c 21 t
  | ⟨13, _⟩ => iblk m c 22 t
  | ⟨14, _⟩ => iblk m c 23 t
  | ⟨15, _⟩ => iblk m c 24 t
  | ⟨n + 16, h⟩ => absurd h (by omega)

/-- What the body leaves in the output's block. -/
def outAt (c : Dev nD) (t : Fin cfg0.N) : FVec F S512x9 .f32 :=
  Tex.outF (iblk m c 0 t) (iblk m c 1 t) (iblk m c 2 t) (iblk m c 3 t) (iblk m c 4 t) (iblk m c 5 t) (iblk m c 6 t) (iblk m c 7 t) (iblk m c 8 t) (tabV m c t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => outAt m c t
    | ⟨n + 26, h⟩ => absurd h (by change ¬ n + 26 < 26; omega)
  Φ _ := Pipeline.ΦD osem0 spec0 ∅ (V m) c
  q _ := fullShare
  owed _ := 0

theorem A_eq (c : Dev nD) (w : Fin cfg0.W) : (dats m 0 c).A w = V m c (Pipeline.arrRef spec0 w) := by
  dsimp only [dats]

/-- Input window `w`'s part of the claim that a body finds its block where it left it. -/
theorem before_of (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = (dats m 0 c).blockOf w t) (t : Fin cfg0.N) (d) :
    (dats m 0 c).before w t d = (dats m 0 c).fetched w t d :=
  (dats m 0 c).before_in_eq_fetched w hw hlive hclip hkeep t d

theorem before_0 (c : Dev nD) (t : Fin cfg0.N) (d) : (dats m 0 c).before 0 t d = iblk m c 0 t :=
  before_of m c 0 rfl (fun _ => rfl) (fun _ _ _ => rfl) (fun _ => rfl) t d
theorem before_1 (c : Dev nD) (t : Fin cfg0.N) (d) : (dats m 0 c).before 1 t d = iblk m c 1 t :=
  before_of m c 1 rfl (fun _ => rfl) (fun _ _ _ => rfl) (fun _ => rfl) t d
theorem before_2 (c : Dev nD) (t : Fin cfg0.N) (d) : (dats m 0 c).before 2 t d = iblk m c 2 t :=
  before_of m c 2 rfl (fun _ => rfl) (fun _ _ _ => rfl) (fun _ => rfl) t d
theorem before_3 (c : Dev nD) (t : Fin cfg0.N) (d) : (dats m 0 c).before 3 t d = iblk m c 3 t :=
  before_of m c 3 rfl (fun _ => rfl) (fun _ _ _ => rfl) (fun _ => rfl) t d
theorem before_4 (c : Dev nD) (t : Fin cfg0.N) (d) : (dats m 0 c).before 4 t d = iblk m c 4 t :=
  before_of m c 4 rfl (fun _ => rfl) (fun _ _ _ => rfl) (fun _ => rfl) t d
theorem before_5 (c : Dev nD) (t : Fin cfg0.N) (d) : (dats m 0 c).before 5 t d = iblk m c 5 t :=
  before_of m c 5 rfl (fun _ => rfl) (fun _ _ _ => rfl) (fun _ => rfl) t d
theorem before_6 (c : Dev nD) (t : Fin cfg0.N) (d) : (dats m 0 c).before 6 t d = iblk m c 6 t :=
  before_of m c 6 rfl (fun _ => rfl) (fun _ _ _ => rfl) (fun _ => rfl) t d
theorem before_7 (c : Dev nD) (t : Fin cfg0.N) (d) : (dats m 0 c).before 7 t d = iblk m c 7 t :=
  before_of m c 7 rfl (fun _ => rfl) (fun _ _ _ => rfl) (fun _ => rfl) t d
theorem before_8 (c : Dev nD) (t : Fin cfg0.N) (d) : (dats m 0 c).before 8 t d = iblk m c 8 t :=
  before_of m c 8 rfl (fun _ => rfl) (fun _ _ _ => rfl) (fun _ => rfl) t d
theorem before_9 (c : Dev nD) (t : Fin cfg0.N) (d) : (dats m 0 c).before 9 t d = iblk m c 9 t :=
  before_of m c 9 rfl (fun _ => rfl) (fun _ _ _ => rfl) (fun _ => rfl) t d
theorem before_10 (c : Dev nD) (t : Fin cfg0.N) (d) : (dats m 0 c).before 10 t d = iblk m c 10 t :=
  before_of m c 10 rfl (fun _ => rfl) (fun _ _ _ => rfl) (fun _ => rfl) t d
theorem before_11 (c : Dev nD) (t : Fin cfg0.N) (d) : (dats m 0 c).before 11 t d = iblk m c 11 t :=
  before_of m c 11 rfl (fun _ => rfl) (fun _ _ _ => rfl) (fun _ => rfl) t d
theorem before_12 (c : Dev nD) (t : Fin cfg0.N) (d) : (dats m 0 c).before 12 t d = iblk m c 12 t :=
  before_of m c 12 rfl (fun _ => rfl) (fun _ _ _ => rfl) (fun _ => rfl) t d
theorem before_13 (c : Dev nD) (t : Fin cfg0.N) (d) : (dats m 0 c).before 13 t d = iblk m c 13 t :=
  before_of m c 13 rfl (fun _ => rfl) (fun _ _ _ => rfl) (fun _ => rfl) t d
theorem before_14 (c : Dev nD) (t : Fin cfg0.N) (d) : (dats m 0 c).before 14 t d = iblk m c 14 t :=
  before_of m c 14 rfl (fun _ => rfl) (fun _ _ _ => rfl) (fun _ => rfl) t d
theorem before_15 (c : Dev nD) (t : Fin cfg0.N) (d) : (dats m 0 c).before 15 t d = iblk m c 15 t :=
  before_of m c 15 rfl (fun _ => rfl) (fun _ _ _ => rfl) (fun _ => rfl) t d
theorem before_16 (c : Dev nD) (t : Fin cfg0.N) (d) : (dats m 0 c).before 16 t d = iblk m c 16 t :=
  before_of m c 16 rfl (fun _ => rfl) (fun _ _ _ => rfl) (fun _ => rfl) t d
theorem before_17 (c : Dev nD) (t : Fin cfg0.N) (d) : (dats m 0 c).before 17 t d = iblk m c 17 t :=
  before_of m c 17 rfl (fun _ => rfl) (fun _ _ _ => rfl) (fun _ => rfl) t d
theorem before_18 (c : Dev nD) (t : Fin cfg0.N) (d) : (dats m 0 c).before 18 t d = iblk m c 18 t :=
  before_of m c 18 rfl (fun _ => rfl) (fun _ _ _ => rfl) (fun _ => rfl) t d
theorem before_19 (c : Dev nD) (t : Fin cfg0.N) (d) : (dats m 0 c).before 19 t d = iblk m c 19 t :=
  before_of m c 19 rfl (fun _ => rfl) (fun _ _ _ => rfl) (fun _ => rfl) t d
theorem before_20 (c : Dev nD) (t : Fin cfg0.N) (d) : (dats m 0 c).before 20 t d = iblk m c 20 t :=
  before_of m c 20 rfl (fun _ => rfl) (fun _ _ _ => rfl) (fun _ => rfl) t d
theorem before_21 (c : Dev nD) (t : Fin cfg0.N) (d) : (dats m 0 c).before 21 t d = iblk m c 21 t :=
  before_of m c 21 rfl (fun _ => rfl) (fun _ _ _ => rfl) (fun _ => rfl) t d
theorem before_22 (c : Dev nD) (t : Fin cfg0.N) (d) : (dats m 0 c).before 22 t d = iblk m c 22 t :=
  before_of m c 22 rfl (fun _ => rfl) (fun _ _ _ => rfl) (fun _ => rfl) t d
theorem before_23 (c : Dev nD) (t : Fin cfg0.N) (d) : (dats m 0 c).before 23 t d = iblk m c 23 t :=
  before_of m c 23 rfl (fun _ => rfl) (fun _ _ _ => rfl) (fun _ => rfl) t d
theorem before_24 (c : Dev nD) (t : Fin cfg0.N) (d) : (dats m 0 c).before 24 t d = iblk m c 24 t :=
  before_of m c 24 rfl (fun _ => rfl) (fun _ _ _ => rfl) (fun _ => rfl) t d

/-! ## The body obligation -/

/-- Window `w`'s staging memref at a point. -/
abbrev ms (t : Fin cfg0.N) (w : Fin cfg0.W) := (cfg0.win w).stage (cfg0.slots t w)

def bodyPre (c : Dev nD) (t : Fin cfg0.N) : sProp 𝕄 :=
  iprop((dats m 0 c).Φ t.castSucc ∗ (dats m 0 c).owesAt () t.castSucc
    ∗ (∃ d, owns (c : Thread nD τ) (ms t 0) fullShare ((dats m 0 c).before 0 t d))
    ∗ (∃ d, owns (c : Thread nD τ) (ms t 1) fullShare ((dats m 0 c).before 1 t d))
    ∗ (∃ d, owns (c : Thread nD τ) (ms t 2) fullShare ((dats m 0 c).before 2 t d))
    ∗ (∃ d, owns (c : Thread nD τ) (ms t 3) fullShare ((dats m 0 c).before 3 t d))
    ∗ (∃ d, owns (c : Thread nD τ) (ms t 4) fullShare ((dats m 0 c).before 4 t d))
    ∗ (∃ d, owns (c : Thread nD τ) (ms t 5) fullShare ((dats m 0 c).before 5 t d))
    ∗ (∃ d, owns (c : Thread nD τ) (ms t 6) fullShare ((dats m 0 c).before 6 t d))
    ∗ (∃ d, owns (c : Thread nD τ) (ms t 7) fullShare ((dats m 0 c).before 7 t d))
    ∗ (∃ d, owns (c : Thread nD τ) (ms t 8) fullShare ((dats m 0 c).before 8 t d))
    ∗ (∃ d, owns (c : Thread nD τ) (ms t 9) fullShare ((dats m 0 c).before 9 t d))
    ∗ (∃ d, owns (c : Thread nD τ) (ms t 10) fullShare ((dats m 0 c).before 10 t d))
    ∗ (∃ d, owns (c : Thread nD τ) (ms t 11) fullShare ((dats m 0 c).before 11 t d))
    ∗ (∃ d, owns (c : Thread nD τ) (ms t 12) fullShare ((dats m 0 c).before 12 t d))
    ∗ (∃ d, owns (c : Thread nD τ) (ms t 13) fullShare ((dats m 0 c).before 13 t d))
    ∗ (∃ d, owns (c : Thread nD τ) (ms t 14) fullShare ((dats m 0 c).before 14 t d))
    ∗ (∃ d, owns (c : Thread nD τ) (ms t 15) fullShare ((dats m 0 c).before 15 t d))
    ∗ (∃ d, owns (c : Thread nD τ) (ms t 16) fullShare ((dats m 0 c).before 16 t d))
    ∗ (∃ d, owns (c : Thread nD τ) (ms t 17) fullShare ((dats m 0 c).before 17 t d))
    ∗ (∃ d, owns (c : Thread nD τ) (ms t 18) fullShare ((dats m 0 c).before 18 t d))
    ∗ (∃ d, owns (c : Thread nD τ) (ms t 19) fullShare ((dats m 0 c).before 19 t d))
    ∗ (∃ d, owns (c : Thread nD τ) (ms t 20) fullShare ((dats m 0 c).before 20 t d))
    ∗ (∃ d, owns (c : Thread nD τ) (ms t 21) fullShare ((dats m 0 c).before 21 t d))
    ∗ (∃ d, owns (c : Thread nD τ) (ms t 22) fullShare ((dats m 0 c).before 22 t d))
    ∗ (∃ d, owns (c : Thread nD τ) (ms t 23) fullShare ((dats m 0 c).before 23 t d))
    ∗ (∃ d, owns (c : Thread nD τ) (ms t 24) fullShare ((dats m 0 c).before 24 t d))
    ∗ (∃ d, owns (c : Thread nD τ) (ms t 25) fullShare ((dats m 0 c).before 25 t d)))

def bodyPost (c : Dev nD) (t : Fin cfg0.N) : sProp 𝕄 :=
  iprop((dats m 0 c).Φ t.succ ∗ (dats m 0 c).owesAt () t.succ
    ∗ owns (c : Thread nD τ) (ms t 0) fullShare ((dats m 0 c).after 0 t)
    ∗ owns (c : Thread nD τ) (ms t 1) fullShare ((dats m 0 c).after 1 t)
    ∗ owns (c : Thread nD τ) (ms t 2) fullShare ((dats m 0 c).after 2 t)
    ∗ owns (c : Thread nD τ) (ms t 3) fullShare ((dats m 0 c).after 3 t)
    ∗ owns (c : Thread nD τ) (ms t 4) fullShare ((dats m 0 c).after 4 t)
    ∗ owns (c : Thread nD τ) (ms t 5) fullShare ((dats m 0 c).after 5 t)
    ∗ owns (c : Thread nD τ) (ms t 6) fullShare ((dats m 0 c).after 6 t)
    ∗ owns (c : Thread nD τ) (ms t 7) fullShare ((dats m 0 c).after 7 t)
    ∗ owns (c : Thread nD τ) (ms t 8) fullShare ((dats m 0 c).after 8 t)
    ∗ owns (c : Thread nD τ) (ms t 9) fullShare ((dats m 0 c).after 9 t)
    ∗ owns (c : Thread nD τ) (ms t 10) fullShare ((dats m 0 c).after 10 t)
    ∗ owns (c : Thread nD τ) (ms t 11) fullShare ((dats m 0 c).after 11 t)
    ∗ owns (c : Thread nD τ) (ms t 12) fullShare ((dats m 0 c).after 12 t)
    ∗ owns (c : Thread nD τ) (ms t 13) fullShare ((dats m 0 c).after 13 t)
    ∗ owns (c : Thread nD τ) (ms t 14) fullShare ((dats m 0 c).after 14 t)
    ∗ owns (c : Thread nD τ) (ms t 15) fullShare ((dats m 0 c).after 15 t)
    ∗ owns (c : Thread nD τ) (ms t 16) fullShare ((dats m 0 c).after 16 t)
    ∗ owns (c : Thread nD τ) (ms t 17) fullShare ((dats m 0 c).after 17 t)
    ∗ owns (c : Thread nD τ) (ms t 18) fullShare ((dats m 0 c).after 18 t)
    ∗ owns (c : Thread nD τ) (ms t 19) fullShare ((dats m 0 c).after 19 t)
    ∗ owns (c : Thread nD τ) (ms t 20) fullShare ((dats m 0 c).after 20 t)
    ∗ owns (c : Thread nD τ) (ms t 21) fullShare ((dats m 0 c).after 21 t)
    ∗ owns (c : Thread nD τ) (ms t 22) fullShare ((dats m 0 c).after 22 t)
    ∗ owns (c : Thread nD τ) (ms t 23) fullShare ((dats m 0 c).after 23 t)
    ∗ owns (c : Thread nD τ) (ms t 24) fullShare ((dats m 0 c).after 24 t)
    ∗ owns (c : Thread nD τ) (ms t 25) fullShare ((dats m 0 c).after 25 t))

/-- The tables' staging memrefs by level. -/
abbrev tabsAt (t : Fin cfg0.N) : Tex.Tabs sig := (tabsOf (ms t 9) (ms t 10) (ms t 11) (ms t 12) (ms t 13) (ms t 14) (ms t 15) (ms t 16) (ms t 17) (ms t 18) (ms t 19) (ms t 20) (ms t 21) (ms t 22) (ms t 23) (ms t 24))

/-- The tables conjoined one by one. -/
theorem tabs_eq (c : Dev nD) (t : Fin cfg0.N) :
    (bigSep Finset.univ (fun l => Tex.own (τ := τ) (Pipeline.UD sig nD τ) c (tabsAt t l) (tabV m c t l)) : sProp 𝕄)
      = iprop(Tex.own (τ := τ) (Pipeline.UD sig nD τ) c (ms t 9) (iblk m c 9 t) ∗ Tex.own (τ := τ) (Pipeline.UD sig nD τ) c (ms t 10) (iblk m c 10 t) ∗ Tex.own (τ := τ) (Pipeline.UD sig nD τ) c (ms t 11) (iblk m c 11 t) ∗ Tex.own (τ := τ) (Pipeline.UD sig nD τ) c (ms t 12) (iblk m c 12 t) ∗ Tex.own (τ := τ) (Pipeline.UD sig nD τ) c (ms t 13) (iblk m c 13 t) ∗ Tex.own (τ := τ) (Pipeline.UD sig nD τ) c (ms t 14) (iblk m c 14 t) ∗ Tex.own (τ := τ) (Pipeline.UD sig nD τ) c (ms t 15) (iblk m c 15 t) ∗ Tex.own (τ := τ) (Pipeline.UD sig nD τ) c (ms t 16) (iblk m c 16 t) ∗ Tex.own (τ := τ) (Pipeline.UD sig nD τ) c (ms t 17) (iblk m c 17 t) ∗ Tex.own (τ := τ) (Pipeline.UD sig nD τ) c (ms t 18) (iblk m c 18 t) ∗ Tex.own (τ := τ) (Pipeline.UD sig nD τ) c (ms t 19) (iblk m c 19 t) ∗ Tex.own (τ := τ) (Pipeline.UD sig nD τ) c (ms t 20) (iblk m c 20 t) ∗ Tex.own (τ := τ) (Pipeline.UD sig nD τ) c (ms t 21) (iblk m c 21 t) ∗ Tex.own (τ := τ) (Pipeline.UD sig nD τ) c (ms t 22) (iblk m c 22 t) ∗ Tex.own (τ := τ) (Pipeline.UD sig nD τ) c (ms t 23) (iblk m c 23 t) ∗ Tex.own (τ := τ) (Pipeline.UD sig nD τ) c (ms t 24) (iblk m c 24 t)) := by
  rw [bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide)]; rfl

theorem credit3 : 0 < (Memref.whole cc0_scratch3 : Memref sig .tc .smem S16x8x4x128 .i32).view.dmaCredit := by decide

theorem credit4 : 0 < (Memref.whole cc0_scratch4 : Memref sig .tc .smem S16x8x4x128 .f32).view.dmaCredit := by decide

/-- Nothing bounds what the core owes after a point. -/
theorem owes_any (c : Dev nD) (t : Fin cfg0.N) (W : Waits sig Unit) :
    (owes (c : Thread nD τ) 0 W : sProp 𝕄) ⊢ iprop(∃ W : Waits sig Unit, ⌜(↑W : Set _) ⊆ (dats m 0 c).bound () t.succ⌝ ∗ owes (c : Thread nD τ) 0 W) := by
  iintro HW
  iexists W
  isplitr
  · ipureintro; exact fun _ _ => Or.inl trivial
  iexact HW

/-- The body at a point, from its windows' blocks to the output's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  rw [show (dats m 0 c).Φ t.succ = Pipeline.ΦD osem0 spec0 ∅ (V m) c from rfl, show (dats m 0 c).Φ t.castSucc = Pipeline.ΦD osem0 spec0 ∅ (V m) c from rfl, phi_eq]
  unfold Dat.owesAt Pipeline.owesWithin
  rw [show (dats m 0 c).owed t.castSucc = 0 from rfl, show (dats m 0 c).owed t.succ = 0 from rfl]
  simp only [before_0, before_1, before_2, before_3, before_4, before_5, before_6, before_7, before_8, before_9, before_10, before_11, before_12, before_13, before_14, before_15, before_16, before_17, before_18, before_19, before_20, before_21, before_22, before_23, before_24]
  iintro ⟨⟨⟨HS0, HS1, HS2, HS3, HS4⟩, Hg, ⟨Hq0, Hq1⟩, -⟩, ⟨%W, -, HW⟩, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩, ⟨%_, H16⟩, ⟨%_, H17⟩, ⟨%_, H18⟩, ⟨%_, H19⟩, ⟨%_, H20⟩, ⟨%_, H21⟩, ⟨%_, H22⟩, ⟨%_, H23⟩, ⟨%_, H24⟩, ⟨%d25, H25⟩⟩
  iapply (Tex.wp_body (τ := τ) (U := Pipeline.UD sig nD τ) (defs := defs₀ (F := F)) c (countersEmb (U := Pipeline.UD sig nD τ)) (T := tabV m c t) (tabs := tabsAt t) (X1 := iblk m c 0 t) (X2 := iblk m c 1 t) (X3 := iblk m c 2 t) (P := iblk m c 3 t) (M := iblk m c 4 t) (S := iblk m c 5 t) (G := iblk m c 6 t) (W2 := iblk m c 7 t) (W3 := iblk m c 8 t) _ _ _ _ credit3 credit4)
  rw [tabs_eq]
  unfold Tex.Ins
  isplitl [H0 H1 H2 H3 H4 H5 H6 H7 H8 H9 H10 H11 H12 H13 H14 H15 H16 H17 H18 H19 H20 H21 H22 H23 H24]
  · isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  isplitl [H25]; · iexists _; iexact H25
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [HW]; · iexists W; iexact HW
  iintro ⟨⟨⟨H0, H1, H2, H3, H4, H5, H6, H7, H8⟩, H9, H10, H11, H12, H13, H14, H15, H16, H17, H18, H19, H20, H21, H22, H23, H24⟩, H25, HS0, HS1, HS2, HS3, HS4, Hq0, Hq1, ⟨%W', HW⟩⟩
  isplitl [HS0 HS1 HS2 HS3 HS4 Hg Hq0 Hq1]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]; · iexact Hg
    isplitl [Hq0 Hq1]
    · isplitl [Hq0]; · iexact Hq0
      iexact Hq1
    iempintro
  isplitl [HW]
  · iapply (owes_any m c t W'); iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the buffers behind no window hold at the end. -/
abbrev endV (c : Dev nD) (b : Ref sig .tc) : Buf (Elt F) ((c : Thread nD τ).loc b) :=
  Pipeline.afterTail₀ cfgs (dats m) 0 (V0 m) [hostOps1] c b

theorem share_eq (c : Dev nD) (w : Fin cfg0.W) : (dats m 0 c).share w = fullShare :=
  (dats m 0 c).share_full (fun w => rfl) w

set_option backward.isDefEq.respectTransparency.types false in
theorem run_main : θ_run defs (onTc (τ := τ) (main (F := F))) (s₀ m ρ)
    (fun r => Pipeline.FramePost cfgs (dats m) 0 (endV m) r ∧ r.2.sem = fun _ => 0) :=
  Pipeline.θ_run_frame_dma_around (Q' := _) cfgs (dats m) (0 : Fin 1) launch0 osem0 defs₀ Variants.none ownSemFacts0 ∅ (Finset.empty_subset _) m ρ main
    (hbody := fun c => (body_obligation m c).loose) (hshare := share_eq m)
    (howed := fun _ _ => rfl) (V₀ := V0 m) (opss := [hostOps1])
    (hsub := fun ops ho op h => by rw [Pipeline.tailRefsBut_empty]; exact sfx_sub ops ho op h) (hfresh := sfx_fresh) (hkeep := sfx_keeps)
    (hmain := hmain m Variants.none) (hA := A_eq m)
    (hin := fun _ => .rfl) (hout := fun _ => .rfl)

/-- A buffer no window stages, which the line after the region does not write, ends as the region found it. -/
theorem endV_of (c : Dev nD) (b : Ref sig .tc) (h : main_v157 ≠ b) (hw : ∀ w, Pipeline.arrRef spec0 w ≠ b) : endV m c b = V m c b := by
  unfold endV Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h.symm)),
    Pipeline.withArrays_of_ne _ c (V0 m c) _ b hw]

/-- The arguments at the end are as they were given. -/
theorem post_args {r} (h : Pipeline.FramePost cfgs (dats m) 0 (endV m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans ((endV_of m c main_arg0 (by decide) (by decide)).trans (V_main_arg0 m c)),
    ((h c).2 main_arg1 (Pipeline.mem_restRefs_of main_arg1 (by decide) (by decide))).trans ((endV_of m c main_arg1 (by decide) (by decide)).trans (V_main_arg1 m c)),
    ((h c).2 main_arg2 (Pipeline.mem_restRefs_of main_arg2 (by decide) (by decide))).trans ((endV_of m c main_arg2 (by decide) (by decide)).trans (V_main_arg2 m c)),
    ((h c).2 main_arg3 (Pipeline.mem_restRefs_of main_arg3 (by decide) (by decide))).trans ((endV_of m c main_arg3 (by decide) (by decide)).trans (V_main_arg3 m c)),
    ((h c).2 main_arg4 (Pipeline.mem_restRefs_of main_arg4 (by decide) (by decide))).trans ((endV_of m c main_arg4 (by decide) (by decide)).trans (V_main_arg4 m c)),
    ((h c).1 7).trans (((dats m 0 c).arrAt_in 7 rfl _).trans ((A_eq m c 7).trans (V_main_arg5 m c))),
    ((h c).1 8).trans (((dats m 0 c).arrAt_in 8 rfl _).trans ((A_eq m c 8).trans (V_main_arg6 m c))),
    ((h c).2 main_arg7 (Pipeline.mem_restRefs_of main_arg7 (by decide) (by decide))).trans ((endV_of m c main_arg7 (by decide) (by decide)).trans (V_main_arg7 m c)),
    ((h c).2 main_arg8 (Pipeline.mem_restRefs_of main_arg8 (by decide) (by decide))).trans ((endV_of m c main_arg8 (by decide) (by decide)).trans (V_main_arg8 m c))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨post_args m h.1, h.2⟩) (run_main m ρ)

end Cert.KernelIdeal.Hand
-- ==== Proof.Point.lean ====
module

public import proofs.«01_k».proof.Proof.Bound
public import Idealize.ShloMosaic.Lib.Pointwise
public import Idealize.ShloMosaic.Lib.IdealHost

@[expose] public section

noncomputable section

/-
  One point's value over the extended reals: the scaled coordinate, the corners' table entries and weights, the
  features of a level, and the dense layers; and the arithmetic that turns a row of 128 lanes into two features.
-/
namespace Tex

open Idealize.ShloMosaic Idealize.SL.Sem

/-- The tables' shape. -/
abbrev STab : Shape := ⟨3, ![16, 524288, 2]⟩

/-! ## Reals among the extended reals -/

/-- A value that is a real number. -/
def IsRe (x : EReal) : Prop := ∃ r : ℝ, x = (r : EReal)

theorem IsRe.of_ne {x : EReal} (h1 : x ≠ ⊥) (h2 : x ≠ ⊤) : IsRe x := ⟨x.toReal, (EReal.coe_toReal h2 h1).symm⟩
theorem IsRe.sub {x y : EReal} (hx : IsRe x) (hy : IsRe y) : IsRe (x - y) := by
  obtain ⟨a, rfl⟩ := hx; obtain ⟨b, rfl⟩ := hy; exact ⟨a - b, (EReal.coe_sub a b).symm⟩
theorem IsRe.mul {x y : EReal} (hx : IsRe x) (hy : IsRe y) : IsRe (x * y) := by
  obtain ⟨a, rfl⟩ := hx; obtain ⟨b, rfl⟩ := hy; exact ⟨a * b, (EReal.coe_mul a b).symm⟩
theorem IsRe.floor {x : EReal} (hx : IsRe x) : IsRe (Ideal.liftRound Int.floor x) := by
  obtain ⟨a, rfl⟩ := hx; exact ⟨_, rfl⟩
theorem IsRe.one : IsRe 1 := ⟨1, rfl⟩
theorem IsRe.zero : IsRe 0 := ⟨0, rfl⟩

/-- A value kept between zero and one is real. -/
theorem IsRe.unit (x : EReal) : IsRe (min 1 (max 0 x)) := by
  refine IsRe.of_ne (fun h => ?_) (fun h => ?_)
  · have : (0 : EReal) ≤ min 1 (max 0 x) := le_min zero_le_one (le_max_left _ _)
    rw [h] at this
    exact absurd this (by simp)
  · have : min 1 (max 0 x) ≤ (1 : EReal) := min_le_left _ _
    rw [h] at this
    exact absurd (top_le_iff.mp this) (EReal.coe_ne_top 1)

/-- A pattern whose exponent is not all ones denotes a real. -/
theorem isRe_ofBits (b : BitVec 32) (h : (b.extractLsb' 23 8).toNat ≠ 255) : IsRe (Ideal.ofBits .f32 b) := by
  unfold Ideal.ofBits Ideal.ieee
  simp only []
  rw [if_neg (by simpa using h)]
  split_ifs <;> exact ⟨_, rfl⟩

theorem isRe_word (l : Fin 16) : IsRe (Ideal.ofBits .f32 (lvl l).word) := isRe_ofBits _ (by revert l; decide)

/-- A sum of reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One point -/

/-- A coordinate scaled to the box and kept between zero and one. -/
def unitE (x mn mx : EReal) : EReal := min 1 (max 0 (Ideal.div (x - mn) (mx - mn)))

theorem unitE_isRe (x mn mx : EReal) : IsRe (unitE x mn mx) := by
  exact IsRe.unit _

/-- Multiplying by the inverse of the box's side and keeping the product between zero and one does the same. -/
theorem unitE_inv (x mn mx : EReal) :
    min 1 (max 0 ((x - mn) * Ideal.div 1 (mx - mn)))
      = unitE x mn mx := by
  unfold unitE
  generalize x - mn = a
  generalize mx - mn = d
  unfold Ideal.div
  by_cases hd : d = 0
  · rw [if_pos hd, if_pos hd, if_pos zero_lt_one]
    rcases lt_trichotomy a 0 with h | h | h
    · rw [EReal.mul_top_of_neg h, if_neg (not_lt.mpr h.le)]
    · subst h; simp
    · rw [EReal.mul_top_of_pos h, if_pos h]
  · rw [if_neg hd, if_neg hd, one_mul]

/-- A coordinate on a level's grid, its cell, its place inside the cell and a corner's weight along it. -/
def posE (l : Fin 16) (v : EReal) : EReal := v * Ideal.ofBits .f32 (lvl l).word
def cellE (l : Fin 16) (v : EReal) : BitVec 32 := Ideal.fptosi 32 (Ideal.liftRound Int.floor (posE l v))
def fracE (l : Fin 16) (v : EReal) : EReal := posE l v - Ideal.liftRound Int.floor (posE l v)
def wgtE (l : Fin 16) (v : EReal) (b : Bool) : EReal :=
  match b with
  | true => fracE l v
  | false => 1 - fracE l v

theorem wgtE_isRe (l : Fin 16) {v : EReal} (h : IsRe v) (b : Bool) : IsRe (wgtE l v b) := by
  have hp : IsRe (posE l v) := h.mul (isRe_word l)
  have hf : IsRe (fracE l v) := hp.sub hp.floor
  cases b
  · exact IsRe.one.sub hf
  · exact hf

/-- A corner's table entry and weight. -/
def entE (l : Fin 16) (c : Fin 8) (X Y Z : EReal) : BitVec 32 :=
  word1 l (cellE l X + step1 (bx c)) (cellE l Y + step1 (bY c)) (cellE l Z + step1 (bz c))
def weiE (l : Fin 16) (c : Fin 8) (X Y Z : EReal) : EReal := wgtE l X (bx c) * wgtE l Y (bY c) * wgtE l Z (bz c)

theorem weiE_isRe (l : Fin 16) (c : Fin 8) {X Y Z : EReal} (hX : IsRe X) (hY : IsRe Y) (hZ : IsRe Z) : IsRe (weiE l c X Y Z) :=
  ((wgtE_isRe l hX _).mul (wgtE_isRe l hY _)).mul (wgtE_isRe l hZ _)

theorem entE_lt (l : Fin 16) (c : Fin 8) (X Y Z : EReal) : (entE l c X Y Z).toNat < 524288 := (word1_lt l _ _ _).2

/-- A level's two features at a point. -/
def featE (E : STab.Idx → EReal) (X Y Z : EReal) (l : Fin 16) (f : Fin 2) : EReal :=
  ∑ c : Fin 8, weiE l c X Y Z * E (ix3 l ⟨(entE l c X Y Z).toNat, entE_lt l c X Y Z⟩ f)

/-- The place of a level's feature among the 32. -/
def chan (l : Fin 16) (f : Fin 2) : Fin 32 := ⟨2 * l.val + f.val, by omega⟩

/-- The three layers and the output's scaling. -/
def hid1E (W1 : (⟨2, ![32, 32]⟩ : Shape).Idx → EReal) (φ : Fin 16 → Fin 2 → EReal) (k : Fin 32) : EReal :=
  max (∑ l : Fin 16, ∑ f : Fin 2, φ l f * W1 (ix2 (chan l f) k)) 0
def hid2E (W2 : (⟨2, ![32, 32]⟩ : Shape).Idx → EReal) (h : Fin 32 → EReal) (k : Fin 32) : EReal :=
  max (∑ r : Fin 32, h r * W2 (ix2 r k)) 0
def lastE (W3 : (⟨2, ![32, 9]⟩ : Shape).Idx → EReal) (mn mx : (⟨1, ![9]⟩ : Shape).Idx → EReal) (h : Fin 32 → EReal) (j : Fin 9) : EReal :=
  Ideal.logistic (∑ r : Fin 32, h r * W3 (ix2 r j)) * (mx (ix1 j) - mn (ix1 j)) + mn (ix1 j)

/-- A point's output. -/
def outE (E : STab.Idx → EReal) (W1 W2 : (⟨2, ![32, 32]⟩ : Shape).Idx → EReal) (W3 : (⟨2, ![32, 9]⟩ : Shape).Idx → EReal)
    (mn mx : (⟨1, ![9]⟩ : Shape).Idx → EReal) (X Y Z : EReal) (j : Fin 9) : EReal :=
  lastE W3 mn mx (hid2E W2 (hid1E W1 (featE E X Y Z))) j

/-! ## Sums -/

/-- A sum over twice as many places, pair by pair. -/
theorem sum_pairs {n N : Nat} (h : N = 2 * n) (g : Fin N → EReal) :
    ∑ r : Fin N, g r = ∑ l : Fin n, ∑ f : Fin 2, g ⟨2 * l.val + f.val, by omega⟩ := by
  rw [← Fintype.sum_prod_type' (fun (l : Fin n) (f : Fin 2) => g ⟨2 * l.val + f.val, by omega⟩)]
  refine (Fintype.sum_equiv (finProdFinEquiv.trans (finCongr (show n * 2 = N by omega))) (fun p : Fin n × Fin 2 => g ⟨2 * p.1.val + p.2.val, by omega⟩) g fun p => ?_).symm
  refine congrArg g (Fin.ext ?_)
  simp only [Equiv.trans_apply, finCongr_apply, Fin.val_cast, finProdFinEquiv_apply_val]
  omega

/-- The eight corners added as the kernel adds them. -/
def tree8 (t : Fin 8 → EReal) : EReal := ((t 0 + t 1) + (t 2 + t 3)) + ((t 4 + t 5) + (t 6 + t 7))

theorem tree8_eq (t : Fin 8 → EReal) : tree8 t = ∑ c, t c := by
  unfold tree8
  rw [Fin.sum_univ_eight]
  simp only [add_assoc]

/-- A row whose lanes hold each corner's two values at the corner's place, contracted with weights repeated along the
    row, is the two features contracted with the two weights. -/
theorem lane_sum (w : Fin 8 → EReal) (v : Fin 8 → Fin 2 → EReal) (a : Fin 8 → Fin 64) (g : Fin 2 → EReal)
    (hw : ∀ c, IsRe (w c)) (hv : ∀ c f, IsRe (v c f)) (hg : ∀ f, IsRe (g f)) :
    ∑ q : Fin 64, ∑ f : Fin 2, tree8 (fun c => (if q = a c then v c f else 0) * w c) * g f = ∑ f : Fin 2, (∑ c, w c * v c f) * g f := by
  choose W hW using hw
  choose V hV using hv
  choose G hG using hg
  have e : ∀ (q : Fin 64) (c : Fin 8) (f : Fin 2), ((if q = a c then v c f else 0) * w c : EReal) = (((if q = a c then V c f else 0) * W c : ℝ) : EReal) := by
    intro q c f
    rw [hW, EReal.coe_mul]
    congr 1
    split_ifs
    · exact hV c f
    · rfl
  simp only [tree8_eq, e]
  simp only [hG, hW, hV, ← coe_sum', ← EReal.coe_mul]
  refine congrArg (fun r : ℝ => (r : EReal)) ?_
  rw [Finset.sum_comm]
  refine Finset.sum_congr rfl fun (f : Fin 2) _ => ?_
  rw [← Finset.sum_mul, Finset.sum_comm]
  congr 1
  refine Finset.sum_congr rfl fun c _ => ?_
  simp [mul_comm]

end Tex
-- ==== Proof.KerRead.lean ====
module

public import proofs.«01_k».proof.Proof.Spec
public import proofs.«01_k».proof.Proof.Point

@[expose] public section

set_option maxRecDepth 16384
set_option maxHeartbeats 4000000

noncomputable section

/-
  The body's output block read at a place over the extended reals: the output of the point there.
-/
namespace Tex

open Idealize.ShloMosaic Idealize.SL.Sem
open Cert.KernelIdeal (S1x4x128 S4x128 S2x4 S1x1 S16x8x4x128 S1x1x4x128 S1x1x1x1 S1x128 S1x1x128 S8192x128 S512x128 S2048x32 S128x32 S512x32 S32x32 S32x9 S512x9 S1x9 S_)
open Cert.KernelIdeal.Facts₀

variable [Cert.KernelIdeal.Facts₀]

/-- A point's place in the block of coordinates. -/
def pl (p : Fin 512) : S4x128.Idx := ix2 (⟨p.val / 128, by omega⟩ : Fin 4) (⟨p.val % 128, by omega⟩ : Fin 128)

/-- A point's trip. -/
def tr (p : Fin 512) : Fin loop.trips := ⟨p.val, by rw [trips_eq]; exact p.isLt⟩

variable (x y z : FVec Ideal S4x128 .f32)

theorem jw_cast (v : S4x128.Idx → EReal) (p : Fin 512) : shapeCast S1x1x4x128 v shapeCasts_S4x128_S1x1x4x128 (jw (tr p)) = v (pl p) := by
  refine shapeCast_apply _ _ _ _ ?_
  rw [rowMajor_val2 _ 128 rfl, rowMajor_val4 _ 512 512 128 rfl rfl rfl]
  show p.val / 128 * 128 + p.val % 128 = 0 * 512 + 0 * 512 + p.val / 128 * 128 + p.val % 128
  omega

theorem jw_castW (v : S4x128.Idx → BitVec 32) (p : Fin 512) : shapeCast S1x1x4x128 v shapeCasts_S4x128_S1x1x4x128 (jw (tr p)) = v (pl p) := by
  refine shapeCast_apply _ _ _ _ ?_
  rw [rowMajor_val2 _ 128 rfl, rowMajor_val4 _ 512 512 128 rfl rfl rfl]
  show p.val / 128 * 128 + p.val % 128 = 0 * 512 + 0 * 512 + p.val / 128 * 128 + p.val % 128
  omega

theorem wgt_apply (l : Fin 16) (v : FVec Ideal S4x128 .f32) (b : Bool) (i : S4x128.Idx) : wgt l v b i = wgtE l (v i) b := by
  cases b
  · show Ideal.ofBits .f32 0x3F800000#32 - _ = 1 - _
    rw [Ideal.ofBits_one_f32]
    rfl
  · rfl

/-- A corner's entry at a point of the block. -/
abbrev entP (l : Fin 16) (c : Fin 8) (p : Fin 512) : BitVec 32 := entE l c (x (pl p)) (y (pl p)) (z (pl p))

theorem pkAt_eq (l : Fin 16) (c : Fin 8) (p : Fin 512) : pkAt x y z l c (tr p) = pack1 (entP x y z l c p) := by
  unfold pkAt
  rw [jw_castW, packV_apply]
  rfl

theorem wAt_eq (l : Fin 16) (c : Fin 8) (p : Fin 512) : wAt x y z l c (tr p) = weiE l c (x (pl p)) (y (pl p)) (z (pl p)) := by
  unfold wAt
  rw [jw_cast]
  unfold weiE
  rw [← wgt_apply, ← wgt_apply, ← wgt_apply]
  rfl

/-- A lane with its last bit dropped is the packed word's place exactly when the lane's pair is the entry's. -/
theorem lane_word (q : Fin 128) (e : BitVec 32) (he : e.toNat < 2 ^ 19) :
    (BitVec.ofNat 32 q.val &&& 4294967294#32 = (pack1 e).sshiftRight 14) ↔ q.val / 2 = e.toNat % 64 := by
  have hq : (BitVec.ofNat 32 q.val &&& 4294967294#32).toNat = 2 * (q.val / 2) := by clear he; revert q; decide
  rw [← BitVec.toNat_inj, hq, pack1_place e he]
  omega

/-- A contribution's lanes. -/
theorem contrib_apply (row : FVec Ideal S1x128 .f32) {pk e : BitVec 32} (hpk : pk = pack1 e) (he : e.toNat < 2 ^ 19) {w w' : EReal} (hw : w = w') (q : Fin 128) :
    contrib row pk w (ix2 (0 : Fin 1) q) = (if q.val / 2 = e.toNat % 64 then row (ix2 (0 : Fin 1) q) else 0) * w' := by
  subst hpk hw
  unfold contrib lane2
  pointwise
  have hs : Scalar.shrsi (pack1 e) 14#32 = (pack1 e).sshiftRight 14 := by
    unfold Scalar.shrsi IntOp.shrsi
    rw [if_pos (by decide)]
    rfl
  rw [hs]
  by_cases h : q.val / 2 = e.toNat % 64
  · have hb : IntOp.cmpi .eq (IntOp.andi (BitVec.ofNat 32 q.val) 4294967294#32) ((pack1 e).sshiftRight 14) = 1#1 := by
      have h' := (lane_word q e he).mpr h
      simp [IntOp.cmpi, IntOp.andi, h']
    rw [hb, if_pos h]
    rfl
  · have hb : IntOp.cmpi .eq (IntOp.andi (BitVec.ofNat 32 q.val) 4294967294#32) ((pack1 e).sshiftRight 14) = 0#1 := by
      show BitVec.ofBool (BitVec.ofNat 32 q.val &&& 4294967294#32 == (pack1 e).sshiftRight 14) = 0#1
      rw [beq_eq_false_iff_ne.mpr fun h' => h ((lane_word q e he).mp h')]
      rfl
    rw [hb, if_neg h, zero_mul]
    rfl

/-- The tables hold the entries the points name. -/
def TabOk (T : TabV Ideal) (E : STab.Idx → EReal) : Prop :=
  ∀ (l : Fin 16) (v0 v1 v2 : BitVec 32) (f : Fin 2),
    T l (ix3 (⟨(word1 l v0 v1 v2).toNat / 64, by have := (word1_lt l v0 v1 v2).1; omega⟩ : Fin (lvl l).rows) (0 : Fin 1)
      (⟨2 * ((word1 l v0 v1 v2).toNat % 64) + f.val, by omega⟩ : Fin 128)) = E (ix3 l ⟨(word1 l v0 v1 v2).toNat, (word1_lt l v0 v1 v2).2⟩ f)

variable {T : TabV Ideal} {E : STab.Idx → EReal} (hT : TabOk T E)
include hT

theorem blkV_apply (l : Fin 16) (p : Fin 512) (a : Fin 64) (f : Fin 2) :
    blkV x y z T l (ix2 p (⟨2 * a.val + f.val, by omega⟩ : Fin 128))
      = tree8 (fun c => (if a = (⟨(entP x y z l c p).toNat % 64, by omega⟩ : Fin 64)
          then E (ix3 l ⟨(entP x y z l c p).toNat, entE_lt l c _ _ _⟩ f) else 0) * weiE l c (x (pl p)) (y (pl p)) (z (pl p))) := by
  have ht : tripOf (ix2 p (⟨2 * a.val + f.val, by omega⟩ : Fin 128)) = tr p := rfl
  have hl : laneOf (ix2 p (⟨2 * a.val + f.val, by omega⟩ : Fin 128)) = ix2 (0 : Fin 1) (⟨2 * a.val + f.val, by omega⟩ : Fin 128) := by
    funext i; match i with | ⟨0, _⟩ => rfl | ⟨1, _⟩ => rfl
  have hc : ∀ c : Fin 8, contribV x y z T (tr p) l c (ix2 (0 : Fin 1) (⟨2 * a.val + f.val, by omega⟩ : Fin 128))
      = (if a = (⟨(entP x y z l c p).toNat % 64, by omega⟩ : Fin 64)
          then E (ix3 l ⟨(entP x y z l c p).toNat, entE_lt l c _ _ _⟩ f) else 0) * weiE l c (x (pl p)) (y (pl p)) (z (pl p)) := by
    intro c
    have he := entE_lt l c (x (pl p)) (y (pl p)) (z (pl p))
    unfold contribV
    refine (contrib_apply _ (pkAt_eq x y z l c p) he (wAt_eq x y z l c p) _).trans ?_
    refine congrArg (· * weiE l c (x (pl p)) (y (pl p)) (z (pl p))) ?_
    by_cases h : a.val = (entP x y z l c p).toNat % 64
    · rw [if_pos (show (2 * a.val + f.val) / 2 = _ by omega), if_pos (Fin.ext h)]
      rw [shapeCast_apply _ _ _ (ix3 (0 : Fin 1) (0 : Fin 1) (⟨2 * a.val + f.val, by omega⟩ : Fin 128)) (by
        rw [rowMajor_val2 _ 128 rfl, rowMajor_val3 _ 128 128 rfl rfl]
        show 0 * 128 + 0 * 128 + (2 * a.val + f.val) = 0 * 128 + (2 * a.val + f.val)
        omega)]
      refine Eq.trans (congrArg (T l) ?_) (hT l _ _ _ f)
      funext i
      apply Fin.ext
      match i with
      | ⟨0, _⟩ =>
        show (Scalar.indexCast (Scalar.andi (pkAt x y z l c (tr p)) 16383#32)).toNat + 1 * 0 = _
        rw [pkAt_eq]
        exact (Nat.add_zero _).trans (pack1_row _ he)
      | ⟨1, _⟩ => rfl
      | ⟨2, _⟩ =>
        show 0 + 1 * (2 * a.val + f.val) = 2 * ((entP x y z l c p).toNat % 64) + f.val
        omega
    · rw [if_neg (show ¬ (2 * a.val + f.val) / 2 = _ by omega), if_neg (fun h' => h (congrArg Fin.val h'))]
  unfold blkV rowV
  rw [ht, hl, shapeCast_apply _ _ _ _ rfl]
  show tree8 (fun c => contribV x y z T (tr p) l c (ix2 (0 : Fin 1) (⟨2 * a.val + f.val, by omega⟩ : Fin 128))) = _
  exact congrArg tree8 (funext hc)

omit hT in
/-- The first layer's sums at a place, level by level. -/
theorem layerV_apply (G : S2048x32.Idx → EReal) (ls : List (Fin 16)) (h : FVec Ideal S512x32 .f32) (p : Fin 512) (k : Fin 32) :
    layerV x y z T G ls h (ix2 p k) = h (ix2 p k)
      + (ls.map fun l => ∑ q : Fin 128, blkV x y z T l (ix2 p q) * G (ix2 (⟨128 * l.val + q.val, by omega⟩ : Fin 2048) k)).sum := by
  induction ls generalizing h with
  | nil => simp [layerV]
  | cons l ls ih =>
    rw [layerV, ih, List.map_cons, List.sum_cons, ← add_assoc]
    congr 1
    pointwise
    refine congrArg (h (ix2 p k) + ·) (Finset.sum_congr rfl fun q _ => congrArg (blkV x y z T l (ix2 p q) * G ·) ?_)
    funext i
    apply Fin.ext
    match i with
    | ⟨0, _⟩ =>
      show 128 * l.val + 1 * q.val = 128 * l.val + q.val
      omega
    | ⟨1, _⟩ =>
      show 0 + 1 * k.val = k.val
      omega

omit hT in
/-- The dense layers at a place. -/
theorem outV_apply (h : FVec Ideal S512x32 .f32) (w2 : Vec Ideal S32x32 .f32) (w3 : Vec Ideal S32x9 .f32) (s m : Vec Ideal S1x9 .f32) (p : Fin 512) (j : Fin 9) :
    outV h w2 w3 s m (ix2 p j)
      = Ideal.logistic (∑ r : Fin 32, hid2E w2 (fun k => max (h (ix2 p k)) 0) r * w3 (ix2 r j)) * s (ix2 (0 : Fin 1) j) + m (ix2 (0 : Fin 1) j) := by
  unfold outV hid2E
  pointwise

omit hT in
/-- A coordinate of a point of the block. -/
theorem coordV_apply (X : S1x4x128.Idx → EReal) (P : S2x4.Idx → EReal) (d : Fin 3) (p : Fin 512) (a mn mx : EReal)
    (hX : X (ix3 (0 : Fin 1) (⟨p.val / 128, by omega⟩ : Fin 4) (⟨p.val % 128, by omega⟩ : Fin 128)) = a)
    (h0 : P (ix2 (0 : Fin 2) (⟨d.val, by omega⟩ : Fin 4)) = mn) (h1 : P (ix2 (1 : Fin 2) (⟨d.val, by omega⟩ : Fin 4)) = Ideal.div 1 (mx - mn)) :
    coordV (F := Ideal) X P d (pl p) = unitE a mn mx := by
  rw [← unitE_inv, ← h1, ← hX, ← h0]
  unfold coordV pl
  pointwise
  refine congrArg (min 1 ·) (congrArg (max 0 ·) (congrArg₂ (· * ·) (congrArg₂ (· - ·) (congrArg X ?_) (congrArg P ?_)) (congrArg P ?_)))
  · funext i
    apply Fin.ext
    match i with
    | ⟨0, _⟩ => rfl
    | ⟨1, _⟩ =>
      show 0 + 1 * (p.val / 128) = p.val / 128
      omega
    | ⟨2, _⟩ =>
      show 0 + 1 * (p.val % 128) = p.val % 128
      omega
  · funext i
    match i with
    | ⟨0, _⟩ => rfl
    | ⟨1, _⟩ => rfl
  · funext i
    match i with
    | ⟨0, _⟩ => rfl
    | ⟨1, _⟩ => rfl

/-- The block's output at a place is the point's output. -/
theorem outF_apply (X1 X2 X3 : S1x4x128.Idx → EReal) (P : S2x4.Idx → EReal) (M S : S1x9.Idx → EReal) (G : S2048x32.Idx → EReal)
    (W1 W2 : S32x32.Idx → EReal) (W3 : S32x9.Idx → EReal) (mn mx : (⟨1, ![9]⟩ : Shape).Idx → EReal) (p : Fin 512) (j : Fin 9)
    (hM : M (ix2 (0 : Fin 1) j) = mn (ix1 j)) (hS : S (ix2 (0 : Fin 1) j) = mx (ix1 j) - mn (ix1 j))
    (hG : ∀ (l : Fin 16) (a : Fin 64) (f : Fin 2) (k : Fin 32), G (ix2 (⟨128 * l.val + (2 * a.val + f.val), by omega⟩ : Fin 2048) k) = W1 (ix2 (chan l f) k))
    (hE : ∀ i, IsRe (E i)) (hW : ∀ i, IsRe (W1 i)) (X Y Z : EReal) (hX : coordV (F := Ideal) X1 P 0 (pl p) = X) (hY : coordV (F := Ideal) X2 P 1 (pl p) = Y)
    (hZ : coordV (F := Ideal) X3 P 2 (pl p) = Z) (rX : IsRe X) (rY : IsRe Y) (rZ : IsRe Z) :
    outF (F := Ideal) X1 X2 X3 P M S G W2 W3 T (ix2 p j) = outE E W1 W2 W3 mn mx X Y Z j := by
  have whole : ∀ {s : Shape} (W : s.Idx → EReal) (off : Fin s.rank → Nat) (inb) (h0 : ∀ a, off a = 0), (fun i => W ((Rect.unit off s.size inb).emb i)) = W := by
    intro s W off inb h0
    funext i
    refine congrArg W (funext fun a => Fin.ext ?_)
    show off a + 1 * (i a).val = (i a).val
    rw [h0]; omega
  have hl : levels = List.finRange 16 := by decide
  have hh : ∀ k : Fin 32, max (layerV (coordV (F := Ideal) X1 P 0) (coordV (F := Ideal) X2 P 1) (coordV (F := Ideal) X3 P 2) T G levels (broadcast S512x32 (Scalar.ofBits .f32 0x00000000#32)) (ix2 p k)) 0
      = hid1E W1 (featE E X Y Z) k := by
    intro k
    unfold hid1E
    refine congrArg (max · 0) ?_
    rw [layerV_apply, hl, ← Fin.sum_univ_def]
    rw [show (broadcast S512x32 (Scalar.ofBits (F := Ideal) .f32 0x00000000#32) : FVec Ideal S512x32 .f32) (ix2 p k) = 0 from Ideal.ofBits_zero_f32, zero_add]
    refine Finset.sum_congr rfl fun l _ => ?_
    rw [sum_pairs (n := 64) rfl]
    refine Eq.trans ?_ (lane_sum (fun c => weiE l c X Y Z) (fun c f => E (ix3 l ⟨(entE l c X Y Z).toNat, entE_lt l c X Y Z⟩ f))
      (fun c => ⟨(entE l c X Y Z).toNat % 64, by omega⟩) (fun f => W1 (ix2 (chan l f) k))
      (fun c => weiE_isRe l c rX rY rZ) (fun c f => hE _) (fun f => hW _))
    refine Finset.sum_congr rfl fun a _ => Finset.sum_congr rfl fun f _ => ?_
    rw [hG, blkV_apply _ _ _ hT]
    subst hX hY hZ
    rfl
  have e : outF (F := Ideal) X1 X2 X3 P M S G W2 W3 T
      = outV (layerV (coordV (F := Ideal) X1 P 0) (coordV (F := Ideal) X2 P 1) (coordV (F := Ideal) X3 P 2) T G levels (broadcast S512x32 (Scalar.ofBits .f32 0x00000000#32))) W2 W3 S M := by
    unfold outF
    congr 1
    · exact whole W2 _ _ (by decide)
    · exact whole W3 _ _ (by decide)
    · exact whole S _ _ (by decide)
    · exact whole M _ _ (by decide)
  rw [e, outV_apply, hM, hS]
  unfold outE lastE
  rw [funext hh]

end Tex
-- ==== Proof.Tabs.lean ====
module

public import proofs.«01_k».proof.Proof.KerRead
public import Idealize.ShloMosaic.Lib.Pipeline.Value
public import Idealize.ShloMosaic.Lib.Pointwise

@[expose] public section

set_option maxRecDepth 16384
set_option maxHeartbeats 4000000

noncomputable section

/-
  A level's table as the kernel lays it out: the level's entries flattened, padded where they do not fill whole rows,
  and cut into rows of 64 entries. Read at an entry's place it is the entry.
-/
namespace Tex

open Idealize.ShloMosaic Idealize.SL.Sem

/-- The entries of a level, laid flat. -/
def flatT (l S N : Nat) (E : STab.Idx → EReal) (hs : STab.Slices ![l, 0, 0] ⟨3, ![1, S, 2]⟩)
    (h1 : (⟨3, ![1, S, 2]⟩ : Shape).ShapeCasts ⟨2, ![S, 2]⟩) (h2 : (⟨2, ![S, 2]⟩ : Shape).ShapeCasts ⟨1, ![N]⟩) : (⟨1, ![N]⟩ : Shape).Idx → EReal :=
  shapeCast ⟨1, ![N]⟩ (shapeCast ⟨2, ![S, 2]⟩ (extractStridedSlice ⟨3, ![1, S, 2]⟩ ![l, 0, 0] E hs) h1) h2

theorem flatT_apply {l S N : Nat} (E : STab.Idx → EReal) (hs) (h1) (h2) (hl : l < 16) (hS : S ≤ 524288) (e : Nat) (f : Fin 2) (he : e < S) (hN : 2 * e + f.val < N) :
    flatT l S N E hs h1 h2 (ix1 ⟨2 * e + f.val, hN⟩) = E (ix3 (⟨l, hl⟩ : Fin 16) (⟨e, by omega⟩ : Fin 524288) f) := by
  unfold flatT
  refine (shapeCast_apply _ _ _ (ix2 (⟨e, he⟩ : Fin S) f) ?_).trans ((shapeCast_apply _ _ _ (ix3 (0 : Fin 1) (⟨e, he⟩ : Fin S) f) ?_).trans ?_)
  · rw [rowMajor_val2 _ 2 rfl, rowMajor_val1]
    show e * 2 + f.val = 2 * e + f.val
    omega
  · rw [rowMajor_val3 _ (S * 2) 2 rfl rfl, rowMajor_val2 _ 2 rfl]
    show 0 * (S * 2) + e * 2 + f.val = e * 2 + f.val
    omega
  · refine congrArg E (funext fun a => Fin.ext ?_)
    match a with
    | ⟨0, _⟩ => show l + 0 = l; omega
    | ⟨1, _⟩ => show 0 + e = e; omega
    | ⟨2, _⟩ => show 0 + f.val = f.val; omega

/-- A flat table in rows, read at an entry's place. -/
theorem rows_apply {N R : Nat} (V : (⟨1, ![N]⟩ : Shape).Idx → EReal) (h : (⟨1, ![N]⟩ : Shape).ShapeCasts ⟨3, ![R, 1, 128]⟩) (e : Nat) (f : Fin 2)
    (hr : e / 64 < R) (hk : 2 * (e % 64) + f.val < 128) (hN : 2 * e + f.val < N) :
    shapeCast ⟨3, ![R, 1, 128]⟩ V h (ix3 (⟨e / 64, hr⟩ : Fin R) (0 : Fin 1) (⟨2 * (e % 64) + f.val, hk⟩ : Fin 128)) = V (ix1 ⟨2 * e + f.val, hN⟩) := by
  refine shapeCast_apply _ _ _ _ ?_
  rw [rowMajor_val1, rowMajor_val3 _ 128 128 rfl rfl]
  show 2 * e + f.val = e / 64 * 128 + 0 * 128 + (2 * (e % 64) + f.val)
  omega

/-- A level whose entries fill its rows. -/
def fullT (l S N R : Nat) (E : STab.Idx → EReal) (hs : STab.Slices ![l, 0, 0] ⟨3, ![1, S, 2]⟩)
    (h1 : (⟨3, ![1, S, 2]⟩ : Shape).ShapeCasts ⟨2, ![S, 2]⟩) (h2 : (⟨2, ![S, 2]⟩ : Shape).ShapeCasts ⟨1, ![N]⟩)
    (h3 : (⟨1, ![N]⟩ : Shape).ShapeCasts ⟨3, ![R, 1, 128]⟩) : (⟨3, ![R, 1, 128]⟩ : Shape).Idx → EReal :=
  shapeCast ⟨3, ![R, 1, 128]⟩ (flatT l S N E hs h1 h2) h3

theorem fullT_apply {l S N R : Nat} (E : STab.Idx → EReal) (hs) (h1) (h2) (h3) (hl : l < 16) (hS : S ≤ 524288) (hN : N = 2 * S) (e : Nat) (f : Fin 2)
    (he : e < S) (hr : e / 64 < R) (hk : 2 * (e % 64) + f.val < 128) :
    fullT l S N R E hs h1 h2 h3 (ix3 (⟨e / 64, hr⟩ : Fin R) (0 : Fin 1) (⟨2 * (e % 64) + f.val, hk⟩ : Fin 128)) = E (ix3 (⟨l, hl⟩ : Fin 16) (⟨e, by omega⟩ : Fin 524288) f) :=
  (rows_apply _ h3 e f hr hk (by omega)).trans (flatT_apply E hs h1 h2 hl hS e f he (by omega))

/-- A level whose last row is filled up with zeros. -/
def padT (l S N Q N' R : Nat) (E : STab.Idx → EReal) (hs : STab.Slices ![l, 0, 0] ⟨3, ![1, S, 2]⟩)
    (h1 : (⟨3, ![1, S, 2]⟩ : Shape).ShapeCasts ⟨2, ![S, 2]⟩) (h2 : (⟨2, ![S, 2]⟩ : Shape).ShapeCasts ⟨1, ![N]⟩)
    (Z : (⟨1, ![Q]⟩ : Shape).Idx → EReal) (hc : Shape.Concatenates [⟨1, ![N]⟩, ⟨1, ![Q]⟩] ⟨1, ![N']⟩ 0)
    (h3 : (⟨1, ![N']⟩ : Shape).ShapeCasts ⟨3, ![R, 1, 128]⟩) : (⟨3, ![R, 1, 128]⟩ : Shape).Idx → EReal :=
  shapeCast ⟨3, ![R, 1, 128]⟩ (concatenate ⟨1, ![N']⟩ 0 [⟨⟨1, ![N]⟩, flatT l S N E hs h1 h2⟩, ⟨⟨1, ![Q]⟩, Z⟩] hc) h3

theorem padT_apply {l S N Q N' R : Nat} (E : STab.Idx → EReal) (hs) (h1) (h2) (Z) (hc) (h3) (hl : l < 16) (hS : S ≤ 524288) (hN : N = 2 * S) (hN' : N ≤ N') (e : Nat) (f : Fin 2)
    (he : e < S) (hr : e / 64 < R) (hk : 2 * (e % 64) + f.val < 128) :
    padT l S N Q N' R E hs h1 h2 Z hc h3 (ix3 (⟨e / 64, hr⟩ : Fin R) (0 : Fin 1) (⟨2 * (e % 64) + f.val, hk⟩ : Fin 128)) = E (ix3 (⟨l, hl⟩ : Fin 16) (⟨e, by omega⟩ : Fin 524288) f) :=
  (rows_apply _ h3 e f hr hk (by omega)).trans
    ((concatenate_pair_apply_left _ _ _ hc _ rfl (ix1 ⟨2 * e + f.val, by omega⟩) fun b => by match b with | ⟨0, _⟩ => rfl).trans (flatT_apply E hs h1 h2 hl hS e f he (by omega)))

theorem cube_lt {a b d s : Nat} (ha : a < s) (hb : b < s) (hd : d < s) : a + s * (b + s * d) < s * s * s := by
  have a1 : s * d + s ≤ s * s := Nat.mul_le_mul_left s hd
  have a2 : s * (b + s * d) + s ≤ s * (s * s) := Nat.mul_le_mul_left s (show b + s * d + 1 ≤ s * s by omega)
  rw [Nat.mul_assoc]
  omega

/-- How many entries a level has. -/
def entries (l : Fin 16) : Nat := match (lvl l).dense with
  | true => (lvl l).side * (lvl l).side * (lvl l).side
  | false => 524288

theorem word1_entries (l : Fin 16) (v0 v1 v2 : BitVec 32) : (word1 l v0 v1 v2).toNat < entries l := by
  unfold entries
  rcases hd : (lvl l).dense with _ | _
  · exact (word1_lt l v0 v1 v2).2
  obtain ⟨hs, h0, h1⟩ := lvl_side l
  have h : ∀ v, (clip1 (lvl l).res v).toNat < (lvl l).side := fun v => hs ▸ clip1_lt _ v (by omega) (by omega)
  show (entry1 l _ _ _).toNat < _
  rw [(dense_toNat l hd (h v0) (h v1) (h v2)).1]
  exact cube_lt (h v0) (h v1) (h v2)

end Tex
-- ==== Proof.HostTabs.lean ====
module

public import proofs.«01_k».proof.Proof.Gen.KernelIdeal.Frame
public import proofs.«01_k».proof.Proof.Tabs
public import proofs.«01_k».proof.Proof.FrameI
public import Idealize.ShloMosaic.Lib.Claim
public import Idealize.ShloMosaic.Lib.Pipeline.ValueKit

@[expose] public section

set_option maxRecDepth 200000
set_option maxHeartbeats 4000000

noncomputable section

/-
  What the host lines before the kernel leave in the tables' buffers, and the tables' blocks: every entry in its place.
-/
namespace Cert.KernelIdeal.Hand

open Tex (STab fullT padT fullT_apply padT_apply TabOk word1 word1_entries)
open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

/-- The feature tables, as given. -/
abbrev argE : STab.Idx → EReal := m ((c : Thread nD τ).loc main_arg3)

theorem V_tab0 : V m c main_v89 = fullT 0 4096 8192 64 (argE m c) slices_S16x524288x2_S1x4096x2_0_0_0 shapeCasts_S1x4096x2_S4096x2 shapeCasts_S4096x2_S8192 shapeCasts_S8192_S64x1x128 := by sl_kernel_rfl
theorem V_tab1 : V m c main_v93 = fullT 1 13824 27648 216 (argE m c) slices_S16x524288x2_S1x13824x2_1_0_0 shapeCasts_S1x13824x2_S13824x2 shapeCasts_S13824x2_S27648 shapeCasts_S27648_S216x1x128 := by sl_kernel_rfl
theorem V_tab2 : V m c main_v99 = padT 2 39304 78608 112 78720 615 (argE m c) slices_S16x524288x2_S1x39304x2_2_0_0 shapeCasts_S1x39304x2_S39304x2 shapeCasts_S39304x2_S78608
    (broadcastInDim S112 ![] bcast_S_S112 (constant (F := Ideal) S_ .f32 0x00000000#32)) concatenates_S78608_S112_S78720_d0 shapeCasts_S78720_S615x1x128 := by sl_kernel_rfl
theorem V_tab3 : V m c main_v105 = padT 3 117649 235298 94 235392 1839 (argE m c) slices_S16x524288x2_S1x117649x2_3_0_0 shapeCasts_S1x117649x2_S117649x2 shapeCasts_S117649x2_S235298
    (broadcastInDim S94 ![] bcast_S_S94 (constant (F := Ideal) S_ .f32 0x00000000#32)) concatenates_S235298_S94_S235392_d0 shapeCasts_S235392_S1839x1x128 := by sl_kernel_rfl
theorem V_tab4 : V m c main_v111 = padT 4 357911 715822 82 715904 5593 (argE m c) slices_S16x524288x2_S1x357911x2_4_0_0 shapeCasts_S1x357911x2_S357911x2 shapeCasts_S357911x2_S715822
    (broadcastInDim S82 ![] bcast_S_S82 (constant (F := Ideal) S_ .f32 0x00000000#32)) concatenates_S715822_S82_S715904_d0 shapeCasts_S715904_S5593x1x128 := by sl_kernel_rfl
theorem V_tab5 : V m c main_v115 = fullT 5 524288 1048576 8192 (argE m c) slices_S16x524288x2_S1x524288x2_5_0_0 shapeCasts_S1x524288x2_S524288x2 shapeCasts_S524288x2_S1048576 shapeCasts_S1048576_S8192x1x128 := by sl_kernel_rfl
theorem V_tab6 : V m c main_v119 = fullT 6 524288 1048576 8192 (argE m c) slices_S16x524288x2_S1x524288x2_6_0_0 shapeCasts_S1x524288x2_S524288x2 shapeCasts_S524288x2_S1048576 shapeCasts_S1048576_S8192x1x128 := by sl_kernel_rfl
theorem V_tab7 : V m c main_v123 = fullT 7 524288 1048576 8192 (argE m c) slices_S16x524288x2_S1x524288x2_7_0_0 shapeCasts_S1x524288x2_S524288x2 shapeCasts_S524288x2_S1048576 shapeCasts_S1048576_S8192x1x128 := by sl_kernel_rfl
theorem V_tab8 : V m c main_v127 = fullT 8 524288 1048576 8192 (argE m c) slices_S16x524288x2_S1x524288x2_8_0_0 shapeCasts_S1x524288x2_S524288x2 shapeCasts_S524288x2_S1048576 shapeCasts_S1048576_S8192x1x128 := by sl_kernel_rfl
theorem V_tab9 : V m c main_v131 = fullT 9 524288 1048576 8192 (argE m c) slices_S16x524288x2_S1x524288x2_9_0_0 shapeCasts_S1x524288x2_S524288x2 shapeCasts_S524288x2_S1048576 shapeCasts_S1048576_S8192x1x128 := by sl_kernel_rfl
theorem V_tab10 : V m c main_v135 = fullT 10 524288 1048576 8192 (argE m c) slices_S16x524288x2_S1x524288x2_10_0_0 shapeCasts_S1x524288x2_S524288x2 shapeCasts_S524288x2_S1048576 shapeCasts_S1048576_S8192x1x128 := by sl_kernel_rfl
theorem V_tab11 : V m c main_v139 = fullT 11 524288 1048576 8192 (argE m c) slices_S16x524288x2_S1x524288x2_11_0_0 shapeCasts_S1x524288x2_S524288x2 shapeCasts_S524288x2_S1048576 shapeCasts_S1048576_S8192x1x128 := by sl_kernel_rfl
theorem V_tab12 : V m c main_v143 = fullT 12 524288 1048576 8192 (argE m c) slices_S16x524288x2_S1x524288x2_12_0_0 shapeCasts_S1x524288x2_S524288x2 shapeCasts_S524288x2_S1048576 shapeCasts_S1048576_S8192x1x128 := by sl_kernel_rfl
theorem V_tab13 : V m c main_v147 = fullT 13 524288 1048576 8192 (argE m c) slices_S16x524288x2_S1x524288x2_13_0_0 shapeCasts_S1x524288x2_S524288x2 shapeCasts_S524288x2_S1048576 shapeCasts_S1048576_S8192x1x128 := by sl_kernel_rfl
theorem V_tab14 : V m c main_v151 = fullT 14 524288 1048576 8192 (argE m c) slices_S16x524288x2_S1x524288x2_14_0_0 shapeCasts_S1x524288x2_S524288x2 shapeCasts_S524288x2_S1048576 shapeCasts_S1048576_S8192x1x128 := by sl_kernel_rfl
theorem V_tab15 : V m c main_v155 = fullT 15 524288 1048576 8192 (argE m c) slices_S16x524288x2_S1x524288x2_15_0_0 shapeCasts_S1x524288x2_S524288x2 shapeCasts_S524288x2_S1048576 shapeCasts_S1048576_S8192x1x128 := by sl_kernel_rfl

/-- A block that is the whole of its array is the array. -/
theorem whole_read {α : Type} {s : Shape} (f : s.Idx → α) (off : Fin s.rank → Nat) (inb) (h : ∀ a, off a = 0) :
    (fun y => f ((Rect.unit off s.size inb).emb y)) = f := by
  funext y
  refine congrArg f (funext fun a => Fin.ext ?_)
  show off a + 1 * (y a).val = (y a).val
  rw [h]; omega

theorem three_zero {f : Fin 3 → Nat} (h0 : f 0 = 0) (h1 : f 1 = 0) (h2 : f 2 = 0) (a : Fin 3) : f a = 0 := by
  match a with
  | ⟨0, _⟩ => exact h0
  | ⟨1, _⟩ => exact h1
  | ⟨2, _⟩ => exact h2

theorem blk_tab0 (t : Fin cfg0.N) : iblk m c 9 t = V m c main_v89 :=
  whole_read (V m c main_v89) (fun a => win0_9.index t a * win0_9.size a) _ (three_zero rfl rfl rfl)
theorem blk_tab1 (t : Fin cfg0.N) : iblk m c 10 t = V m c main_v93 :=
  whole_read (V m c main_v93) (fun a => win0_10.index t a * win0_10.size a) _ (three_zero rfl rfl rfl)
theorem blk_tab2 (t : Fin cfg0.N) : iblk m c 11 t = V m c main_v99 :=
  whole_read (V m c main_v99) (fun a => win0_11.index t a * win0_11.size a) _ (three_zero rfl rfl rfl)
theorem blk_tab3 (t : Fin cfg0.N) : iblk m c 12 t = V m c main_v105 :=
  whole_read (V m c main_v105) (fun a => win0_12.index t a * win0_12.size a) _ (three_zero rfl rfl rfl)
theorem blk_tab4 (t : Fin cfg0.N) : iblk m c 13 t = V m c main_v111 :=
  whole_read (V m c main_v111) (fun a => win0_13.index t a * win0_13.size a) _ (three_zero rfl rfl rfl)
theorem blk_tab5 (t : Fin cfg0.N) : iblk m c 14 t = V m c main_v115 :=
  whole_read (V m c main_v115) (fun a => win0_14.index t a * win0_14.size a) _ (three_zero rfl rfl rfl)
theorem blk_tab6 (t : Fin cfg0.N) : iblk m c 15 t = V m c main_v119 :=
  whole_read (V m c main_v119) (fun a => win0_15.index t a * win0_15.size a) _ (three_zero rfl rfl rfl)
theorem blk_tab7 (t : Fin cfg0.N) : iblk m c 16 t = V m c main_v123 :=
  whole_read (V m c main_v123) (fun a => win0_16.index t a * win0_16.size a) _ (three_zero rfl rfl rfl)
theorem blk_tab8 (t : Fin cfg0.N) : iblk m c 17 t = V m c main_v127 :=
  whole_read (V m c main_v127) (fun a => win0_17.index t a * win0_17.size a) _ (three_zero rfl rfl rfl)
theorem blk_tab9 (t : Fin cfg0.N) : iblk m c 18 t = V m c main_v131 :=
  whole_read (V m c main_v131) (fun a => win0_18.index t a * win0_18.size a) _ (three_zero rfl rfl rfl)
theorem blk_tab10 (t : Fin cfg0.N) : iblk m c 19 t = V m c main_v135 :=
  whole_read (V m c main_v135) (fun a => win0_19.index t a * win0_19.size a) _ (three_zero rfl rfl rfl)
theorem blk_tab11 (t : Fin cfg0.N) : iblk m c 20 t = V m c main_v139 :=
  whole_read (V m c main_v139) (fun a => win0_20.index t a * win0_20.size a) _ (three_zero rfl rfl rfl)
theorem blk_tab12 (t : Fin cfg0.N) : iblk m c 21 t = V m c main_v143 :=
  whole_read (V m c main_v143) (fun a => win0_21.index t a * win0_21.size a) _ (three_zero rfl rfl rfl)
theorem blk_tab13 (t : Fin cfg0.N) : iblk m c 22 t = V m c main_v147 :=
  whole_read (V m c main_v147) (fun a => win0_22.index t a * win0_22.size a) _ (three_zero rfl rfl rfl)
theorem blk_tab14 (t : Fin cfg0.N) : iblk m c 23 t = V m c main_v151 :=
  whole_read (V m c main_v151) (fun a => win0_23.index t a * win0_23.size a) _ (three_zero rfl rfl rfl)
theorem blk_tab15 (t : Fin cfg0.N) : iblk m c 24 t = V m c main_v155 :=
  whole_read (V m c main_v155) (fun a => win0_24.index t a * win0_24.size a) _ (three_zero rfl rfl rfl)

variable (t : Fin cfg0.N) (e : Nat) (f : Fin 2)

theorem tab0_ok (he : e < 4096) (hr) (hk) (h5) : (iblk m c 9 t : S64x1x128.Idx → EReal) (ix3 (⟨e / 64, hr⟩ : Fin 64) (0 : Fin 1) (⟨2 * (e % 64) + f.val, hk⟩ : Fin 128)) = argE m c (ix3 (0 : Fin 16) (⟨e, h5⟩ : Fin 524288) f) :=
  (congrFun ((blk_tab0 m c t).trans (V_tab0 m c)) _).trans (fullT_apply _ _ _ _ _ (by decide) (by decide) (by decide) e f he _ _)
theorem tab1_ok (he : e < 13824) (hr) (hk) (h5) : (iblk m c 10 t : S216x1x128.Idx → EReal) (ix3 (⟨e / 64, hr⟩ : Fin 216) (0 : Fin 1) (⟨2 * (e % 64) + f.val, hk⟩ : Fin 128)) = argE m c (ix3 (1 : Fin 16) (⟨e, h5⟩ : Fin 524288) f) :=
  (congrFun ((blk_tab1 m c t).trans (V_tab1 m c)) _).trans (fullT_apply _ _ _ _ _ (by decide) (by decide) (by decide) e f he _ _)
theorem tab2_ok (he : e < 39304) (hr) (hk) (h5) : (iblk m c 11 t : S615x1x128.Idx → EReal) (ix3 (⟨e / 64, hr⟩ : Fin 615) (0 : Fin 1) (⟨2 * (e % 64) + f.val, hk⟩ : Fin 128)) = argE m c (ix3 (2 : Fin 16) (⟨e, h5⟩ : Fin 524288) f) :=
  (congrFun ((blk_tab2 m c t).trans (V_tab2 m c)) _).trans (padT_apply _ _ _ _ _ _ _ (by decide) (by decide) (by decide) (by decide) e f he _ _)
theorem tab3_ok (he : e < 117649) (hr) (hk) (h5) : (iblk m c 12 t : S1839x1x128.Idx → EReal) (ix3 (⟨e / 64, hr⟩ : Fin 1839) (0 : Fin 1) (⟨2 * (e % 64) + f.val, hk⟩ : Fin 128)) = argE m c (ix3 (3 : Fin 16) (⟨e, h5⟩ : Fin 524288) f) :=
  (congrFun ((blk_tab3 m c t).trans (V_tab3 m c)) _).trans (padT_apply _ _ _ _ _ _ _ (by decide) (by decide) (by decide) (by decide) e f he _ _)
theorem tab4_ok (he : e < 357911) (hr) (hk) (h5) : (iblk m c 13 t : S5593x1x128.Idx → EReal) (ix3 (⟨e / 64, hr⟩ : Fin 5593) (0 : Fin 1) (⟨2 * (e % 64) + f.val, hk⟩ : Fin 128)) = argE m c (ix3 (4 : Fin 16) (⟨e, h5⟩ : Fin 524288) f) :=
  (congrFun ((blk_tab4 m c t).trans (V_tab4 m c)) _).trans (padT_apply _ _ _ _ _ _ _ (by decide) (by decide) (by decide) (by decide) e f he _ _)
theorem tab5_ok (he : e < 524288) (hr) (hk) (h5) : (iblk m c 14 t : S8192x1x128.Idx → EReal) (ix3 (⟨e / 64, hr⟩ : Fin 8192) (0 : Fin 1) (⟨2 * (e % 64) + f.val, hk⟩ : Fin 128)) = argE m c (ix3 (5 : Fin 16) (⟨e, h5⟩ : Fin 524288) f) :=
  (congrFun ((blk_tab5 m c t).trans (V_tab5 m c)) _).trans (fullT_apply _ _ _ _ _ (by decide) (by decide) (by decide) e f he _ _)
theorem tab6_ok (he : e < 524288) (hr) (hk) (h5) : (iblk m c 15 t : S8192x1x128.Idx → EReal) (ix3 (⟨e / 64, hr⟩ : Fin 8192) (0 : Fin 1) (⟨2 * (e % 64) + f.val, hk⟩ : Fin 128)) = argE m c (ix3 (6 : Fin 16) (⟨e, h5⟩ : Fin 524288) f) :=
  (congrFun ((blk_tab6 m c t).trans (V_tab6 m c)) _).trans (fullT_apply _ _ _ _ _ (by decide) (by decide) (by decide) e f he _ _)
theorem tab7_ok (he : e < 524288) (hr) (hk) (h5) : (iblk m c 16 t : S8192x1x128.Idx → EReal) (ix3 (⟨e / 64, hr⟩ : Fin 8192) (0 : Fin 1) (⟨2 * (e % 64) + f.val, hk⟩ : Fin 128)) = argE m c (ix3 (7 : Fin 16) (⟨e, h5⟩ : Fin 524288) f) :=
  (congrFun ((blk_tab7 m c t).trans (V_tab7 m c)) _).trans (fullT_apply _ _ _ _ _ (by decide) (by decide) (by decide) e f he _ _)
theorem tab8_ok (he : e < 524288) (hr) (hk) (h5) : (iblk m c 17 t : S8192x1x128.Idx → EReal) (ix3 (⟨e / 64, hr⟩ : Fin 8192) (0 : Fin 1) (⟨2 * (e % 64) + f.val, hk⟩ : Fin 128)) = argE m c (ix3 (8 : Fin 16) (⟨e, h5⟩ : Fin 524288) f) :=
  (congrFun ((blk_tab8 m c t).trans (V_tab8 m c)) _).trans (fullT_apply _ _ _ _ _ (by decide) (by decide) (by decide) e f he _ _)
theorem tab9_ok (he : e < 524288) (hr) (hk) (h5) : (iblk m c 18 t : S8192x1x128.Idx → EReal) (ix3 (⟨e / 64, hr⟩ : Fin 8192) (0 : Fin 1) (⟨2 * (e % 64) + f.val, hk⟩ : Fin 128)) = argE m c (ix3 (9 : Fin 16) (⟨e, h5⟩ : Fin 524288) f) :=
  (congrFun ((blk_tab9 m c t).trans (V_tab9 m c)) _).trans (fullT_apply _ _ _ _ _ (by decide) (by decide) (by decide) e f he _ _)
theorem tab10_ok (he : e < 524288) (hr) (hk) (h5) : (iblk m c 19 t : S8192x1x128.Idx → EReal) (ix3 (⟨e / 64, hr⟩ : Fin 8192) (0 : Fin 1) (⟨2 * (e % 64) + f.val, hk⟩ : Fin 128)) = argE m c (ix3 (10 : Fin 16) (⟨e, h5⟩ : Fin 524288) f) :=
  (congrFun ((blk_tab10 m c t).trans (V_tab10 m c)) _).trans (fullT_apply _ _ _ _ _ (by decide) (by decide) (by decide) e f he _ _)
theorem tab11_ok (he : e < 524288) (hr) (hk) (h5) : (iblk m c 20 t : S8192x1x128.Idx → EReal) (ix3 (⟨e / 64, hr⟩ : Fin 8192) (0 : Fin 1) (⟨2 * (e % 64) + f.val, hk⟩ : Fin 128)) = argE m c (ix3 (11 : Fin 16) (⟨e, h5⟩ : Fin 524288) f) :=
  (congrFun ((blk_tab11 m c t).trans (V_tab11 m c)) _).trans (fullT_apply _ _ _ _ _ (by decide) (by decide) (by decide) e f he _ _)
theorem tab12_ok (he : e < 524288) (hr) (hk) (h5) : (iblk m c 21 t : S8192x1x128.Idx → EReal) (ix3 (⟨e / 64, hr⟩ : Fin 8192) (0 : Fin 1) (⟨2 * (e % 64) + f.val, hk⟩ : Fin 128)) = argE m c (ix3 (12 : Fin 16) (⟨e, h5⟩ : Fin 524288) f) :=
  (congrFun ((blk_tab12 m c t).trans (V_tab12 m c)) _).trans (fullT_apply _ _ _ _ _ (by decide) (by decide) (by decide) e f he _ _)
theorem tab13_ok (he : e < 524288) (hr) (hk) (h5) : (iblk m c 22 t : S8192x1x128.Idx → EReal) (ix3 (⟨e / 64, hr⟩ : Fin 8192) (0 : Fin 1) (⟨2 * (e % 64) + f.val, hk⟩ : Fin 128)) = argE m c (ix3 (13 : Fin 16) (⟨e, h5⟩ : Fin 524288) f) :=
  (congrFun ((blk_tab13 m c t).trans (V_tab13 m c)) _).trans (fullT_apply _ _ _ _ _ (by decide) (by decide) (by decide) e f he _ _)
theorem tab14_ok (he : e < 524288) (hr) (hk) (h5) : (iblk m c 23 t : S8192x1x128.Idx → EReal) (ix3 (⟨e / 64, hr⟩ : Fin 8192) (0 : Fin 1) (⟨2 * (e % 64) + f.val, hk⟩ : Fin 128)) = argE m c (ix3 (14 : Fin 16) (⟨e, h5⟩ : Fin 524288) f) :=
  (congrFun ((blk_tab14 m c t).trans (V_tab14 m c)) _).trans (fullT_apply _ _ _ _ _ (by decide) (by decide) (by decide) e f he _ _)
theorem tab15_ok (he : e < 524288) (hr) (hk) (h5) : (iblk m c 24 t : S8192x1x128.Idx → EReal) (ix3 (⟨e / 64, hr⟩ : Fin 8192) (0 : Fin 1) (⟨2 * (e % 64) + f.val, hk⟩ : Fin 128)) = argE m c (ix3 (15 : Fin 16) (⟨e, h5⟩ : Fin 524288) f) :=
  (congrFun ((blk_tab15 m c t).trans (V_tab15 m c)) _).trans (fullT_apply _ _ _ _ _ (by decide) (by decide) (by decide) e f he _ _)

theorem entries_eq : ∀ l : Fin 16, Tex.entries l = ![4096, 13824, 39304, 117649, 357911, 524288, 524288, 524288, 524288, 524288, 524288, 524288, 524288, 524288, 524288, 524288] l := by decide

/-- Every level's table holds its entries in their places. -/
theorem tab_ok (t : Fin cfg0.N) : TabOk (tabV m c t) (argE m c) := by
  intro l v0 v1 v2 f
  have hw := (word1_entries l v0 v1 v2).trans_eq (entries_eq l)
  match l, hw with
  | ⟨0, _⟩, hw => exact tab0_ok m c t _ f hw _ _ _
  | ⟨1, _⟩, hw => exact tab1_ok m c t _ f hw _ _ _
  | ⟨2, _⟩, hw => exact tab2_ok m c t _ f hw _ _ _
  | ⟨3, _⟩, hw => exact tab3_ok m c t _ f hw _ _ _
  | ⟨4, _⟩, hw => exact tab4_ok m c t _ f hw _ _ _
  | ⟨5, _⟩, hw => exact tab5_ok m c t _ f hw _ _ _
  | ⟨6, _⟩, hw => exact tab6_ok m c t _ f hw _ _ _
  | ⟨7, _⟩, hw => exact tab7_ok m c t _ f hw _ _ _
  | ⟨8, _⟩, hw => exact tab8_ok m c t _ f hw _ _ _
  | ⟨9, _⟩, hw => exact tab9_ok m c t _ f hw _ _ _
  | ⟨10, _⟩, hw => exact tab10_ok m c t _ f hw _ _ _
  | ⟨11, _⟩, hw => exact tab11_ok m c t _ f hw _ _ _
  | ⟨12, _⟩, hw => exact tab12_ok m c t _ f hw _ _ _
  | ⟨13, _⟩, hw => exact tab13_ok m c t _ f hw _ _ _
  | ⟨14, _⟩, hw => exact tab14_ok m c t _ f hw _ _ _
  | ⟨15, _⟩, hw => exact tab15_ok m c t _ f hw _ _ _
  | ⟨n + 16, h⟩, _ => exact absurd h (by omega)

end Cert.KernelIdeal.Hand
-- ==== Proof.HostRead.lean ====
module

public import proofs.«01_k».proof.Proof.HostTabs
public import Idealize.ShloMosaic.Lib.KernelVsHost

@[expose] public section

set_option maxRecDepth 16384
set_option maxHeartbeats 4000000

noncomputable section

/-
  What the host lines before the kernel leave in the other buffers — the three coordinates in blocks of 512 points, the
  box's corner and inverse extent, the output's offset and extent, the first layer's weights repeated over the 64 lanes of a
  level — and the blocks the kernel reads of them.
-/
namespace Cert.KernelIdeal.Hand

open Tex (STab chan)
open Cert.KernelIdeal Cert.KernelIdeal.Gen Idealize.ShloMosaic Idealize.ShloMosaic.TcCoe Idealize.ShloMosaic.Tactic Idealize.SL.Sem

/-! ## The coordinates -/

/-- One coordinate of the points, in blocks. -/
def coordA (d : Nat) (hs : S1048576x3.Slices ![0, d] S1048576x1) (A : S1024x1024x3.Idx → EReal) : S2048x4x128.Idx → EReal :=
  shapeCast S2048x4x128 (shapeCast S1048576 (extractStridedSlice S1048576x1 ![0, d] (shapeCast S1048576x3 A shapeCasts_S1024x1024x3_S1048576x3) hs)
    shapeCasts_S1048576x1_S1048576) shapeCasts_S1048576_S2048x4x128

theorem coordA_apply (d : Fin 3) (hs) (A : S1024x1024x3.Idx → EReal) (r : Fin 2048) (a : Fin 4) (b : Fin 128) :
    coordA d.val hs A (ix3 r a b) = A (ix3 (⟨(512 * r.val + 128 * a.val + b.val) / 1024, by omega⟩ : Fin 1024) (⟨(512 * r.val + 128 * a.val + b.val) % 1024, by omega⟩ : Fin 1024) d) := by
  unfold coordA
  refine (shapeCast_apply _ _ _ (ix1 (⟨512 * r.val + 128 * a.val + b.val, by omega⟩ : Fin 1048576)) ?_).trans
    ((shapeCast_apply _ _ _ (ix2 (⟨512 * r.val + 128 * a.val + b.val, by omega⟩ : Fin 1048576) (0 : Fin 1)) ?_).trans
    (Eq.trans ?_ (shapeCast_apply A shapeCasts_S1024x1024x3_S1048576x3 (ix2 (⟨512 * r.val + 128 * a.val + b.val, by omega⟩ : Fin 1048576) d) _ ?_)))
  · rw [rowMajor_val1, rowMajor_val3 _ 512 128 rfl rfl]
    show 512 * r.val + 128 * a.val + b.val = r.val * 512 + a.val * 128 + b.val
    omega
  · rw [rowMajor_val2 _ 1 rfl, rowMajor_val1]
    show (512 * r.val + 128 * a.val + b.val) * 1 + 0 = 512 * r.val + 128 * a.val + b.val
    omega
  · refine congrArg (shapeCast S1048576x3 A shapeCasts_S1024x1024x3_S1048576x3) (funext fun k => Fin.ext ?_)
    match k with
    | ⟨0, _⟩ => show 0 + (512 * r.val + 128 * a.val + b.val) = 512 * r.val + 128 * a.val + b.val; omega
    | ⟨1, _⟩ => show d.val + 0 = d.val; omega
  · rw [rowMajor_val3 _ 3072 3 rfl rfl, rowMajor_val2 _ 3 rfl]
    show (512 * r.val + 128 * a.val + b.val) / 1024 * 3072 + (512 * r.val + 128 * a.val + b.val) % 1024 * 3 + d.val = (512 * r.val + 128 * a.val + b.val) * 3 + d.val
    omega

/-! ## The parameters -/

/-- A row of three, with a fourth entry the kernel does not read. -/
def padRow (x : S3.Idx → EReal) : S1x4.Idx → EReal :=
  broadcastInDim S1x4 ![1] bcast_S4_S1x4_1 (pad S4 ![0] ![1] ![0] x (sitofp (F := Ideal) .f32 (constantI S_ 32 0#32)) pads_S3_S4_010 h_S_)

theorem padRow_apply (x : S3.Idx → EReal) (d : Fin 3) : padRow x (ix2 (0 : Fin 1) (⟨d.val, by omega⟩ : Fin 4)) = x (ix1 d) := by
  unfold padRow
  pointwise

/-- The box's lower corner over the inverse of its extent. -/
def boxA (lo hi : S3.Idx → EReal) : S2x4.Idx → EReal :=
  concatenate S2x4 0 [⟨S1x4, padRow lo⟩, ⟨S1x4, padRow (Host.divf (F := Ideal) (φ := .f32) (broadcastInDim S3 ![] bcast_S_S3 (constant (F := Ideal) S_ .f32 0x3F800000#32)) (subf (F := Ideal) (φ := .f32) hi lo))⟩]
    concatenates_S1x4_S1x4_S2x4_d0

theorem boxA_lo (lo hi : S3.Idx → EReal) (d : Fin 3) : boxA lo hi (ix2 (0 : Fin 2) (⟨d.val, by omega⟩ : Fin 4)) = lo (ix1 d) :=
  (concatenate_pair_apply_left (t := S2x4) (s₁ := S1x4) (s₂ := S1x4) 0 _ _ concatenates_S1x4_S1x4_S2x4_d0 _ rfl (ix2 (0 : Fin 1) (⟨d.val, by omega⟩ : Fin 4)) fun b => by
    match b with
    | ⟨0, _⟩ => rfl
    | ⟨1, _⟩ => rfl).trans (padRow_apply lo d)

theorem boxA_inv (lo hi : S3.Idx → EReal) (d : Fin 3) : boxA lo hi (ix2 (1 : Fin 2) (⟨d.val, by omega⟩ : Fin 4)) = Ideal.div 1 (hi (ix1 d) - lo (ix1 d)) := by
  have h : boxA lo hi (ix2 (1 : Fin 2) (⟨d.val, by omega⟩ : Fin 4)) = padRow _ (ix2 (0 : Fin 1) (⟨d.val, by omega⟩ : Fin 4)) :=
    concatenate_pair_apply_right (t := S2x4) (s₁ := S1x4) (s₂ := S1x4) 0 _ _ concatenates_S1x4_S1x4_S2x4_d0 _ rfl rfl (ix2 (0 : Fin 1) (⟨d.val, by omega⟩ : Fin 4)) (fun b hb => by
      match b with
      | ⟨0, _⟩ => exact absurd rfl hb
      | ⟨1, _⟩ => rfl) rfl
  refine h.trans ((padRow_apply _ d).trans ?_)
  pointwise

/-- A row of nine. -/
theorem row9_apply (x : S9.Idx → EReal) (j : Fin 9) : shapeCast S1x9 x shapeCasts_S9_S1x9 (ix2 (0 : Fin 1) j) = x (ix1 j) := by
  refine shapeCast_apply _ _ _ _ ?_
  rw [rowMajor_val2 _ 9 rfl, rowMajor_val1]
  show j.val = 0 * 9 + j.val
  omega

/-! ## The first layer's weights -/

theorem two_rows : ∀ l : Fin 16, S32x32.Slices ![2 * l.val, 0] S2x32 := by decide

/-- A level's two rows of the weights, once for each of the 64 entries of a table's row. -/
def tileA (W : S32x32.Idx → EReal) (l : Fin 16) : S128x32.Idx → EReal :=
  shapeCast S128x32 (broadcastInDim S64x2x1x32 ![0, 1, 2, 3] bcast_S1x2x1x32_S64x2x1x32_0_1_2_3
    (shapeCast S1x2x1x32 (extractStridedSlice S2x32 ![2 * l.val, 0] W (two_rows l)) shapeCasts_S2x32_S1x2x1x32)) shapeCasts_S64x2x1x32_S128x32

theorem tileA_apply (W : S32x32.Idx → EReal) (l : Fin 16) (a : Fin 64) (f : Fin 2) (k : Fin 32) :
    tileA W l (ix2 (⟨2 * a.val + f.val, by omega⟩ : Fin 128) k) = W (ix2 (chan l f) k) := by
  unfold tileA
  refine (shapeCast_apply _ _ _ (ix4 a f (0 : Fin 1) k) ?_).trans ?_
  · rw [rowMajor_val4 _ 64 32 32 rfl rfl rfl, rowMajor_val2 _ 32 rfl]
    show a.val * 64 + f.val * 32 + 0 * 32 + k.val = (2 * a.val + f.val) * 32 + k.val
    omega
  pointwise
  rfl

/-- The tiles of the sixteen levels. -/
def tilesA (W : S32x32.Idx → EReal) : S2048x32.Idx → EReal :=
  concatenate S2048x32 0 (List.ofFn fun l : Fin 16 => (⟨S128x32, tileA W l⟩ : (s : Shape) × (s.Idx → EReal)))
    concatenates_S128x32_S128x32_S128x32_S128x32_S128x32_S128x32_S128x32_S128x32_S128x32_S128x32_S128x32_S128x32_S128x32_S128x32_S128x32_S128x32_S2048x32_d0

theorem tilesA_apply (W : S32x32.Idx → EReal) (l : Fin 16) (a : Fin 64) (f : Fin 2) (k : Fin 32) :
    tilesA W (ix2 (⟨128 * l.val + (2 * a.val + f.val), by omega⟩ : Fin 2048) k) = W (ix2 (chan l f) k) := by
  unfold tilesA
  refine (concatenate_ofFn_apply (t := S2048x32) (s₁ := S128x32) 0 (tileA W) _ rfl 128 rfl _ l ?_ (ix2 (⟨2 * a.val + f.val, by omega⟩ : Fin 128) k) ?_ fun b hb => ?_).trans (tileA_apply W l a f k)
  · show (128 * l.val + (2 * a.val + f.val)) / 128 = l.val; omega
  · show 2 * a.val + f.val = (128 * l.val + (2 * a.val + f.val)) % 128; omega
  · match b with
    | ⟨0, _⟩ => exact absurd rfl hb
    | ⟨1, _⟩ => rfl

/-! ## The buffers -/

variable (m : (ℓ : Loc nD τ sig) → Buf (Elt Ideal) ℓ) (c : Dev nD)

theorem V_x : V m c main_v3 = coordA 0 slices_S1048576x3_S1048576x1_0_0 (m ((c : Thread nD τ).loc main_arg0)) := by sl_kernel_rfl
theorem V_y : V m c main_v6 = coordA 1 slices_S1048576x3_S1048576x1_0_1 (m ((c : Thread nD τ).loc main_arg0)) := by sl_kernel_rfl
theorem V_z : V m c main_v9 = coordA 2 slices_S1048576x3_S1048576x1_0_2 (m ((c : Thread nD τ).loc main_arg0)) := by sl_kernel_rfl
theorem V_box : V m c main_v17 = boxA (m ((c : Thread nD τ).loc main_arg1)) (m ((c : Thread nD τ).loc main_arg2)) := by sl_kernel_rfl
theorem V_off : V m c main_v20 = (shapeCast S1x9 (m ((c : Thread nD τ).loc main_arg7) : S9.Idx → EReal) shapeCasts_S9_S1x9 : S1x9.Idx → EReal) := by sl_kernel_rfl
theorem V_ext : V m c main_v19 = (shapeCast S1x9 (subf (F := Ideal) (φ := .f32) (m ((c : Thread nD τ).loc main_arg8)) (m ((c : Thread nD τ).loc main_arg7)) : S9.Idx → EReal) shapeCasts_S9_S1x9 : S1x9.Idx → EReal) := by sl_kernel_rfl
theorem V_tiles : V m c main_v85 = tilesA (m ((c : Thread nD τ).loc main_arg4)) := by sl_kernel_rfl

/-! ## The blocks -/

theorem two_zero {f : Fin 2 → Nat} (h0 : f 0 = 0) (h1 : f 1 = 0) (a : Fin 2) : f a = 0 := by
  match a with
  | ⟨0, _⟩ => exact h0
  | ⟨1, _⟩ => exact h1

variable (t : Fin cfg0.N)

theorem blk_box : iblk m c 3 t = V m c main_v17 := whole_read (V m c main_v17) (fun a => win0_3.index t a * win0_3.size a) _ (two_zero rfl rfl)
theorem blk_off : iblk m c 4 t = V m c main_v20 := whole_read (V m c main_v20) (fun a => win0_4.index t a * win0_4.size a) _ (two_zero rfl rfl)
theorem blk_ext' : iblk m c 5 t = V m c main_v19 := whole_read (V m c main_v19) (fun a => win0_5.index t a * win0_5.size a) _ (two_zero rfl rfl)
theorem blk_tiles : iblk m c 6 t = V m c main_v85 := whole_read (V m c main_v85) (fun a => win0_6.index t a * win0_6.size a) _ (two_zero rfl rfl)
theorem blk_w2 : iblk m c 7 t = V m c main_arg5 := whole_read (V m c main_arg5) (fun a => win0_7.index t a * win0_7.size a) _ (two_zero rfl rfl)
theorem blk_w3 : iblk m c 8 t = V m c main_arg6 := whole_read (V m c main_arg6) (fun a => win0_8.index t a * win0_8.size a) _ (two_zero rfl rfl)

/-- The grid point as a block's number. -/
def blkNo : Fin 2048 := ⟨t.val, t.isLt.trans_eq (by decide)⟩

theorem block_at : ∀ t : Fin cfg0.N, win0_0.index t 0 * 1 = t.val ∧ win0_1.index t 0 * 1 = t.val ∧ win0_2.index t 0 * 1 = t.val := by decide +kernel

/-- The block of points at a grid point. -/
theorem block_read (f : S2048x4x128.Idx → EReal) (off : Fin 3 → Nat) (inb) (h0 : off 0 = t.val) (h1 : off 1 = 0) (h2 : off 2 = 0) (a : Fin 4) (b : Fin 128) :
    f ((Rect.unit (s := S2048x4x128) off S1x4x128.size inb).emb (ix3 (0 : Fin 1) a b)) = f (ix3 (blkNo t) a b) := by
  refine congrArg f (funext fun k => Fin.ext ?_)
  match k with
  | ⟨0, _⟩ => show off 0 + 1 * 0 = t.val; omega
  | ⟨1, _⟩ => show off 1 + 1 * a.val = a.val; omega
  | ⟨2, _⟩ => show off 2 + 1 * b.val = b.val; omega

variable (a : Fin 4) (b : Fin 128)

theorem blk_x : (iblk m c 0 t : S1x4x128.Idx → EReal) (ix3 (0 : Fin 1) a b) = V m c main_v3 (ix3 (blkNo t) a b) :=
  block_read t (V m c main_v3) (fun a => win0_0.index t a * win0_0.size a) _ (block_at t).1 rfl rfl a b
theorem blk_y : (iblk m c 1 t : S1x4x128.Idx → EReal) (ix3 (0 : Fin 1) a b) = V m c main_v6 (ix3 (blkNo t) a b) :=
  block_read t (V m c main_v6) (fun a => win0_1.index t a * win0_1.size a) _ (block_at t).2.1 rfl rfl a b
theorem blk_z : (iblk m c 2 t : S1x4x128.Idx → EReal) (ix3 (0 : Fin 1) a b) = V m c main_v9 (ix3 (blkNo t) a b) :=
  block_read t (V m c main_v9) (fun a => win0_2.index t a * win0_2.size a) _ (block_at t).2.2 rfl rfl a b

end Cert.KernelIdeal.Hand
-- ==== Proof.Final.lean ====
module

public import proofs.«01_k».proof.Proof.HostRead

@[expose] public section

set_option maxRecDepth 16384
set_option maxHeartbeats 4000000

noncomputable section

/-
  The kernel's result: the output array read at a point is the point's output, and the last host line gives it the shape of
  the result.
-/
namespace Cert.KernelIdeal.Hand

open Tex (STab chan IsRe outE unitE unitE_isRe)
open Cert.KernelIdeal Cert.KernelIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- A point's coordinate in the unit cube. -/
def uniA (d : Fin 3) (n : Fin 1048576) : EReal :=
  unitE ((m ((c : Thread nD τ).loc main_arg0) : S1024x1024x3.Idx → EReal) (ix3 (⟨n.val / 1024, by omega⟩ : Fin 1024) (⟨n.val % 1024, by omega⟩ : Fin 1024) d))
    ((m ((c : Thread nD τ).loc main_arg1) : S3.Idx → EReal) (ix1 d)) ((m ((c : Thread nD τ).loc main_arg2) : S3.Idx → EReal) (ix1 d))

/-- A point's output. -/
def ptA (n : Fin 1048576) (j : Fin 9) : EReal :=
  outE (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (uniA m c 0 n) (uniA m c 1 n) (uniA m c 2 n) j

/-- The output array. -/
def outA : S1048576x9.Idx → EReal := fun i => ptA m c ⟨(i 0).val, (i 0).isLt⟩ ⟨(i 1).val, (i 1).isLt⟩

/-- The finiteness the claim takes: no entry of the tables and of the first layer's weights is infinite. -/
structure Fin₀ : Prop where
  tab : ∀ i, IsRe ((m ((c : Thread nD τ).loc main_arg3) : STab.Idx → EReal) i)
  wei : ∀ i, IsRe ((m ((c : Thread nD τ).loc main_arg4) : S32x32.Idx → EReal) i)

variable {m c}

/-- The point a place of a block holds. -/
def ptNo (t : Fin cfg0.N) (p : Fin 512) : Fin 1048576 := ⟨512 * t.val + p.val, by have : t.val < 2048 := t.isLt.trans_eq (by decide); omega⟩

theorem coord_at (X : S1x4x128.Idx → EReal) (V : S2048x4x128.Idx → EReal) (P : S2x4.Idx → EReal) (t : Fin cfg0.N) (p : Fin 512) (d : Fin 3) (hs)
    (hX : ∀ a b, X (ix3 (0 : Fin 1) a b) = V (ix3 (blkNo t) a b)) (hV : V = coordA d.val hs (m ((c : Thread nD τ).loc main_arg0)))
    (hP : P = boxA (m ((c : Thread nD τ).loc main_arg1)) (m ((c : Thread nD τ).loc main_arg2))) :
    Tex.coordV (F := Ideal) X P d (Tex.pl p) = uniA m c d (ptNo t p) := by
  subst hV hP
  refine Tex.coordV_apply _ _ d p _ _ _ ((hX _ _).trans ((coordA_apply d hs _ _ _ _).trans ?_)) (boxA_lo _ _ d) (boxA_inv _ _ d)
  refine congrArg (m ((c : Thread nD τ).loc main_arg0) : S1024x1024x3.Idx → EReal) (congrArg₂ (fun x y => ix3 x y d) (Fin.ext ?_) (Fin.ext ?_))
  · show (512 * t.val + 128 * (p.val / 128) + p.val % 128) / 1024 = (512 * t.val + p.val) / 1024; omega
  · show (512 * t.val + 128 * (p.val / 128) + p.val % 128) % 1024 = (512 * t.val + p.val) % 1024; omega

/-- The body's block at a grid point holds its points' outputs. -/
theorem outAt_apply (h : Fin₀ m c) (t : Fin cfg0.N) (p : Fin 512) (j : Fin 9) : outAt (F := Ideal) m c t (ix2 p j) = ptA m c (ptNo t p) j := by
  unfold outAt
  rw [blk_w2, blk_w3, V_main_arg5, V_main_arg6]
  refine Tex.outF_apply (tab_ok m c t) _ _ _ _ _ _ _ (m ((c : Thread nD τ).loc main_arg4)) _ _ (m ((c : Thread nD τ).loc main_arg7)) (m ((c : Thread nD τ).loc main_arg8)) p j ?_ ?_ ?_ h.tab h.wei
    (uniA m c 0 (ptNo t p)) (uniA m c 1 (ptNo t p)) (uniA m c 2 (ptNo t p)) ?_ ?_ ?_ (unitE_isRe _ _ _) (unitE_isRe _ _ _) (unitE_isRe _ _ _)
  · exact (congrFun ((blk_off m c t).trans (V_off m c)) _).trans (row9_apply _ j)
  · refine (congrFun ((blk_ext' m c t).trans (V_ext m c)) _).trans ((row9_apply _ j).trans ?_)
    rfl
  · exact fun l a f k => (congrFun ((blk_tiles m c t).trans (V_tiles m c)) _).trans (tilesA_apply _ l a f k)
  · exact coord_at _ _ _ t p 0 _ (blk_x m c t) (V_x m c) ((blk_box m c t).trans (V_box m c))
  · exact coord_at _ _ _ t p 1 _ (blk_y m c t) (V_y m c) ((blk_box m c t).trans (V_box m c))
  · exact coord_at _ _ _ t p 2 _ (blk_z m c t) (V_z m c) ((blk_box m c t).trans (V_box m c))

/-! ## The output array -/

theorem out_at : ∀ t : Fin cfg0.N, win0_25.index t 0 * 512 = 512 * t.val ∧ win0_25.index t 1 * 9 = 0 := by decide +kernel

/-- What a grid point writes back is its block of the output array. -/
theorem flushed_eq (h : Fin₀ m c) (t : Fin cfg0.N) : (dats (F := Ideal) m 0 c).flushed 25 t = (win0_25.blk t).view.read (Elt Ideal) (outA m c) := by
  funext y
  show outAt (F := Ideal) m c t y = outA m c ((win0_25.rect t).emb y)
  obtain ⟨p, j, rfl⟩ : ∃ (p : Fin 512) (j : Fin 9), y = (ix2 p j : S512x9.Idx) := ⟨y 0, y 1, (ix2_eta y).symm⟩
  refine (outAt_apply h t p j).trans (congrArg₂ (ptA m c) (Fin.ext ?_) (Fin.ext ?_))
  · show 512 * t.val + p.val = win0_25.index t 0 * 512 + 1 * p.val
    rw [(out_at t).1]; omega
  · show j.val = win0_25.index t 1 * 9 + 1 * j.val
    rw [(out_at t).2]; omega

theorem mem_out (t : Fin cfg0.N) (i : S1048576x9.Idx) :
    i ∈ ((cfg0.win 25).blk t).view.set ↔ ∀ a, win0_25.index t a * win0_25.size a ≤ (i a : Nat) ∧ (i a : Nat) < win0_25.index t a * win0_25.size a + win0_25.xsize (grid0.coords t) a := by
  show i ∈ ((View.whole main_v156).slice (win0_25.rect t)).set ↔ _
  rw [View.set_slice_whole, Rect.mem_set_unit]

theorem out_cover (i : S1048576x9.Idx) : ∃ t : Fin cfg0.N, (cfg0.win 25).flush t = true ∧ i ∈ ((cfg0.win 25).blk t).view.set := by
  have h0 : (i 0 : Nat) < 1048576 := (i 0).isLt
  have h1 : (i 1 : Nat) < 9 := (i 1).isLt
  have ht : (i 0 : Nat) / 512 < cfg0.N := lt_of_lt_of_eq (show (i 0 : Nat) / 512 < 2048 by omega) (by decide)
  refine ⟨⟨(i 0 : Nat) / 512, ht⟩, flush0_25 _, ?_⟩
  rw [mem_out]
  have e0 := (out_at ⟨(i 0 : Nat) / 512, ht⟩).1
  have e1 := (out_at ⟨(i 0 : Nat) / 512, ht⟩).2
  intro a
  match a with
  | ⟨0, _⟩ =>
    show win0_25.index _ 0 * 512 ≤ (i 0 : Nat) ∧ (i 0 : Nat) < win0_25.index _ 0 * 512 + 512
    rw [e0]; dsimp only; omega
  | ⟨1, _⟩ =>
    show win0_25.index _ 1 * 9 ≤ (i 1 : Nat) ∧ (i 1 : Nat) < win0_25.index _ 1 * 9 + 9
    rw [e1]; omega

theorem final_out (h : Fin₀ m c) : (dats (F := Ideal) m 0 c).arrAt 25 cfg0.N = outA m c :=
  (dats (F := Ideal) m 0 c).arrAt_eq_of_cover 25 (outA m c) (fun t _ => flushed_eq h t) out_cover

/-- The result: the output array in the result's shape. -/
theorem end_eq : endV (F := Ideal) m c main_v157 = (shapeCast S1024x1024x9 ((dats (F := Ideal) m 0 c).arrAt 25 cfg0.N : S1048576x9.Idx → EReal) shapeCasts_S1048576x9_S1024x1024x9 : S1024x1024x9.Idx → EReal) := by
  have hW := Pipeline.withArrays_arr spec0 launch0.win.arr_inj c (V0 m c) (fun w => (dats (F := Ideal) m 0 c).arrAt w cfg0.N) 25
  refine Eq.trans ?_ (congrArg (fun x : S1048576x9.Idx → EReal => shapeCast S1024x1024x9 x shapeCasts_S1048576x9_S1024x1024x9) hW)
  unfold endV Pipeline.afterTail₀
  generalize Pipeline.withArrays spec0 c (V0 m c) (fun w => (dats (F := Ideal) m 0 c).arrAt w cfg0.N) = W
  rfl

theorem end_apply (h : Fin₀ m c) (a b : Fin 1024) (j : Fin 9) :
    (endV (F := Ideal) m c main_v157 : S1024x1024x9.Idx → EReal) (ix3 a b j) = ptA m c ⟨1024 * a.val + b.val, by omega⟩ j := by
  rw [end_eq, final_out h]
  refine (shapeCast_apply _ _ _ (ix2 (⟨1024 * a.val + b.val, by omega⟩ : Fin 1048576) j) ?_).trans rfl
  rw [rowMajor_val3 _ 9216 9 rfl rfl, rowMajor_val2 _ 9 rfl]
  show (1024 * a.val + b.val) * 9 + j.val = a.val * 9216 + b.val * 9 + j.val
  omega

/-- The run, read: the result and the arguments. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v157) = endV m c main_v157
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).2 main_v157 (Pipeline.mem_restRefs_of main_v157 (by decide) (by decide)), post_args m h.1 c⟩) (run_main m ρ)

end Cert.KernelIdeal.Hand
-- ==== Proof.Ref.lean ====
module

public import proofs.«01_k».proof.Proof.Point
public import proofs.«01_k».proof.Proof.Gen.ReferenceIdeal.Run
public import Idealize.ShloMosaic.Lib.Tactic

@[expose] public section

set_option maxRecDepth 16384
set_option maxHeartbeats 4000000

noncomputable section

/-
  The reference's result in stages: the coordinates, the grid's cells, the table entries, the weights, the features
  and the dense layers, each a function of the one before.
-/
namespace Cert.ReferenceIdeal.Hand

open Cert.ReferenceIdeal Cert.ReferenceIdeal.Gen Idealize.ShloMosaic Idealize.ShloMosaic.TcCoe Idealize.ShloMosaic.Tactic Idealize.SL.Sem Idealize.ShloMosaic.StableHlo

variable {F : FTy → Type} [FloatOps F]

/-- The coordinates scaled to the box and kept between zero and one. -/
def unitV (A0 : FVec F S1024x1024x3 .f32) (A1 A2 : FVec F S3 .f32) : FVec F S1048576x3 .f32 :=
  (minimumf (broadcastInDim S1048576x3 ![] bcast_S_S1048576x3 ((constant S_ .f32 0x3F800000#32))) (maximumf (broadcastInDim S1048576x3 ![] bcast_S_S1048576x3 ((constant S_ .f32 0x00000000#32))) (Host.divf (subf (shapeCast _ A0 shapeCasts_S1024x1024x3_S1048576x3) (broadcastInDim S1048576x3 ![0, 1] bcast_S1x3_S1048576x3_0_1 (broadcastInDim S1x3 ![1] bcast_S3_S1x3_1 A1))) (broadcastInDim S1048576x3 ![0, 1] bcast_S1x3_S1048576x3_0_1 (broadcastInDim S1x3 ![1] bcast_S3_S1x3_1 (subf A2 A1))))))
/-- The coordinates on every level's grid. -/
def posV (U : FVec F S1048576x3 .f32) : FVec F S1048576x16x3 .f32 :=
  (mulf (broadcastInDim S1048576x16x3 ![0, 1, 2] bcast_S1048576x1x3_S1048576x16x3_0_1_2 (broadcastInDim S1048576x1x3 ![0, 2] bcast_S1048576x3_S1048576x1x3_0_2 U)) (broadcastInDim S1048576x16x3 ![0, 1, 2] bcast_S1x16x1_S1048576x16x3_0_1_2 (broadcastInDim S1x16x1 ![1] bcast_S16_S1x16x1_1 ((fun i => FloatOps.ofBits .f32 (lit0 (S16.rowMajor i)))))))
/-- Every corner's weight along every axis. -/
def wselV (POS : FVec F S1048576x16x3 .f32) : FVec F S1048576x16x8x3 .f32 :=
  (select (broadcastInDim S1048576x16x8x3 ![2, 3] bcast_S8x3_S1048576x16x8x3_2_3 (cmpi .eq ((fun i => lit1 (S8x3.rowMajor i))) (broadcastInDim S8x3 ![] bcast_S_S8x3 (constantI S_ 32 1#32)))) (broadcastInDim S1048576x16x8x3 ![0, 1, 2, 3] bcast_S1048576x16x1x3_S1048576x16x8x3_0_1_2_3 (broadcastInDim S1048576x16x1x3 ![0, 1, 3] bcast_S1048576x16x3_S1048576x16x1x3_0_1_3 (subf POS (Host.floor POS)))) (broadcastInDim S1048576x16x8x3 ![0, 1, 2, 3] bcast_S1048576x16x1x3_S1048576x16x8x3_0_1_2_3 (subf (broadcastInDim S1048576x16x1x3 ![] bcast_S_S1048576x16x1x3 (constant S_ .f32 0x3F800000#32)) (broadcastInDim S1048576x16x1x3 ![0, 1, 3] bcast_S1048576x16x3_S1048576x16x1x3_0_1_3 (subf POS (Host.floor POS))))))
/-- Every corner's weight. -/
def wtV (WSEL : FVec F S1048576x16x8x3 .f32) : FVec F S1048576x16x8 .f32 :=
  (mulf (mulf (shapeCast _ (extractStridedSlice S1048576x16x8x1 ![0, 0, 0, 0] WSEL slices_S1048576x16x8x3_S1048576x16x8x1_0_0_0_0) shapeCasts_S1048576x16x8x1_S1048576x16x8) (shapeCast _ (extractStridedSlice S1048576x16x8x1 ![0, 0, 0, 1] WSEL slices_S1048576x16x8x3_S1048576x16x8x1_0_0_0_1) shapeCasts_S1048576x16x8x1_S1048576x16x8)) (shapeCast _ (extractStridedSlice S1048576x16x8x1 ![0, 0, 0, 2] WSEL slices_S1048576x16x8x3_S1048576x16x8x1_0_0_0_2) shapeCasts_S1048576x16x8x1_S1048576x16x8))
/-- Every corner's cell, kept inside the grid. -/
def cornerV (POS : FVec F S1048576x16x3 .f32) : IVec S1048576x16x8x3 32 :=
  (minsi (broadcastInDim S1048576x16x8x3 ![0, 1, 2, 3] bcast_S1x16x1x1_S1048576x16x8x3_0_1_2_3 (broadcastInDim S1x16x1x1 ![1] bcast_S16_S1x16x1x1_1 ((fun i => lit2 (S16.rowMajor i))))) (maxsi (broadcastInDim S1048576x16x8x3 ![] bcast_S_S1048576x16x8x3 ((constantI S_ 32 0#32))) (addi (broadcastInDim S1048576x16x8x3 ![0, 1, 2, 3] bcast_S1048576x16x1x3_S1048576x16x8x3_0_1_2_3 (broadcastInDim S1048576x16x1x3 ![0, 1, 3] bcast_S1048576x16x3_S1048576x16x1x3_0_1_3 (fptosi 32 (Host.floor POS)))) (broadcastInDim S1048576x16x8x3 ![0, 1, 2, 3] bcast_S1x1x8x3_S1048576x16x8x3_0_1_2_3 (broadcastInDim S1x1x8x3 ![2, 3] bcast_S8x3_S1x1x8x3_2_3 ((fun i => lit1 (S8x3.rowMajor i))))))))
/-- Every corner's table entry. -/
def entryV (CORNER : IVec S1048576x16x8x3 32) : IVec S1048576x16x8 32 :=
  (select (broadcastInDim S1048576x16x8 ![0, 1, 2] bcast_S1x16x1_S1048576x16x8_0_1_2 (broadcastInDim S1x16x1 ![1] bcast_S16_S1x16x1_1 ((fun i => lit4 (S16.rowMajor i))))) (addi (shapeCast _ (extractStridedSlice S1048576x16x8x1 ![0, 0, 0, 0] CORNER slices_S1048576x16x8x3_S1048576x16x8x1_0_0_0_0) shapeCasts_S1048576x16x8x1_S1048576x16x8) (muli (broadcastInDim S1048576x16x8 ![0, 1, 2] bcast_S1x16x1_S1048576x16x8_0_1_2 (broadcastInDim S1x16x1 ![1] bcast_S16_S1x16x1_1 ((fun i => lit3 (S16.rowMajor i))))) (addi (shapeCast _ (extractStridedSlice S1048576x16x8x1 ![0, 0, 0, 1] CORNER slices_S1048576x16x8x3_S1048576x16x8x1_0_0_0_1) shapeCasts_S1048576x16x8x1_S1048576x16x8) (muli (broadcastInDim S1048576x16x8 ![0, 1, 2] bcast_S1x16x1_S1048576x16x8_0_1_2 (broadcastInDim S1x16x1 ![1] bcast_S16_S1x16x1_1 ((fun i => lit3 (S16.rowMajor i))))) (shapeCast _ (extractStridedSlice S1048576x16x8x1 ![0, 0, 0, 2] CORNER slices_S1048576x16x8x3_S1048576x16x8x1_0_0_0_2) shapeCasts_S1048576x16x8x1_S1048576x16x8))))) ((andi (xori (xori (shapeCast _ (extractStridedSlice S1048576x16x8x1 ![0, 0, 0, 0] (CORNER) slices_S1048576x16x8x3_S1048576x16x8x1_0_0_0_0) shapeCasts_S1048576x16x8x1_S1048576x16x8) (muli (shapeCast _ (extractStridedSlice S1048576x16x8x1 ![0, 0, 0, 1] (CORNER) slices_S1048576x16x8x3_S1048576x16x8x1_0_0_0_1) shapeCasts_S1048576x16x8x1_S1048576x16x8) (broadcastInDim S1048576x16x8 ![] bcast_S_S1048576x16x8 (constantI S_ 32 2654435761#32)))) (muli (shapeCast _ (extractStridedSlice S1048576x16x8x1 ![0, 0, 0, 2] (CORNER) slices_S1048576x16x8x3_S1048576x16x8x1_0_0_0_2) shapeCasts_S1048576x16x8x1_S1048576x16x8) (broadcastInDim S1048576x16x8 ![] bcast_S_S1048576x16x8 (constantI S_ 32 805459861#32)))) (broadcastInDim S1048576x16x8 ![] bcast_S_S1048576x16x8 (constantI S_ 32 524287#32)))))
/-- The gather's indices: the level and the entry. -/
def idxV (ENTRY : IVec S1048576x16x8 32) : IVec S1048576x16x8x2 32 :=
  (concatenate S1048576x16x8x2 3 [⟨S1048576x16x8x1, (broadcastInDim S1048576x16x8x1 ![0, 1, 2] bcast_S1048576x16x8_S1048576x16x8x1_0_1_2 (broadcastInDim S1048576x16x8 ![0, 1, 2] bcast_S1x16x1_S1048576x16x8_0_1_2 (select (cmpi .slt (broadcastInDim S1x16x1 ![1] bcast_S16_S1x16x1_1 (iotaInDim S16 32 0)) (broadcastInDim S1x16x1 ![] bcast_S_S1x16x1 (constantI S_ 32 0#32))) (addi (broadcastInDim S1x16x1 ![1] bcast_S16_S1x16x1_1 (iotaInDim S16 32 0)) (broadcastInDim S1x16x1 ![] bcast_S_S1x16x1 (constantI S_ 32 16#32))) (broadcastInDim S1x16x1 ![1] bcast_S16_S1x16x1_1 (iotaInDim S16 32 0)))))⟩, ⟨S1048576x16x8x1, (broadcastInDim S1048576x16x8x1 ![0, 1, 2] bcast_S1048576x16x8_S1048576x16x8x1_0_1_2 (select (cmpi .slt ENTRY (broadcastInDim S1048576x16x8 ![] bcast_S_S1048576x16x8 (constantI S_ 32 0#32))) (addi ENTRY (broadcastInDim S1048576x16x8 ![] bcast_S_S1048576x16x8 (constantI S_ 32 524288#32))) ENTRY))⟩] concatenates_S1048576x16x8x1_S1048576x16x8x1_S1048576x16x8x2_d3)
/-- The features. -/
def encV (A3 : FVec F S16x524288x2 .f32) (WT : FVec F S1048576x16x8 .f32) (IDX : IVec S1048576x16x8x2 32) : FVec F S1048576x32 .f32 :=
  (shapeCast _ (Host.reduceAdd (mulf (broadcastInDim S1048576x16x8x2 ![0, 1, 2, 3] bcast_S1048576x16x8x1_S1048576x16x8x2_0_1_2_3 (broadcastInDim S1048576x16x8x1 ![0, 1, 2] bcast_S1048576x16x8_S1048576x16x8x1_0_1_2 WT)) (Host.gather gather_S16x524288x2_S1048576x16x8x2_S1048576x16x8x2_3_01_n_n_01_3_112 A3 IDX)) (constant S_ .f32 0x00000000#32) reducesTo_S1048576x16x8x2_S1048576x16x2_d2 h_S_) shapeCasts_S1048576x16x2_S1048576x32)
/-- The dense layers. -/
def logV (A4 A5 : FVec F S32x32 .f32) (A6 : FVec F S32x9 .f32) (ENC : FVec F S1048576x32 .f32) : FVec F S1048576x9 .f32 :=
  (Host.dotGeneral dot_S1048576x32_S32x9_S1048576x9_1_0_0_1_n_n none (maximumf (Host.dotGeneral dot_S1048576x32_S32x32_S1048576x32_1_0_0_1_n_n none (maximumf (Host.dotGeneral dot_S1048576x32_S32x32_S1048576x32_1_0_0_1_n_n none ENC A4) (broadcastInDim S1048576x32 ![] bcast_S_S1048576x32 (constant S_ .f32 0x00000000#32))) A5) (broadcastInDim S1048576x32 ![] bcast_S_S1048576x32 (constant S_ .f32 0x00000000#32))) A6)
/-- The output's scaling. -/
def lastV (A7 A8 : FVec F S9 .f32) (LOG : FVec F S1048576x9 .f32) : FVec F S1024x1024x9 .f32 :=
  shapeCast _ (addf (mulf (Host.divf (broadcastInDim S1048576x9 ![] bcast_S_S1048576x9 (constant S_ .f32 0x3F800000#32)) (addf (broadcastInDim S1048576x9 ![] bcast_S_S1048576x9 (constant S_ .f32 0x3F800000#32)) (Host.exp (Host.negf LOG)))) (broadcastInDim S1048576x9 ![0, 1] bcast_S1x9_S1048576x9_0_1 (broadcastInDim S1x9 ![1] bcast_S9_S1x9_1 (subf A8 A7)))) (broadcastInDim S1048576x9 ![0, 1] bcast_S1x9_S1048576x9_0_1 (broadcastInDim S1x9 ![1] bcast_S9_S1x9_1 A7))) shapeCasts_S1048576x9_S1024x1024x9
/-- The whole result. -/
def resV (A0 : FVec F S1024x1024x3 .f32) (A1 A2 : FVec F S3 .f32) (A3 : FVec F S16x524288x2 .f32) (A4 A5 : FVec F S32x32 .f32) (A6 : FVec F S32x9 .f32)
    (A7 A8 : FVec F S9 .f32) : FVec F S1024x1024x9 .f32 :=
  lastV A7 A8 (logV A4 A5 A6 (encV A3 (wtV (wselV (posV (unitV A0 A1 A2)))) (idxV (entryV (cornerV (posV (unitV A0 A1 A2)))))))

theorem res_eq (m : (ℓ : Loc nD τ sig) → Buf (Elt F) ℓ) (c : Dev nD) :
    Value.res_main_v110 m c = resV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  sl_kernel_rfl

end Cert.ReferenceIdeal.Hand
-- ==== Proof.RefRead.lean ====
module

public import proofs.«01_k».proof.Proof.Ref

@[expose] public section

set_option maxRecDepth 16384
set_option maxHeartbeats 4000000

noncomputable section

/-
  The reference's stages read at a point over the extended reals.
-/
namespace Cert.ReferenceIdeal.Hand

open Cert.ReferenceIdeal Cert.ReferenceIdeal.Gen Idealize.ShloMosaic Idealize.ShloMosaic.TcCoe Idealize.ShloMosaic.Tactic Idealize.SL.Sem Idealize.ShloMosaic.StableHlo
open Tex

/-! ## The literal tables -/

theorem lit_word (l : Fin 16) : lit0 (S16.rowMajor (ix1 l)) = (lvl l).word := by revert l; decide
theorem lit_last (l : Fin 16) : lit2 (S16.rowMajor (ix1 l)) = (lvl l).res - 1#32 := by revert l; decide
theorem lit_res (l : Fin 16) : lit3 (S16.rowMajor (ix1 l)) = (lvl l).res := by revert l; decide
theorem lit_dense (l : Fin 16) : lit4 (S16.rowMajor (ix1 l)) = BitVec.ofBool (lvl l).dense := by revert l; decide

/-- Whether corner `k` is the far one along axis `d`. -/
def far (k : Fin 8) (d : Fin 3) : Bool := (![bx k, bY k, bz k] : Fin 3 → Bool) d

theorem lit_step (k : Fin 8) (d : Fin 3) : lit1 (S8x3.rowMajor (ix2 k d)) = step1 (far k d) := by revert k d; decide

/-! ## The stages -/

theorem unitV_apply (A0 : FVec Ideal S1024x1024x3 .f32) (A1 A2 : FVec Ideal S3 .f32) (n : Fin 1048576) (d : Fin 3) :
    unitV A0 A1 A2 (ix2 n d) = unitE (A0 (ix3 ⟨n.val / 1024, by omega⟩ ⟨n.val % 1024, by omega⟩ d)) (A1 (ix1 d)) (A2 (ix1 d)) := by
  unfold unitV unitE
  pointwise

theorem posV_apply (U : FVec Ideal S1048576x3 .f32) (n : Fin 1048576) (l : Fin 16) (d : Fin 3) :
    posV U (ix3 n l d) = posE l (U (ix2 n d)) := by
  unfold posV posE
  pointwise
  rw [lit_word]

theorem wselV_apply (U : FVec Ideal S1048576x3 .f32) (n : Fin 1048576) (l : Fin 16) (k : Fin 8) (d : Fin 3) :
    wselV (posV U) (ix4 n l k d) = wgtE l (U (ix2 n d)) (far k d) := by
  unfold wselV
  pointwise
  rw [lit_step, posV_apply]
  cases far k d <;> rfl

theorem wtV_apply (W : FVec Ideal S1048576x16x8x3 .f32) (n : Fin 1048576) (l : Fin 16) (k : Fin 8) :
    wtV W (ix3 n l k) = W (ix4 n l k 0) * W (ix4 n l k 1) * W (ix4 n l k 2) := by
  unfold wtV
  pointwise

theorem cornerV_apply (U : FVec Ideal S1048576x3 .f32) (n : Fin 1048576) (l : Fin 16) (k : Fin 8) (d : Fin 3) :
    cornerV (posV U) (ix4 n l k d) = clip1 (lvl l).res (cellE l (U (ix2 n d)) + step1 (far k d)) := by
  unfold cornerV
  pointwise
  rw [lit_step, lit_last, posV_apply]
  rfl

theorem entryV_apply (C : IVec S1048576x16x8x3 32) (n : Fin 1048576) (l : Fin 16) (k : Fin 8) :
    entryV C (ix3 n l k) = entry1 l (C (ix4 n l k 0)) (C (ix4 n l k 1)) (C (ix4 n l k 2)) := by
  unfold entryV
  pointwise
  rw [lit_dense, lit_res]
  unfold entry1
  cases (lvl l).dense <;> rfl

theorem idxV_apply0 (C : IVec S1048576x16x8 32) (n : Fin 1048576) (l : Fin 16) (k : Fin 8) :
    idxV C (ix4 n l k 0) = BitVec.ofNat 32 l.val := by
  unfold idxV
  pointwise
  revert l
  decide

theorem idxV_apply1 (C : IVec S1048576x16x8 32) (n : Fin 1048576) (l : Fin 16) (k : Fin 8) (h : (C (ix3 n l k)).toNat < 524288) :
    idxV C (ix4 n l k 1) = C (ix3 n l k) := by
  unfold idxV
  pointwise
  generalize C (ix3 n l k) = w at h ⊢
  have hs : w.slt 0#32 = false := by
    rw [BitVec.slt_eq_decide, decide_eq_false_iff_not, BitVec.toInt_eq_toNat_cond]
    simp
    omega
  unfold IntOp.cmpi Scalar.select
  simp [hs]

/-- The gather's dimension numbers. -/
abbrev gd := gather_S16x524288x2_S1048576x16x8x2_S1048576x16x8x2_3_01_n_n_01_3_112

/-- The part of the gather's index an axis takes from the index array. -/
theorem gather_start (I : IVec S1048576x16x8x2 32) (n : Fin 1048576) (l : Fin 16) (k : Fin 8) (f : Fin 2) (a : Fin 3) (b : Fin 2) (hab : a.val = b.val) :
    GatherDims.start gd (ix4 n l k f) I a + GatherDims.batchCoord gd (ix4 n l k f) a + GatherDims.offCoord gd (ix4 n l k f) a
      = min (I (ix4 n l k b)).toInt.toNat (S16x524288x2.size a - 1) := by
  have hsz : (gd).sliceSizes a = 1 := by
    show (![1, 1, 2] : Fin 3 → Nat) a = 1
    revert b; revert a; decide
  have ha : a ∈ ([0, 1] : List (Fin 3)) := by clear hsz; revert b; revert a; decide
  rw [GatherDims.batchCoord_eq_zero _ _ _ List.not_mem_nil,
    GatherDims.offCoord_eq_zero _ _ _ (fun h => ((GatherDims.mem_sKept _ _).mp h).1 ha)]
  simp only [Nat.add_zero]
  unfold GatherDims.start
  rw [dif_pos (show a ∈ (gd).startIndexMap from ha)]
  have hsi : GatherDims.siIdx gd (ix4 n l k f) ⟨List.idxOf a (gd).startIndexMap, List.idxOf_lt_length_iff.2 ha⟩ = ix4 n l k b := by
    funext q; refine Fin.ext ?_
    match q with
    | ⟨0, _⟩ => rfl
    | ⟨1, _⟩ => rfl
    | ⟨2, _⟩ => rfl
    | ⟨3, _⟩ =>
      show List.idxOf a ([0, 1] : List (Fin 3)) = b.val
      clear ha hsz; revert b; revert a; decide
  rw [hsi]
  rw [hsz]

/-- A word below 2³¹ read signed is the word. -/
theorem toInt_small (w : BitVec 32) (h : w.toNat < 2 ^ 31) : w.toInt.toNat = w.toNat := by
  rw [BitVec.toInt_eq_toNat_cond]
  split_ifs <;> omega

/-- The gather reads the entry its two indices name. -/
theorem gather_apply (A3 : FVec Ideal S16x524288x2 .f32) (I : IVec S1048576x16x8x2 32) (n : Fin 1048576) (l : Fin 16) (k : Fin 8) (f : Fin 2)
    (e : Fin 524288) (h0 : I (ix4 n l k 0) = BitVec.ofNat 32 l.val) (h1 : (I (ix4 n l k 1)).toNat = e.val) :
    Host.gather gd A3 I (ix4 n l k f) = A3 (ix3 l e f) := by
  unfold Host.gather
  refine congrArg A3 ?_
  funext a
  apply Fin.ext
  show GatherDims.start gd (ix4 n l k f) I a + GatherDims.batchCoord gd (ix4 n l k f) a + GatherDims.offCoord gd (ix4 n l k f) a = _
  match a with
  | ⟨0, _⟩ =>
    refine (gather_start I n l k f 0 0 rfl).trans ?_
    rw [h0, toInt_small _ (by rw [BitVec.toNat_ofNat]; omega), BitVec.toNat_ofNat]
    show min (l.val % 2 ^ 32) (16 - 1) = l.val
    omega
  | ⟨1, _⟩ =>
    refine (gather_start I n l k f 1 1 rfl).trans ?_
    rw [toInt_small _ (by omega), h1]
    show min e.val (524288 - 1) = e.val
    omega
  | ⟨2, _⟩ =>
    rw [GatherDims.batchCoord_eq_zero _ _ _ List.not_mem_nil]
    unfold GatherDims.start
    rw [dif_neg (show ¬ (⟨2, by decide⟩ : Fin 3) ∈ (gd).startIndexMap by decide)]
    show 0 + 0 + f.val = f.val
    omega

theorem encV_apply (A3 : FVec Ideal S16x524288x2 .f32) (U : FVec Ideal S1048576x3 .f32) (n : Fin 1048576) (r : Fin 32) :
    encV A3 (wtV (wselV (posV U))) (idxV (entryV (cornerV (posV U)))) (ix2 n r)
      = featE A3 (U (ix2 n 0)) (U (ix2 n 1)) (U (ix2 n 2)) ⟨r.val / 2, by omega⟩ ⟨r.val % 2, by omega⟩ := by
  have he : ∀ (l : Fin 16) (k : Fin 8), entryV (cornerV (posV U)) (ix3 n l k) = entE l k (U (ix2 n 0)) (U (ix2 n 1)) (U (ix2 n 2)) := by
    intro l k
    rw [entryV_apply, cornerV_apply, cornerV_apply, cornerV_apply]
    rfl
  unfold encV featE
  pointwise
  refine Finset.sum_congr rfl fun k _ => ?_
  rw [wtV_apply, wselV_apply, wselV_apply, wselV_apply,
    gather_apply A3 _ n _ k _ ⟨(entE _ k (U (ix2 n 0)) (U (ix2 n 1)) (U (ix2 n 2))).toNat, entE_lt _ _ _ _ _⟩ (idxV_apply0 _ _ _ _)
      (by rw [idxV_apply1 _ _ _ _ (by rw [he]; exact entE_lt _ _ _ _ _), he])]
  rfl

theorem logV_apply (A4 A5 : FVec Ideal S32x32 .f32) (A6 : FVec Ideal S32x9 .f32) (ENC : FVec Ideal S1048576x32 .f32) (n : Fin 1048576) (j : Fin 9)
    (φ : Fin 16 → Fin 2 → EReal) (h : ∀ r : Fin 32, ENC (ix2 n r) = φ ⟨r.val / 2, by omega⟩ ⟨r.val % 2, by omega⟩) :
    logV A4 A5 A6 ENC (ix2 n j) = ∑ r : Fin 32, hid2E A5 (hid1E A4 φ) r * A6 (ix2 r j) := by
  unfold logV
  pointwise
  refine Finset.sum_congr rfl fun k _ => ?_
  unfold hid2E
  congr 2
  refine Finset.sum_congr rfl fun k' _ => ?_
  unfold hid1E
  congr 2
  rw [sum_pairs (n := 16) rfl]
  refine Finset.sum_congr rfl fun l _ => Finset.sum_congr rfl fun f _ => ?_
  rw [h]
  refine congrArg (· * A4 (ix2 (chan l f) k')) (congrArg₂ φ (Fin.ext ?_) (Fin.ext ?_))
  · show (2 * l.val + f.val) / 2 = l.val
    omega
  · show (2 * l.val + f.val) % 2 = f.val
    omega

theorem lastV_apply (A7 A8 : FVec Ideal S9 .f32) (L : FVec Ideal S1048576x9 .f32) (a b : Fin 1024) (j : Fin 9) :
    lastV A7 A8 L (ix3 a b j) = Ideal.logistic (L (ix2 ⟨a.val * 1024 + b.val, by omega⟩ j)) * (A8 (ix1 j) - A7 (ix1 j)) + A7 (ix1 j) := by
  unfold lastV
  pointwise
  rfl

/-- The reference's result at a point. -/
theorem resV_apply (A0 : FVec Ideal S1024x1024x3 .f32) (A1 A2 : FVec Ideal S3 .f32) (A3 : FVec Ideal S16x524288x2 .f32) (A4 A5 : FVec Ideal S32x32 .f32)
    (A6 : FVec Ideal S32x9 .f32) (A7 A8 : FVec Ideal S9 .f32) (a b : Fin 1024) (j : Fin 9) :
    resV A0 A1 A2 A3 A4 A5 A6 A7 A8 (ix3 a b j)
      = outE A3 A4 A5 A6 A7 A8 (unitE (A0 (ix3 a b 0)) (A1 (ix1 0)) (A2 (ix1 0))) (unitE (A0 (ix3 a b 1)) (A1 (ix1 1)) (A2 (ix1 1)))
          (unitE (A0 (ix3 a b 2)) (A1 (ix1 2)) (A2 (ix1 2))) j := by
  have hu : ∀ d : Fin 3, unitV A0 A1 A2 (ix2 ⟨a.val * 1024 + b.val, by omega⟩ d) = unitE (A0 (ix3 a b d)) (A1 (ix1 d)) (A2 (ix1 d)) := by
    intro d
    rw [unitV_apply]
    congr 2
    refine congrArg₂ (fun x y => ix3 x y d) (Fin.ext ?_) (Fin.ext ?_)
    · show (a.val * 1024 + b.val) / 1024 = a.val; omega
    · show (a.val * 1024 + b.val) % 1024 = b.val; omega
  unfold resV
  rw [lastV_apply, logV_apply A4 A5 A6 _ _ _ _ (fun r => encV_apply A3 _ _ r), hu, hu, hu]
  rfl

end Cert.ReferenceIdeal.Hand
-- ==== Proof.Pre.lean ====
module

public import proofs.«01_k».proof.Defs
public import proofs.«01_k».proof.Proof.Gen.Pre_finite_tables
public import proofs.«01_k».proof.Proof.Final
public import proofs.«01_k».proof.Proof.RefRead
public import Idealize.ShloMosaic.Lib.ReduceAll

@[expose] public section

set_option maxRecDepth 16384
set_option maxHeartbeats 4000000

noncomputable section

/-
  The precondition read: no entry of the tables or of the first layer's weights is infinite.
-/
namespace Cert.Proof

open Tex (IsRe)
open Idealize.ShloMosaic Idealize.ShloMosaic.TcCoe Idealize.SL.Sem

/-- The word the precondition compares with is the infinite one. -/
theorem inf_word : Ideal.ofBits .f32 0x7F800000#32 = (⊤ : EReal) := by
  unfold Ideal.ofBits Ideal.ieee
  simp

/-- An absolute value below the infinite one is that of a real. -/
theorem isRe_of_lt {x : EReal} (h : Ideal.cmp .olt (max x (-x)) (Ideal.ofBits .f32 0x7F800000#32) = 1#1) : IsRe x := by
  rw [inf_word] at h
  have hlt : max x (-x) < ⊤ := by
    by_contra hn
    simp [Ideal.cmp, hn] at h
  refine IsRe.of_ne ?_ ?_
  · rintro rfl
    simp at hlt
  · rintro rfl
    simp at hlt

/-- Both words of a conjunction of flags are set. -/
theorem and_flags : ∀ {a b : BitVec 1}, IntOp.andi a b = 1#1 → a = 1#1 ∧ b = 1#1 := by decide

/-- A conjunction over a whole array of "is below infinity" is set: every entry is a real. -/
theorem isRe_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .f32 0x7F800000#32))) (constantI ⟨0, ![]⟩ 1 1#1) hr hu j = 1#1)
    (i : s.Idx) : IsRe (x i) := by
  haveI : Subsingleton (⟨0, ![]⟩ : Shape).Idx := ⟨fun a b => funext fun k => k.elim0⟩
  exact isRe_of_lt (Host.reduce_andi_all _ _ hr hu j h i)

theorem fin_of_pre {m : (ℓ : Loc Cert.KernelIdeal.nD Cert.KernelIdeal.τ Cert.KernelIdeal.sig) → Buf (Elt Ideal) ℓ} (h : Cert.Pre_KernelIdeal_finite_tables m)
    (c : Dev Cert.KernelIdeal.nD) : Cert.KernelIdeal.Hand.Fin₀ m c := by
  have h := and_flags (congrFun (h c) fun k => k.elim0)
  exact ⟨isRe_of_all _ _ _ _ _ h.1, isRe_of_all _ _ _ _ _ h.2⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_tables
public import proofs.«01_k».proof.Proof.FrameI
public import proofs.«01_k».proof.Proof.FrameK
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference runs and leaves its arguments; it declares no semaphore. -/
theorem frame_ref : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The same under the precondition. -/
theorem frame_ref_pre : Cert.quiescent_ReferenceIdeal_pre_finite_tables := fun m g _ => frame_ref m g trivial

/-- The reference's result is the kernel's, where the arguments are the same and the precondition holds. -/
theorem value_eq {m : (ℓ : Loc Cert.KernelIdeal.nD Cert.KernelIdeal.τ Cert.KernelIdeal.sig) → Buf (Elt Ideal) ℓ} (h : Cert.Pre_KernelIdeal_finite_tables m) (c : Dev Cert.KernelIdeal.nD) :
    Cert.ReferenceIdeal.Hand.resV (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      = (show FVec Ideal Cert.ReferenceIdeal.S1024x1024x9 .f32 from Cert.KernelIdeal.Hand.endV (F := Ideal) m c Cert.KernelIdeal.main_v157) := by
  funext i
  obtain ⟨a, b, j, rfl⟩ : ∃ (a b : Fin 1024) (j : Fin 9), i = (ix3 a b j : Cert.KernelIdeal.S1024x1024x9.Idx) := ⟨i 0, i 1, i 2, (ix3_eta i).symm⟩
  rw [Cert.ReferenceIdeal.Hand.resV_apply]
  refine Eq.trans ?_ (Cert.KernelIdeal.Hand.end_apply (fin_of_pre h c) a b j).symm
  have e0 : (⟨(1024 * a.val + b.val) / 1024, by omega⟩ : Fin 1024) = a := Fin.ext (by show (1024 * a.val + b.val) / 1024 = a.val; omega)
  have e1 : (⟨(1024 * a.val + b.val) % 1024, by omega⟩ : Fin 1024) = b := Fin.ext (by show (1024 * a.val + b.val) % 1024 = b.val; omega)
  unfold Cert.KernelIdeal.Hand.ptA Cert.KernelIdeal.Hand.uniA
  rw [e0, e1]

/-- The kernel computes the reference's function over the extended reals. -/
theorem value : Cert.algebraic_KernelIdeal_ReferenceIdeal_pre_finite_tables := fun m g m' g' hpre hargs =>
  ⟨fun c => Cert.KernelIdeal.Hand.endV (F := Ideal) m c Cert.KernelIdeal.main_v157, Cert.KernelIdeal.Hand.run m g,
    (θ_run Cert.ReferenceIdeal.defs _ _).mono (fun r h c => ⟨(h c).1.trans ((Cert.ReferenceIdeal.Hand.res_eq m' c).trans (by
      obtain ⟨h0, h1, h2, h3, h4, h5, h6, h7, h8⟩ := hargs c
      rw [h0, h1, h2, h3, h4, h5, h6, h7, h8]
      exact value_eq hpre c)), (h c).2⟩) (Cert.ReferenceIdeal.Value.run (F := Ideal) m' g')⟩

theorem claim : Cert.Claim := ⟨Cert.Kernel.Gen.facts, Cert.KernelIdeal.Gen.facts, Cert.ReferenceIdeal.Gen.facts, Cert.Pre_finite_tables.Gen.facts,
  fun m g _ => Cert.Kernel.Hand.frame m g, fun m g _ => Cert.KernelIdeal.Hand.frame m g, fun m g _ => Cert.KernelIdeal.Hand.frame m g,
  frame_ref, frame_ref_pre, trivial, value⟩

end Cert.Proof

end
